-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x1024 .f32) (main_arg2 : FVec F S1x2048x64x128 .f32) (main_arg3 : FVec F S1x2048x64x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S2048x1024 : Shape := ⟨2, ![2048, 1024]⟩
abbrev S2048x8x128 : Shape := ⟨3, ![2048, 8, 128]⟩
abbrev S384x1024 : Shape := ⟨2, ![384, 1024]⟩
abbrev S192x1024 : Shape := ⟨2, ![192, 1024]⟩
abbrev S96x1024 : Shape := ⟨2, ![96, 1024]⟩
abbrev S256x1024 : Shape := ⟨2, ![256, 1024]⟩
abbrev S128x1024 : Shape := ⟨2, ![128, 1024]⟩
abbrev S64x1024 : Shape := ⟨2, ![64, 1024]⟩
abbrev S3x3 : Shape := ⟨2, ![3, 3]⟩
abbrev S_ : Shape := ⟨0, ![]⟩
abbrev S1x2048x8x128 : Shape := ⟨4, ![1, 2048, 8, 128]⟩
abbrev S1x64x1024 : Shape := ⟨3, ![1, 64, 1024]⟩
abbrev S64x8x128 : Shape := ⟨3, ![64, 8, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S768x1024 : Shape := ⟨2, ![768, 1024]⟩
abbrev S1x1 : Shape := ⟨2, ![1, 1]⟩
abbrev S512x1024 : Shape := ⟨2, ![512, 1024]⟩

abbrev nBuf : Space → Nat
  | .hbm => 6
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x64x128, .f32⟩
  | .hbm, ⟨3, _⟩ => ⟨S1x2048x64x128, .f32⟩
  | .hbm, ⟨4, _⟩ => ⟨S1024x1024, .f32⟩
  | .hbm, ⟨5, _⟩ => ⟨S2048x1024, .bf16⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x8x128, .f32⟩
  | .local _ .vmem, ⟨9, _⟩ => ⟨S384x1024, .bf16⟩
  | .local _ .vmem, ⟨10, _⟩ => ⟨S192x1024, .bf16⟩
  | .local _ .vmem, ⟨11, _⟩ => ⟨S96x1024, .bf16⟩
  | .local _ .vmem, ⟨12, _⟩ => ⟨S384x1024, .bf16⟩
  | .local _ .vmem, ⟨13, _⟩ => ⟨S192x1024, .bf16⟩
  | .local _ .vmem, ⟨14, _⟩ => ⟨S96x1024, .bf16⟩
  | .local _ .vmem, ⟨15, _⟩ => ⟨S256x1024, .bf16⟩
  | .local _ .vmem, ⟨16, _⟩ => ⟨S128x1024, .bf16⟩
  | .local _ .vmem, ⟨17, _⟩ => ⟨S64x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 4 → Nat :=
  let c0_i32_11 : BitVec 32 := 0#32
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.muli v2 c8_i32_10
  let c0_i32_13 : BitVec 32 := 0#32
  ![0, 0, v13.toNat, 0]
@[reducible] def k0_t1_loop : Scf.Loop 32 :=
  let c0_i32_478 : BitVec 32 := 0#32
  let c32_i32 : BitVec 32 := 32#32
  let v608 : BitVec 32 := Scalar.addi c0_i32_478 c32_i32
  let c1_i32_479 : BitVec 32 := 1#32
  ⟨c0_i32_478, v608, c1_i32_479⟩
def k0_off2 (k0_t1 : Fin k0_t1_loop.trips) : Fin 2 → Nat :=
  let c0_i32_478 : BitVec 32 := 0#32
  let c1_i32_479 : BitVec 32 := 1#32
  let arg26 : BitVec 32 := Scf.iv c0_i32_478 c1_i32_479 k0_t1
  let c0_i32_1223 : BitVec 32 := 0#32
  let v1495 : BitVec 1 := Scalar.cmpi .sgt arg26 c0_i32_1223
  let v1496 : BitVec 32 := Scalar.extui v1495
  let c0_i32_1224 : BitVec 32 := 0#32
  let v1497 : BitVec 1 := Scalar.cmpi .slt arg26 c0_i32_1224
  let v1498 : BitVec 32 := Scalar.extui v1497
  let v1499 : BitVec 32 := Scalar.subi v1496 v1498
  let c8_i32_1222 : BitVec 32 := 8#32
  let c0_i32_1225 : BitVec 32 := 0#32
  let v1500 : BitVec 1 := Scalar.cmpi .sgt c8_i32_1222 c0_i32_1225
  let v1501 : BitVec 32 := Scalar.extui v1500
  let c0_i32_1226 : BitVec 32 := 0#32
  let v1502 : BitVec 1 := Scalar.cmpi .slt c8_i32_1222 c0_i32_1226
  let v1503 : BitVec 32 := Scalar.extui v1502
  let v1504 : BitVec 32 := Scalar.subi v1501 v1503
  let v1505 : BitVec 1 := Scalar.cmpi .ne v1499 v1504
  let v1506 : BitVec 32 := Scalar.remsi arg26 c8_i32_1222
  let c0_i32_1227 : BitVec 32 := 0#32
  let v1507 : BitVec 1 := Scalar.cmpi .ne v1506 c0_i32_1227
  let v1508 : BitVec 1 := Scalar.andi v1505 v1507
  let v1494 : BitVec 32 := Scalar.divsi arg26 c8_i32_1222
  let c1_i32_1228 : BitVec 32 := 1#32
  let v1509 : BitVec 32 := Scalar.subi v1494 c1_i32_1228
  let v1510 : BitVec 32 := Scalar.select v1508 v1509 v1494
  let c512_i32 : BitVec 32 := 512#32
  let v1512 : BitVec 32 := Scalar.muli v1510 c512_i32
  let v1514 : Index := Scalar.indexCast v1512
  let c8_i32_1229 : BitVec 32 := 8#32
  let v1511 : BitVec 32 := Scalar.remsi arg26 c8_i32_1229
  let c128_i32_1230 : BitVec 32 := 128#32
  let v1513 : BitVec 32 := Scalar.muli v1511 c128_i32_1230
  let v1515 : Index := Scalar.indexCast v1513
  ![v1514.toNat, v1515.toNat]
def k0_off3 (d0 : Dev nD) : Fin 2 → Nat :=
  let c0_i32_546 : BitVec 32 := 0#32
  let c1_i32_545 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let v685 : BitVec 32 := Scalar.subi c1_i32_545 v684
  let c384_i32 : BitVec 32 := 384#32
  let v686 : BitVec 32 := Scalar.muli v685 c384_i32
  let v687 : BitVec 32 := Scalar.addi c0_i32_546 v686
  let c0_i32_554 : BitVec 32 := 0#32
  ![v687.toNat, 0]
def k0_dev4 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_547 : BitVec 32 := 1#32
  let v688 : BitVec 32 := Scalar.xori v2 c1_i32_547
  let c1_i32_552 : BitVec 32 := 1#32
  let v689 : BitVec 32 := Scalar.muli v688 c1_i32_552
  let v690 : BitVec 32 := Scalar.addi c0_i32_553 v689
  v690.toNat
def k0_off4 (d0 : Dev nD) : Fin 2 → Nat :=
  let c768_i32 : BitVec 32 := 768#32
  let c1_i32_616 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let v766 : BitVec 32 := Scalar.subi c1_i32_616 v765
  let c384_i32_617 : BitVec 32 := 384#32
  let v767 : BitVec 32 := Scalar.muli v766 c384_i32_617
  let v768 : BitVec 32 := Scalar.addi c768_i32 v767
  let c0_i32_625 : BitVec 32 := 0#32
  ![v768.toNat, 0]
def k0_dev5 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_618 : BitVec 32 := 3#32
  let v769 : BitVec 32 := Scalar.xori v2 c3_i32_618
  let c1_i32_623 : BitVec 32 := 1#32
  let v770 : BitVec 32 := Scalar.muli v769 c1_i32_623
  let v771 : BitVec 32 := Scalar.addi c0_i32_624 v770
  v771.toNat
def k0_off5 (d0 : Dev nD) : Fin 2 → Nat :=
  let c1536_i32 : BitVec 32 := 1536#32
  let c1_i32_670 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let v830 : BitVec 32 := Scalar.subi c1_i32_670 v829
  let c256_i32 : BitVec 32 := 256#32
  let v831 : BitVec 32 := Scalar.muli v830 c256_i32
  let v832 : BitVec 32 := Scalar.addi c1536_i32 v831
  let c0_i32_678 : BitVec 32 := 0#32
  ![v832.toNat, 0]
def k0_dev6 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_671 : BitVec 32 := 4#32
  let v833 : BitVec 32 := Scalar.xori v2 c4_i32_671
  let c1_i32_676 : BitVec 32 := 1#32
  let v834 : BitVec 32 := Scalar.muli v833 c1_i32_676
  let v835 : BitVec 32 := Scalar.addi c0_i32_677 v834
  v835.toNat
def k0_off6 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let v851 : Index := Scalar.indexCast v850
  let c0_694 : Index := 0#32
  ![v851.toNat, 0]
def k0_off7 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let v871 : Index := Scalar.indexCast v870
  let c0_713 : Index := 0#32
  ![v871.toNat, 0]
def k0_off8 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let v891 : Index := Scalar.indexCast v890
  let c0_732 : Index := 0#32
  ![v891.toNat, 0]
def k0_off9 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c1_i32_745 : BitVec 32 := 1#32
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let v920 : BitVec 32 := Scalar.subi c1_i32_745 v918
  let c192_i32 : BitVec 32 := 192#32
  let v921 : BitVec 32 := Scalar.muli v920 c192_i32
  let v922 : BitVec 32 := Scalar.addi v850 v921
  let c0_i32_752 : BitVec 32 := 0#32
  ![v922.toNat, 0]
def k0_dev7 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_744 : BitVec 32 := 3#32
  let v919 : BitVec 32 := Scalar.xori v2 c3_i32_744
  let c1_i32_750 : BitVec 32 := 1#32
  let v923 : BitVec 32 := Scalar.muli v919 c1_i32_750
  let v924 : BitVec 32 := Scalar.addi c0_i32_751 v923
  v924.toNat
def k0_off10 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c1_i32_761 : BitVec 32 := 1#32
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let v948 : BitVec 32 := Scalar.subi c1_i32_761 v946
  let c192_i32_762 : BitVec 32 := 192#32
  let v949 : BitVec 32 := Scalar.muli v948 c192_i32_762
  let v950 : BitVec 32 := Scalar.addi v870 v949
  let c0_i32_769 : BitVec 32 := 0#32
  ![v950.toNat, 0]
def k0_dev8 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_760 : BitVec 32 := 4#32
  let v947 : BitVec 32 := Scalar.xori v2 c4_i32_760
  let c1_i32_767 : BitVec 32 := 1#32
  let v951 : BitVec 32 := Scalar.muli v947 c1_i32_767
  let v952 : BitVec 32 := Scalar.addi c0_i32_768 v951
  v952.toNat
def k0_off11 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c1_i32_781 : BitVec 32 := 1#32
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let v980 : BitVec 32 := Scalar.subi c1_i32_781 v978
  let c128_i32 : BitVec 32 := 128#32
  let v981 : BitVec 32 := Scalar.muli v980 c128_i32
  let v982 : BitVec 32 := Scalar.addi v890 v981
  let c0_i32_788 : BitVec 32 := 0#32
  ![v982.toNat, 0]
def k0_dev9 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_780 : BitVec 32 := 1#32
  let v979 : BitVec 32 := Scalar.xori v2 c1_i32_780
  let c1_i32_786 : BitVec 32 := 1#32
  let v983 : BitVec 32 := Scalar.muli v979 c1_i32_786
  let v984 : BitVec 32 := Scalar.addi c0_i32_787 v983
  v984.toNat
def k0_off12 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let v1000 : Index := Scalar.indexCast v999
  let c0_803 : Index := 0#32
  ![v1000.toNat, 0]
def k0_off13 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let v1020 : Index := Scalar.indexCast v1019
  let c0_821 : Index := 0#32
  ![v1020.toNat, 0]
def k0_off14 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let v1040 : Index := Scalar.indexCast v1039
  let c0_839 : Index := 0#32
  ![v1040.toNat, 0]
def k0_off15 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let c1_i32_851 : BitVec 32 := 1#32
  let c0_i32_844 : BitVec 32 := 0#32
  let v1051 : BitVec 1 := Scalar.cmpi .sgt v2 c0_i32_844
  let v1052 : BitVec 32 := Scalar.extui v1051
  let c0_i32_845 : BitVec 32 := 0#32
  let v1053 : BitVec 1 := Scalar.cmpi .slt v2 c0_i32_845
  let v1054 : BitVec 32 := Scalar.extui v1053
  let v1055 : BitVec 32 := Scalar.subi v1052 v1054
  let c4_i32_843 : BitVec 32 := 4#32
  let c0_i32_846 : BitVec 32 := 0#32
  let v1056 : BitVec 1 := Scalar.cmpi .sgt c4_i32_843 c0_i32_846
  let v1057 : BitVec 32 := Scalar.extui v1056
  let c0_i32_847 : BitVec 32 := 0#32
  let v1058 : BitVec 1 := Scalar.cmpi .slt c4_i32_843 c0_i32_847
  let v1059 : BitVec 32 := Scalar.extui v1058
  let v1060 : BitVec 32 := Scalar.subi v1057 v1059
  let v1061 : BitVec 1 := Scalar.cmpi .ne v1055 v1060
  let v1062 : BitVec 32 := Scalar.remsi v2 c4_i32_843
  let c0_i32_848 : BitVec 32 := 0#32
  let v1063 : BitVec 1 := Scalar.cmpi .ne v1062 c0_i32_848
  let v1064 : BitVec 1 := Scalar.andi v1061 v1063
  let v1050 : BitVec 32 := Scalar.divsi v2 c4_i32_843
  let c1_i32_849 : BitVec 32 := 1#32
  let v1065 : BitVec 32 := Scalar.subi v1050 c1_i32_849
  let v1066 : BitVec 32 := Scalar.select v1064 v1065 v1050
  let v1068 : BitVec 32 := Scalar.subi c1_i32_851 v1066
  let c96_i32 : BitVec 32 := 96#32
  let v1069 : BitVec 32 := Scalar.muli v1068 c96_i32
  let v1070 : BitVec 32 := Scalar.addi v999 v1069
  let c0_i32_858 : BitVec 32 := 0#32
  ![v1070.toNat, 0]
def k0_dev10 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_850 : BitVec 32 := 4#32
  let v1067 : BitVec 32 := Scalar.xori v2 c4_i32_850
  let c1_i32_856 : BitVec 32 := 1#32
  let v1071 : BitVec 32 := Scalar.muli v1067 c1_i32_856
  let v1072 : BitVec 32 := Scalar.addi c0_i32_857 v1071
  v1072.toNat
def k0_off16 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let c1_i32_870 : BitVec 32 := 1#32
  let c2_i32_859 : BitVec 32 := 2#32
  let v1078 : BitVec 32 := Scalar.remsi v2 c2_i32_859
  let c0_i32_861 : BitVec 32 := 0#32
  let v1080 : BitVec 1 := Scalar.cmpi .sgt v2 c0_i32_861
  let v1081 : BitVec 32 := Scalar.extui v1080
  let c0_i32_862 : BitVec 32 := 0#32
  let v1082 : BitVec 1 := Scalar.cmpi .slt v2 c0_i32_862
  let v1083 : BitVec 32 := Scalar.extui v1082
  let v1084 : BitVec 32 := Scalar.subi v1081 v1083
  let c2_i32_860 : BitVec 32 := 2#32
  let c0_i32_863 : BitVec 32 := 0#32
  let v1085 : BitVec 1 := Scalar.cmpi .sgt c2_i32_860 c0_i32_863
  let v1086 : BitVec 32 := Scalar.extui v1085
  let c0_i32_864 : BitVec 32 := 0#32
  let v1087 : BitVec 1 := Scalar.cmpi .slt c2_i32_860 c0_i32_864
  let v1088 : BitVec 32 := Scalar.extui v1087
  let v1089 : BitVec 32 := Scalar.subi v1086 v1088
  let v1090 : BitVec 1 := Scalar.cmpi .ne v1084 v1089
  let v1091 : BitVec 32 := Scalar.remsi v2 c2_i32_860
  let c0_i32_865 : BitVec 32 := 0#32
  let v1092 : BitVec 1 := Scalar.cmpi .ne v1091 c0_i32_865
  let v1093 : BitVec 1 := Scalar.andi v1090 v1092
  let v1079 : BitVec 32 := Scalar.divsi v2 c2_i32_860
  let c1_i32_866 : BitVec 32 := 1#32
  let v1094 : BitVec 32 := Scalar.subi v1079 c1_i32_866
  let v1095 : BitVec 32 := Scalar.select v1093 v1094 v1079
  let c2_i32_867 : BitVec 32 := 2#32
  let v1096 : BitVec 32 := Scalar.remsi v1095 c2_i32_867
  let v1097 : BitVec 32 := Scalar.addi v1078 v1096
  let c2_i32_868 : BitVec 32 := 2#32
  let v1098 : BitVec 32 := Scalar.remsi v1097 c2_i32_868
  let v1100 : BitVec 32 := Scalar.subi c1_i32_870 v1098
  let c96_i32_871 : BitVec 32 := 96#32
  let v1101 : BitVec 32 := Scalar.muli v1100 c96_i32_871
  let v1102 : BitVec 32 := Scalar.addi v1019 v1101
  let c0_i32_878 : BitVec 32 := 0#32
  ![v1102.toNat, 0]
def k0_dev11 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_869 : BitVec 32 := 1#32
  let v1099 : BitVec 32 := Scalar.xori v2 c1_i32_869
  let c1_i32_876 : BitVec 32 := 1#32
  let v1103 : BitVec 32 := Scalar.muli v1099 c1_i32_876
  let v1104 : BitVec 32 := Scalar.addi c0_i32_877 v1103
  v1104.toNat
def k0_off17 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let c1_i32_888 : BitVec 32 := 1#32
  let c0_i32_880 : BitVec 32 := 0#32
  let v1111 : BitVec 1 := Scalar.cmpi .sgt v2 c0_i32_880
  let v1112 : BitVec 32 := Scalar.extui v1111
  let c0_i32_881 : BitVec 32 := 0#32
  let v1113 : BitVec 1 := Scalar.cmpi .slt v2 c0_i32_881
  let v1114 : BitVec 32 := Scalar.extui v1113
  let v1115 : BitVec 32 := Scalar.subi v1112 v1114
  let c2_i32_879 : BitVec 32 := 2#32
  let c0_i32_882 : BitVec 32 := 0#32
  let v1116 : BitVec 1 := Scalar.cmpi .sgt c2_i32_879 c0_i32_882
  let v1117 : BitVec 32 := Scalar.extui v1116
  let c0_i32_883 : BitVec 32 := 0#32
  let v1118 : BitVec 1 := Scalar.cmpi .slt c2_i32_879 c0_i32_883
  let v1119 : BitVec 32 := Scalar.extui v1118
  let v1120 : BitVec 32 := Scalar.subi v1117 v1119
  let v1121 : BitVec 1 := Scalar.cmpi .ne v1115 v1120
  let v1122 : BitVec 32 := Scalar.remsi v2 c2_i32_879
  let c0_i32_884 : BitVec 32 := 0#32
  let v1123 : BitVec 1 := Scalar.cmpi .ne v1122 c0_i32_884
  let v1124 : BitVec 1 := Scalar.andi v1121 v1123
  let v1110 : BitVec 32 := Scalar.divsi v2 c2_i32_879
  let c1_i32_885 : BitVec 32 := 1#32
  let v1125 : BitVec 32 := Scalar.subi v1110 c1_i32_885
  let v1126 : BitVec 32 := Scalar.select v1124 v1125 v1110
  let c2_i32_886 : BitVec 32 := 2#32
  let v1127 : BitVec 32 := Scalar.remsi v1126 c2_i32_886
  let v1129 : BitVec 32 := Scalar.subi c1_i32_888 v1127
  let c64_i32 : BitVec 32 := 64#32
  let v1130 : BitVec 32 := Scalar.muli v1129 c64_i32
  let v1131 : BitVec 32 := Scalar.addi v1039 v1130
  let c0_i32_895 : BitVec 32 := 0#32
  ![v1131.toNat, 0]
def k0_dev12 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_887 : BitVec 32 := 3#32
  let v1128 : BitVec 32 := Scalar.xori v2 c3_i32_887
  let c1_i32_893 : BitVec 32 := 1#32
  let v1132 : BitVec 32 := Scalar.muli v1128 c1_i32_893
  let v1133 : BitVec 32 := Scalar.addi c0_i32_894 v1132
  v1133.toNat
def k0_off18 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let c0_i32_844 : BitVec 32 := 0#32
  let v1051 : BitVec 1 := Scalar.cmpi .sgt v2 c0_i32_844
  let v1052 : BitVec 32 := Scalar.extui v1051
  let c0_i32_845 : BitVec 32 := 0#32
  let v1053 : BitVec 1 := Scalar.cmpi .slt v2 c0_i32_845
  let v1054 : BitVec 32 := Scalar.extui v1053
  let v1055 : BitVec 32 := Scalar.subi v1052 v1054
  let c4_i32_843 : BitVec 32 := 4#32
  let c0_i32_846 : BitVec 32 := 0#32
  let v1056 : BitVec 1 := Scalar.cmpi .sgt c4_i32_843 c0_i32_846
  let v1057 : BitVec 32 := Scalar.extui v1056
  let c0_i32_847 : BitVec 32 := 0#32
  let v1058 : BitVec 1 := Scalar.cmpi .slt c4_i32_843 c0_i32_847
  let v1059 : BitVec 32 := Scalar.extui v1058
  let v1060 : BitVec 32 := Scalar.subi v1057 v1059
  let v1061 : BitVec 1 := Scalar.cmpi .ne v1055 v1060
  let v1062 : BitVec 32 := Scalar.remsi v2 c4_i32_843
  let c0_i32_848 : BitVec 32 := 0#32
  let v1063 : BitVec 1 := Scalar.cmpi .ne v1062 c0_i32_848
  let v1064 : BitVec 1 := Scalar.andi v1061 v1063
  let v1050 : BitVec 32 := Scalar.divsi v2 c4_i32_843
  let c1_i32_849 : BitVec 32 := 1#32
  let v1065 : BitVec 32 := Scalar.subi v1050 c1_i32_849
  let v1066 : BitVec 32 := Scalar.select v1064 v1065 v1050
  let c96_i32_909 : BitVec 32 := 96#32
  let v1147 : BitVec 32 := Scalar.muli v1066 c96_i32_909
  let v1148 : BitVec 32 := Scalar.addi v999 v1147
  let v1149 : Index := Scalar.indexCast v1148
  let c0_910 : Index := 0#32
  ![v1149.toNat, 0]
def k0_off19 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let c2_i32_859 : BitVec 32 := 2#32
  let v1078 : BitVec 32 := Scalar.remsi v2 c2_i32_859
  let c0_i32_861 : BitVec 32 := 0#32
  let v1080 : BitVec 1 := Scalar.cmpi .sgt v2 c0_i32_861
  let v1081 : BitVec 32 := Scalar.extui v1080
  let c0_i32_862 : BitVec 32 := 0#32
  let v1082 : BitVec 1 := Scalar.cmpi .slt v2 c0_i32_862
  let v1083 : BitVec 32 := Scalar.extui v1082
  let v1084 : BitVec 32 := Scalar.subi v1081 v1083
  let c2_i32_860 : BitVec 32 := 2#32
  let c0_i32_863 : BitVec 32 := 0#32
  let v1085 : BitVec 1 := Scalar.cmpi .sgt c2_i32_860 c0_i32_863
  let v1086 : BitVec 32 := Scalar.extui v1085
  let c0_i32_864 : BitVec 32 := 0#32
  let v1087 : BitVec 1 := Scalar.cmpi .slt c2_i32_860 c0_i32_864
  let v1088 : BitVec 32 := Scalar.extui v1087
  let v1089 : BitVec 32 := Scalar.subi v1086 v1088
  let v1090 : BitVec 1 := Scalar.cmpi .ne v1084 v1089
  let v1091 : BitVec 32 := Scalar.remsi v2 c2_i32_860
  let c0_i32_865 : BitVec 32 := 0#32
  let v1092 : BitVec 1 := Scalar.cmpi .ne v1091 c0_i32_865
  let v1093 : BitVec 1 := Scalar.andi v1090 v1092
  let v1079 : BitVec 32 := Scalar.divsi v2 c2_i32_860
  let c1_i32_866 : BitVec 32 := 1#32
  let v1094 : BitVec 32 := Scalar.subi v1079 c1_i32_866
  let v1095 : BitVec 32 := Scalar.select v1093 v1094 v1079
  let c2_i32_867 : BitVec 32 := 2#32
  let v1096 : BitVec 32 := Scalar.remsi v1095 c2_i32_867
  let v1097 : BitVec 32 := Scalar.addi v1078 v1096
  let c2_i32_868 : BitVec 32 := 2#32
  let v1098 : BitVec 32 := Scalar.remsi v1097 c2_i32_868
  let c96_i32_927 : BitVec 32 := 96#32
  let v1167 : BitVec 32 := Scalar.muli v1098 c96_i32_927
  let v1168 : BitVec 32 := Scalar.addi v1019 v1167
  let v1169 : Index := Scalar.indexCast v1168
  let c0_928 : Index := 0#32
  ![v1169.toNat, 0]
def k0_off20 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let c0_i32_880 : BitVec 32 := 0#32
  let v1111 : BitVec 1 := Scalar.cmpi .sgt v2 c0_i32_880
  let v1112 : BitVec 32 := Scalar.extui v1111
  let c0_i32_881 : BitVec 32 := 0#32
  let v1113 : BitVec 1 := Scalar.cmpi .slt v2 c0_i32_881
  let v1114 : BitVec 32 := Scalar.extui v1113
  let v1115 : BitVec 32 := Scalar.subi v1112 v1114
  let c2_i32_879 : BitVec 32 := 2#32
  let c0_i32_882 : BitVec 32 := 0#32
  let v1116 : BitVec 1 := Scalar.cmpi .sgt c2_i32_879 c0_i32_882
  let v1117 : BitVec 32 := Scalar.extui v1116
  let c0_i32_883 : BitVec 32 := 0#32
  let v1118 : BitVec 1 := Scalar.cmpi .slt c2_i32_879 c0_i32_883
  let v1119 : BitVec 32 := Scalar.extui v1118
  let v1120 : BitVec 32 := Scalar.subi v1117 v1119
  let v1121 : BitVec 1 := Scalar.cmpi .ne v1115 v1120
  let v1122 : BitVec 32 := Scalar.remsi v2 c2_i32_879
  let c0_i32_884 : BitVec 32 := 0#32
  let v1123 : BitVec 1 := Scalar.cmpi .ne v1122 c0_i32_884
  let v1124 : BitVec 1 := Scalar.andi v1121 v1123
  let v1110 : BitVec 32 := Scalar.divsi v2 c2_i32_879
  let c1_i32_885 : BitVec 32 := 1#32
  let v1125 : BitVec 32 := Scalar.subi v1110 c1_i32_885
  let v1126 : BitVec 32 := Scalar.select v1124 v1125 v1110
  let c2_i32_886 : BitVec 32 := 2#32
  let v1127 : BitVec 32 := Scalar.remsi v1126 c2_i32_886
  let c64_i32_945 : BitVec 32 := 64#32
  let v1187 : BitVec 32 := Scalar.muli v1127 c64_i32_945
  let v1188 : BitVec 32 := Scalar.addi v1039 v1187
  let v1189 : Index := Scalar.indexCast v1188
  let c0_946 : Index := 0#32
  ![v1189.toNat, 0]
def k0_off21 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let c0_i32_844 : BitVec 32 := 0#32
  let v1051 : BitVec 1 := Scalar.cmpi .sgt v2 c0_i32_844
  let v1052 : BitVec 32 := Scalar.extui v1051
  let c0_i32_845 : BitVec 32 := 0#32
  let v1053 : BitVec 1 := Scalar.cmpi .slt v2 c0_i32_845
  let v1054 : BitVec 32 := Scalar.extui v1053
  let v1055 : BitVec 32 := Scalar.subi v1052 v1054
  let c4_i32_843 : BitVec 32 := 4#32
  let c0_i32_846 : BitVec 32 := 0#32
  let v1056 : BitVec 1 := Scalar.cmpi .sgt c4_i32_843 c0_i32_846
  let v1057 : BitVec 32 := Scalar.extui v1056
  let c0_i32_847 : BitVec 32 := 0#32
  let v1058 : BitVec 1 := Scalar.cmpi .slt c4_i32_843 c0_i32_847
  let v1059 : BitVec 32 := Scalar.extui v1058
  let v1060 : BitVec 32 := Scalar.subi v1057 v1059
  let v1061 : BitVec 1 := Scalar.cmpi .ne v1055 v1060
  let v1062 : BitVec 32 := Scalar.remsi v2 c4_i32_843
  let c0_i32_848 : BitVec 32 := 0#32
  let v1063 : BitVec 1 := Scalar.cmpi .ne v1062 c0_i32_848
  let v1064 : BitVec 1 := Scalar.andi v1061 v1063
  let v1050 : BitVec 32 := Scalar.divsi v2 c4_i32_843
  let c1_i32_849 : BitVec 32 := 1#32
  let v1065 : BitVec 32 := Scalar.subi v1050 c1_i32_849
  let v1066 : BitVec 32 := Scalar.select v1064 v1065 v1050
  let c96_i32_909 : BitVec 32 := 96#32
  let v1147 : BitVec 32 := Scalar.muli v1066 c96_i32_909
  let v1148 : BitVec 32 := Scalar.addi v999 v1147
  let c0_i32_964 : BitVec 32 := 0#32
  ![v1148.toNat, 0]
def k0_dev13 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_957 : BitVec 32 := 4#32
  let v1216 : BitVec 32 := Scalar.xori v2 c4_i32_957
  let c1_i32_962 : BitVec 32 := 1#32
  let v1217 : BitVec 32 := Scalar.muli v1216 c1_i32_962
  let v1218 : BitVec 32 := Scalar.addi c0_i32_963 v1217
  v1218.toNat
def k0_off22 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let c2_i32_859 : BitVec 32 := 2#32
  let v1078 : BitVec 32 := Scalar.remsi v2 c2_i32_859
  let c0_i32_861 : BitVec 32 := 0#32
  let v1080 : BitVec 1 := Scalar.cmpi .sgt v2 c0_i32_861
  let v1081 : BitVec 32 := Scalar.extui v1080
  let c0_i32_862 : BitVec 32 := 0#32
  let v1082 : BitVec 1 := Scalar.cmpi .slt v2 c0_i32_862
  let v1083 : BitVec 32 := Scalar.extui v1082
  let v1084 : BitVec 32 := Scalar.subi v1081 v1083
  let c2_i32_860 : BitVec 32 := 2#32
  let c0_i32_863 : BitVec 32 := 0#32
  let v1085 : BitVec 1 := Scalar.cmpi .sgt c2_i32_860 c0_i32_863
  let v1086 : BitVec 32 := Scalar.extui v1085
  let c0_i32_864 : BitVec 32 := 0#32
  let v1087 : BitVec 1 := Scalar.cmpi .slt c2_i32_860 c0_i32_864
  let v1088 : BitVec 32 := Scalar.extui v1087
  let v1089 : BitVec 32 := Scalar.subi v1086 v1088
  let v1090 : BitVec 1 := Scalar.cmpi .ne v1084 v1089
  let v1091 : BitVec 32 := Scalar.remsi v2 c2_i32_860
  let c0_i32_865 : BitVec 32 := 0#32
  let v1092 : BitVec 1 := Scalar.cmpi .ne v1091 c0_i32_865
  let v1093 : BitVec 1 := Scalar.andi v1090 v1092
  let v1079 : BitVec 32 := Scalar.divsi v2 c2_i32_860
  let c1_i32_866 : BitVec 32 := 1#32
  let v1094 : BitVec 32 := Scalar.subi v1079 c1_i32_866
  let v1095 : BitVec 32 := Scalar.select v1093 v1094 v1079
  let c2_i32_867 : BitVec 32 := 2#32
  let v1096 : BitVec 32 := Scalar.remsi v1095 c2_i32_867
  let v1097 : BitVec 32 := Scalar.addi v1078 v1096
  let c2_i32_868 : BitVec 32 := 2#32
  let v1098 : BitVec 32 := Scalar.remsi v1097 c2_i32_868
  let c96_i32_927 : BitVec 32 := 96#32
  let v1167 : BitVec 32 := Scalar.muli v1098 c96_i32_927
  let v1168 : BitVec 32 := Scalar.addi v1019 v1167
  let c0_i32_983 : BitVec 32 := 0#32
  ![v1168.toNat, 0]
def k0_dev14 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_976 : BitVec 32 := 1#32
  let v1246 : BitVec 32 := Scalar.xori v2 c1_i32_976
  let c1_i32_981 : BitVec 32 := 1#32
  let v1247 : BitVec 32 := Scalar.muli v1246 c1_i32_981
  let v1248 : BitVec 32 := Scalar.addi c0_i32_982 v1247
  v1248.toNat
def k0_off23 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let c0_i32_880 : BitVec 32 := 0#32
  let v1111 : BitVec 1 := Scalar.cmpi .sgt v2 c0_i32_880
  let v1112 : BitVec 32 := Scalar.extui v1111
  let c0_i32_881 : BitVec 32 := 0#32
  let v1113 : BitVec 1 := Scalar.cmpi .slt v2 c0_i32_881
  let v1114 : BitVec 32 := Scalar.extui v1113
  let v1115 : BitVec 32 := Scalar.subi v1112 v1114
  let c2_i32_879 : BitVec 32 := 2#32
  let c0_i32_882 : BitVec 32 := 0#32
  let v1116 : BitVec 1 := Scalar.cmpi .sgt c2_i32_879 c0_i32_882
  let v1117 : BitVec 32 := Scalar.extui v1116
  let c0_i32_883 : BitVec 32 := 0#32
  let v1118 : BitVec 1 := Scalar.cmpi .slt c2_i32_879 c0_i32_883
  let v1119 : BitVec 32 := Scalar.extui v1118
  let v1120 : BitVec 32 := Scalar.subi v1117 v1119
  let v1121 : BitVec 1 := Scalar.cmpi .ne v1115 v1120
  let v1122 : BitVec 32 := Scalar.remsi v2 c2_i32_879
  let c0_i32_884 : BitVec 32 := 0#32
  let v1123 : BitVec 1 := Scalar.cmpi .ne v1122 c0_i32_884
  let v1124 : BitVec 1 := Scalar.andi v1121 v1123
  let v1110 : BitVec 32 := Scalar.divsi v2 c2_i32_879
  let c1_i32_885 : BitVec 32 := 1#32
  let v1125 : BitVec 32 := Scalar.subi v1110 c1_i32_885
  let v1126 : BitVec 32 := Scalar.select v1124 v1125 v1110
  let c2_i32_886 : BitVec 32 := 2#32
  let v1127 : BitVec 32 := Scalar.remsi v1126 c2_i32_886
  let c64_i32_945 : BitVec 32 := 64#32
  let v1187 : BitVec 32 := Scalar.muli v1127 c64_i32_945
  let v1188 : BitVec 32 := Scalar.addi v1039 v1187
  let c0_i32_1000 : BitVec 32 := 0#32
  ![v1188.toNat, 0]
def k0_dev15 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_993 : BitVec 32 := 3#32
  let v1273 : BitVec 32 := Scalar.xori v2 c3_i32_993
  let c1_i32_998 : BitVec 32 := 1#32
  let v1274 : BitVec 32 := Scalar.muli v1273 c1_i32_998
  let v1275 : BitVec 32 := Scalar.addi c0_i32_999 v1274
  v1275.toNat
def k0_off24 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let c0_i32_844 : BitVec 32 := 0#32
  let v1051 : BitVec 1 := Scalar.cmpi .sgt v2 c0_i32_844
  let v1052 : BitVec 32 := Scalar.extui v1051
  let c0_i32_845 : BitVec 32 := 0#32
  let v1053 : BitVec 1 := Scalar.cmpi .slt v2 c0_i32_845
  let v1054 : BitVec 32 := Scalar.extui v1053
  let v1055 : BitVec 32 := Scalar.subi v1052 v1054
  let c4_i32_843 : BitVec 32 := 4#32
  let c0_i32_846 : BitVec 32 := 0#32
  let v1056 : BitVec 1 := Scalar.cmpi .sgt c4_i32_843 c0_i32_846
  let v1057 : BitVec 32 := Scalar.extui v1056
  let c0_i32_847 : BitVec 32 := 0#32
  let v1058 : BitVec 1 := Scalar.cmpi .slt c4_i32_843 c0_i32_847
  let v1059 : BitVec 32 := Scalar.extui v1058
  let v1060 : BitVec 32 := Scalar.subi v1057 v1059
  let v1061 : BitVec 1 := Scalar.cmpi .ne v1055 v1060
  let v1062 : BitVec 32 := Scalar.remsi v2 c4_i32_843
  let c0_i32_848 : BitVec 32 := 0#32
  let v1063 : BitVec 1 := Scalar.cmpi .ne v1062 c0_i32_848
  let v1064 : BitVec 1 := Scalar.andi v1061 v1063
  let v1050 : BitVec 32 := Scalar.divsi v2 c4_i32_843
  let c1_i32_849 : BitVec 32 := 1#32
  let v1065 : BitVec 32 := Scalar.subi v1050 c1_i32_849
  let v1066 : BitVec 32 := Scalar.select v1064 v1065 v1050
  let c96_i32_909 : BitVec 32 := 96#32
  let v1147 : BitVec 32 := Scalar.muli v1066 c96_i32_909
  let v1148 : BitVec 32 := Scalar.addi v999 v1147
  let c0_i32_951 : BitVec 32 := 0#32
  let v1200 : BitVec 1 := Scalar.cmpi .sgt v2 c0_i32_951
  let v1201 : BitVec 32 := Scalar.extui v1200
  let c0_i32_952 : BitVec 32 := 0#32
  let v1202 : BitVec 1 := Scalar.cmpi .slt v2 c0_i32_952
  let v1203 : BitVec 32 := Scalar.extui v1202
  let v1204 : BitVec 32 := Scalar.subi v1201 v1203
  let c4_i32_950 : BitVec 32 := 4#32
  let c0_i32_953 : BitVec 32 := 0#32
  let v1205 : BitVec 1 := Scalar.cmpi .sgt c4_i32_950 c0_i32_953
  let v1206 : BitVec 32 := Scalar.extui v1205
  let c0_i32_954 : BitVec 32 := 0#32
  let v1207 : BitVec 1 := Scalar.cmpi .slt c4_i32_950 c0_i32_954
  let v1208 : BitVec 32 := Scalar.extui v1207
  let v1209 : BitVec 32 := Scalar.subi v1206 v1208
  let v1210 : BitVec 1 := Scalar.cmpi .ne v1204 v1209
  let v1211 : BitVec 32 := Scalar.remsi v2 c4_i32_950
  let c0_i32_955 : BitVec 32 := 0#32
  let v1212 : BitVec 1 := Scalar.cmpi .ne v1211 c0_i32_955
  let v1213 : BitVec 1 := Scalar.andi v1210 v1212
  let v1199 : BitVec 32 := Scalar.divsi v2 c4_i32_950
  let c1_i32_956 : BitVec 32 := 1#32
  let v1214 : BitVec 32 := Scalar.subi v1199 c1_i32_956
  let v1215 : BitVec 32 := Scalar.select v1213 v1214 v1199
  let c96_i32_1017 : BitVec 32 := 96#32
  let v1292 : BitVec 32 := Scalar.muli v1215 c96_i32_1017
  let v1293 : BitVec 32 := Scalar.subi v1148 v1292
  let c0_i32_1065 : BitVec 32 := 0#32
  ![v1293.toNat, 0]
def k0_dev16 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1058 : BitVec 32 := 3#32
  let v1336 : BitVec 32 := Scalar.xori v2 c3_i32_1058
  let c1_i32_1063 : BitVec 32 := 1#32
  let v1337 : BitVec 32 := Scalar.muli v1336 c1_i32_1063
  let v1338 : BitVec 32 := Scalar.addi c0_i32_1064 v1337
  v1338.toNat
def k0_off25 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let c2_i32_859 : BitVec 32 := 2#32
  let v1078 : BitVec 32 := Scalar.remsi v2 c2_i32_859
  let c0_i32_861 : BitVec 32 := 0#32
  let v1080 : BitVec 1 := Scalar.cmpi .sgt v2 c0_i32_861
  let v1081 : BitVec 32 := Scalar.extui v1080
  let c0_i32_862 : BitVec 32 := 0#32
  let v1082 : BitVec 1 := Scalar.cmpi .slt v2 c0_i32_862
  let v1083 : BitVec 32 := Scalar.extui v1082
  let v1084 : BitVec 32 := Scalar.subi v1081 v1083
  let c2_i32_860 : BitVec 32 := 2#32
  let c0_i32_863 : BitVec 32 := 0#32
  let v1085 : BitVec 1 := Scalar.cmpi .sgt c2_i32_860 c0_i32_863
  let v1086 : BitVec 32 := Scalar.extui v1085
  let c0_i32_864 : BitVec 32 := 0#32
  let v1087 : BitVec 1 := Scalar.cmpi .slt c2_i32_860 c0_i32_864
  let v1088 : BitVec 32 := Scalar.extui v1087
  let v1089 : BitVec 32 := Scalar.subi v1086 v1088
  let v1090 : BitVec 1 := Scalar.cmpi .ne v1084 v1089
  let v1091 : BitVec 32 := Scalar.remsi v2 c2_i32_860
  let c0_i32_865 : BitVec 32 := 0#32
  let v1092 : BitVec 1 := Scalar.cmpi .ne v1091 c0_i32_865
  let v1093 : BitVec 1 := Scalar.andi v1090 v1092
  let v1079 : BitVec 32 := Scalar.divsi v2 c2_i32_860
  let c1_i32_866 : BitVec 32 := 1#32
  let v1094 : BitVec 32 := Scalar.subi v1079 c1_i32_866
  let v1095 : BitVec 32 := Scalar.select v1093 v1094 v1079
  let c2_i32_867 : BitVec 32 := 2#32
  let v1096 : BitVec 32 := Scalar.remsi v1095 c2_i32_867
  let v1097 : BitVec 32 := Scalar.addi v1078 v1096
  let c2_i32_868 : BitVec 32 := 2#32
  let v1098 : BitVec 32 := Scalar.remsi v1097 c2_i32_868
  let c96_i32_927 : BitVec 32 := 96#32
  let v1167 : BitVec 32 := Scalar.muli v1098 c96_i32_927
  let v1168 : BitVec 32 := Scalar.addi v1019 v1167
  let c2_i32_966 : BitVec 32 := 2#32
  let v1225 : BitVec 32 := Scalar.remsi v2 c2_i32_966
  let c0_i32_968 : BitVec 32 := 0#32
  let v1227 : BitVec 1 := Scalar.cmpi .sgt v2 c0_i32_968
  let v1228 : BitVec 32 := Scalar.extui v1227
  let c0_i32_969 : BitVec 32 := 0#32
  let v1229 : BitVec 1 := Scalar.cmpi .slt v2 c0_i32_969
  let v1230 : BitVec 32 := Scalar.extui v1229
  let v1231 : BitVec 32 := Scalar.subi v1228 v1230
  let c2_i32_967 : BitVec 32 := 2#32
  let c0_i32_970 : BitVec 32 := 0#32
  let v1232 : BitVec 1 := Scalar.cmpi .sgt c2_i32_967 c0_i32_970
  let v1233 : BitVec 32 := Scalar.extui v1232
  let c0_i32_971 : BitVec 32 := 0#32
  let v1234 : BitVec 1 := Scalar.cmpi .slt c2_i32_967 c0_i32_971
  let v1235 : BitVec 32 := Scalar.extui v1234
  let v1236 : BitVec 32 := Scalar.subi v1233 v1235
  let v1237 : BitVec 1 := Scalar.cmpi .ne v1231 v1236
  let v1238 : BitVec 32 := Scalar.remsi v2 c2_i32_967
  let c0_i32_972 : BitVec 32 := 0#32
  let v1239 : BitVec 1 := Scalar.cmpi .ne v1238 c0_i32_972
  let v1240 : BitVec 1 := Scalar.andi v1237 v1239
  let v1226 : BitVec 32 := Scalar.divsi v2 c2_i32_967
  let c1_i32_973 : BitVec 32 := 1#32
  let v1241 : BitVec 32 := Scalar.subi v1226 c1_i32_973
  let v1242 : BitVec 32 := Scalar.select v1240 v1241 v1226
  let c2_i32_974 : BitVec 32 := 2#32
  let v1243 : BitVec 32 := Scalar.remsi v1242 c2_i32_974
  let v1244 : BitVec 32 := Scalar.addi v1225 v1243
  let c2_i32_975 : BitVec 32 := 2#32
  let v1245 : BitVec 32 := Scalar.remsi v1244 c2_i32_975
  let c96_i32_1033 : BitVec 32 := 96#32
  let v1304 : BitVec 32 := Scalar.muli v1245 c96_i32_1033
  let v1305 : BitVec 32 := Scalar.subi v1168 v1304
  let c0_i32_1081 : BitVec 32 := 0#32
  ![v1305.toNat, 0]
def k0_dev17 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1074 : BitVec 32 := 4#32
  let v1362 : BitVec 32 := Scalar.xori v2 c4_i32_1074
  let c1_i32_1079 : BitVec 32 := 1#32
  let v1363 : BitVec 32 := Scalar.muli v1362 c1_i32_1079
  let v1364 : BitVec 32 := Scalar.addi c0_i32_1080 v1363
  v1364.toNat
def k0_off26 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let c0_i32_880 : BitVec 32 := 0#32
  let v1111 : BitVec 1 := Scalar.cmpi .sgt v2 c0_i32_880
  let v1112 : BitVec 32 := Scalar.extui v1111
  let c0_i32_881 : BitVec 32 := 0#32
  let v1113 : BitVec 1 := Scalar.cmpi .slt v2 c0_i32_881
  let v1114 : BitVec 32 := Scalar.extui v1113
  let v1115 : BitVec 32 := Scalar.subi v1112 v1114
  let c2_i32_879 : BitVec 32 := 2#32
  let c0_i32_882 : BitVec 32 := 0#32
  let v1116 : BitVec 1 := Scalar.cmpi .sgt c2_i32_879 c0_i32_882
  let v1117 : BitVec 32 := Scalar.extui v1116
  let c0_i32_883 : BitVec 32 := 0#32
  let v1118 : BitVec 1 := Scalar.cmpi .slt c2_i32_879 c0_i32_883
  let v1119 : BitVec 32 := Scalar.extui v1118
  let v1120 : BitVec 32 := Scalar.subi v1117 v1119
  let v1121 : BitVec 1 := Scalar.cmpi .ne v1115 v1120
  let v1122 : BitVec 32 := Scalar.remsi v2 c2_i32_879
  let c0_i32_884 : BitVec 32 := 0#32
  let v1123 : BitVec 1 := Scalar.cmpi .ne v1122 c0_i32_884
  let v1124 : BitVec 1 := Scalar.andi v1121 v1123
  let v1110 : BitVec 32 := Scalar.divsi v2 c2_i32_879
  let c1_i32_885 : BitVec 32 := 1#32
  let v1125 : BitVec 32 := Scalar.subi v1110 c1_i32_885
  let v1126 : BitVec 32 := Scalar.select v1124 v1125 v1110
  let c2_i32_886 : BitVec 32 := 2#32
  let v1127 : BitVec 32 := Scalar.remsi v1126 c2_i32_886
  let c64_i32_945 : BitVec 32 := 64#32
  let v1187 : BitVec 32 := Scalar.muli v1127 c64_i32_945
  let v1188 : BitVec 32 := Scalar.addi v1039 v1187
  let c0_i32_986 : BitVec 32 := 0#32
  let v1256 : BitVec 1 := Scalar.cmpi .sgt v2 c0_i32_986
  let v1257 : BitVec 32 := Scalar.extui v1256
  let c0_i32_987 : BitVec 32 := 0#32
  let v1258 : BitVec 1 := Scalar.cmpi .slt v2 c0_i32_987
  let v1259 : BitVec 32 := Scalar.extui v1258
  let v1260 : BitVec 32 := Scalar.subi v1257 v1259
  let c2_i32_985 : BitVec 32 := 2#32
  let c0_i32_988 : BitVec 32 := 0#32
  let v1261 : BitVec 1 := Scalar.cmpi .sgt c2_i32_985 c0_i32_988
  let v1262 : BitVec 32 := Scalar.extui v1261
  let c0_i32_989 : BitVec 32 := 0#32
  let v1263 : BitVec 1 := Scalar.cmpi .slt c2_i32_985 c0_i32_989
  let v1264 : BitVec 32 := Scalar.extui v1263
  let v1265 : BitVec 32 := Scalar.subi v1262 v1264
  let v1266 : BitVec 1 := Scalar.cmpi .ne v1260 v1265
  let v1267 : BitVec 32 := Scalar.remsi v2 c2_i32_985
  let c0_i32_990 : BitVec 32 := 0#32
  let v1268 : BitVec 1 := Scalar.cmpi .ne v1267 c0_i32_990
  let v1269 : BitVec 1 := Scalar.andi v1266 v1268
  let v1255 : BitVec 32 := Scalar.divsi v2 c2_i32_985
  let c1_i32_991 : BitVec 32 := 1#32
  let v1270 : BitVec 32 := Scalar.subi v1255 c1_i32_991
  let v1271 : BitVec 32 := Scalar.select v1269 v1270 v1255
  let c2_i32_992 : BitVec 32 := 2#32
  let v1272 : BitVec 32 := Scalar.remsi v1271 c2_i32_992
  let c64_i32_1049 : BitVec 32 := 64#32
  let v1316 : BitVec 32 := Scalar.muli v1272 c64_i32_1049
  let v1317 : BitVec 32 := Scalar.subi v1188 v1316
  let c0_i32_1100 : BitVec 32 := 0#32
  ![v1317.toNat, 0]
def k0_dev18 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1093 : BitVec 32 := 1#32
  let v1392 : BitVec 32 := Scalar.xori v2 c1_i32_1093
  let c1_i32_1098 : BitVec 32 := 1#32
  let v1393 : BitVec 32 := Scalar.muli v1392 c1_i32_1098
  let v1394 : BitVec 32 := Scalar.addi c0_i32_1099 v1393
  v1394.toNat
def k0_off27 (d0 : Dev nD) : Fin 2 → Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v664 : BitVec 32 := Scalar.remsi v2 c2_i32
  let c0_i32_537 : BitVec 32 := 0#32
  let v666 : BitVec 1 := Scalar.cmpi .sgt v2 c0_i32_537
  let v667 : BitVec 32 := Scalar.extui v666
  let c0_i32_538 : BitVec 32 := 0#32
  let v668 : BitVec 1 := Scalar.cmpi .slt v2 c0_i32_538
  let v669 : BitVec 32 := Scalar.extui v668
  let v670 : BitVec 32 := Scalar.subi v667 v669
  let c2_i32_536 : BitVec 32 := 2#32
  let c0_i32_539 : BitVec 32 := 0#32
  let v671 : BitVec 1 := Scalar.cmpi .sgt c2_i32_536 c0_i32_539
  let v672 : BitVec 32 := Scalar.extui v671
  let c0_i32_540 : BitVec 32 := 0#32
  let v673 : BitVec 1 := Scalar.cmpi .slt c2_i32_536 c0_i32_540
  let v674 : BitVec 32 := Scalar.extui v673
  let v675 : BitVec 32 := Scalar.subi v672 v674
  let v676 : BitVec 1 := Scalar.cmpi .ne v670 v675
  let v677 : BitVec 32 := Scalar.remsi v2 c2_i32_536
  let c0_i32_541 : BitVec 32 := 0#32
  let v678 : BitVec 1 := Scalar.cmpi .ne v677 c0_i32_541
  let v679 : BitVec 1 := Scalar.andi v676 v678
  let v665 : BitVec 32 := Scalar.divsi v2 c2_i32_536
  let c1_i32_542 : BitVec 32 := 1#32
  let v680 : BitVec 32 := Scalar.subi v665 c1_i32_542
  let v681 : BitVec 32 := Scalar.select v679 v680 v665
  let c2_i32_543 : BitVec 32 := 2#32
  let v682 : BitVec 32 := Scalar.remsi v681 c2_i32_543
  let v683 : BitVec 32 := Scalar.addi v664 v682
  let c2_i32_544 : BitVec 32 := 2#32
  let v684 : BitVec 32 := Scalar.remsi v683 c2_i32_544
  let c384_i32_692 : BitVec 32 := 384#32
  let v849 : BitVec 32 := Scalar.muli v684 c384_i32_692
  let v850 : BitVec 32 := Scalar.addi c0_i32_693 v849
  let c0_i32_737 : BitVec 32 := 0#32
  let v902 : BitVec 1 := Scalar.cmpi .sgt v2 c0_i32_737
  let v903 : BitVec 32 := Scalar.extui v902
  let c0_i32_738 : BitVec 32 := 0#32
  let v904 : BitVec 1 := Scalar.cmpi .slt v2 c0_i32_738
  let v905 : BitVec 32 := Scalar.extui v904
  let v906 : BitVec 32 := Scalar.subi v903 v905
  let c2_i32_736 : BitVec 32 := 2#32
  let c0_i32_739 : BitVec 32 := 0#32
  let v907 : BitVec 1 := Scalar.cmpi .sgt c2_i32_736 c0_i32_739
  let v908 : BitVec 32 := Scalar.extui v907
  let c0_i32_740 : BitVec 32 := 0#32
  let v909 : BitVec 1 := Scalar.cmpi .slt c2_i32_736 c0_i32_740
  let v910 : BitVec 32 := Scalar.extui v909
  let v911 : BitVec 32 := Scalar.subi v908 v910
  let v912 : BitVec 1 := Scalar.cmpi .ne v906 v911
  let v913 : BitVec 32 := Scalar.remsi v2 c2_i32_736
  let c0_i32_741 : BitVec 32 := 0#32
  let v914 : BitVec 1 := Scalar.cmpi .ne v913 c0_i32_741
  let v915 : BitVec 1 := Scalar.andi v912 v914
  let v901 : BitVec 32 := Scalar.divsi v2 c2_i32_736
  let c1_i32_742 : BitVec 32 := 1#32
  let v916 : BitVec 32 := Scalar.subi v901 c1_i32_742
  let v917 : BitVec 32 := Scalar.select v915 v916 v901
  let c2_i32_743 : BitVec 32 := 2#32
  let v918 : BitVec 32 := Scalar.remsi v917 c2_i32_743
  let c192_i32_802 : BitVec 32 := 192#32
  let v998 : BitVec 32 := Scalar.muli v918 c192_i32_802
  let v999 : BitVec 32 := Scalar.addi v850 v998
  let c0_i32_844 : BitVec 32 := 0#32
  let v1051 : BitVec 1 := Scalar.cmpi .sgt v2 c0_i32_844
  let v1052 : BitVec 32 := Scalar.extui v1051
  let c0_i32_845 : BitVec 32 := 0#32
  let v1053 : BitVec 1 := Scalar.cmpi .slt v2 c0_i32_845
  let v1054 : BitVec 32 := Scalar.extui v1053
  let v1055 : BitVec 32 := Scalar.subi v1052 v1054
  let c4_i32_843 : BitVec 32 := 4#32
  let c0_i32_846 : BitVec 32 := 0#32
  let v1056 : BitVec 1 := Scalar.cmpi .sgt c4_i32_843 c0_i32_846
  let v1057 : BitVec 32 := Scalar.extui v1056
  let c0_i32_847 : BitVec 32 := 0#32
  let v1058 : BitVec 1 := Scalar.cmpi .slt c4_i32_843 c0_i32_847
  let v1059 : BitVec 32 := Scalar.extui v1058
  let v1060 : BitVec 32 := Scalar.subi v1057 v1059
  let v1061 : BitVec 1 := Scalar.cmpi .ne v1055 v1060
  let v1062 : BitVec 32 := Scalar.remsi v2 c4_i32_843
  let c0_i32_848 : BitVec 32 := 0#32
  let v1063 : BitVec 1 := Scalar.cmpi .ne v1062 c0_i32_848
  let v1064 : BitVec 1 := Scalar.andi v1061 v1063
  let v1050 : BitVec 32 := Scalar.divsi v2 c4_i32_843
  let c1_i32_849 : BitVec 32 := 1#32
  let v1065 : BitVec 32 := Scalar.subi v1050 c1_i32_849
  let v1066 : BitVec 32 := Scalar.select v1064 v1065 v1050
  let c96_i32_909 : BitVec 32 := 96#32
  let v1147 : BitVec 32 := Scalar.muli v1066 c96_i32_909
  let v1148 : BitVec 32 := Scalar.addi v999 v1147
  let c0_i32_951 : BitVec 32 := 0#32
  let v1200 : BitVec 1 := Scalar.cmpi .sgt v2 c0_i32_951
  let v1201 : BitVec 32 := Scalar.extui v1200
  let c0_i32_952 : BitVec 32 := 0#32
  let v1202 : BitVec 1 := Scalar.cmpi .slt v2 c0_i32_952
  let v1203 : BitVec 32 := Scalar.extui v1202
  let v1204 : BitVec 32 := Scalar.subi v1201 v1203
  let c4_i32_950 : BitVec 32 := 4#32
  let c0_i32_953 : BitVec 32 := 0#32
  let v1205 : BitVec 1 := Scalar.cmpi .sgt c4_i32_950 c0_i32_953
  let v1206 : BitVec 32 := Scalar.extui v1205
  let c0_i32_954 : BitVec 32 := 0#32
  let v1207 : BitVec 1 := Scalar.cmpi .slt c4_i32_950 c0_i32_954
  let v1208 : BitVec 32 := Scalar.extui v1207
  let v1209 : BitVec 32 := Scalar.subi v1206 v1208
  let v1210 : BitVec 1 := Scalar.cmpi .ne v1204 v1209
  let v1211 : BitVec 32 := Scalar.remsi v2 c4_i32_950
  let c0_i32_955 : BitVec 32 := 0#32
  let v1212 : BitVec 1 := Scalar.cmpi .ne v1211 c0_i32_955
  let v1213 : BitVec 1 := Scalar.andi v1210 v1212
  let v1199 : BitVec 32 := Scalar.divsi v2 c4_i32_950
  let c1_i32_956 : BitVec 32 := 1#32
  let v1214 : BitVec 32 := Scalar.subi v1199 c1_i32_956
  let v1215 : BitVec 32 := Scalar.select v1213 v1214 v1199
  let c96_i32_1017 : BitVec 32 := 96#32
  let v1292 : BitVec 32 := Scalar.muli v1215 c96_i32_1017
  let v1293 : BitVec 32 := Scalar.subi v1148 v1292
  let c0_i32_1051 : BitVec 32 := 0#32
  let v1319 : BitVec 1 := Scalar.cmpi .sgt v2 c0_i32_1051
  let v1320 : BitVec 32 := Scalar.extui v1319
  let c0_i32_1052 : BitVec 32 := 0#32
  let v1321 : BitVec 1 := Scalar.cmpi .slt v2 c0_i32_1052
  let v1322 : BitVec 32 := Scalar.extui v1321
  let v1323 : BitVec 32 := Scalar.subi v1320 v1322
  let c2_i32_1050 : BitVec 32 := 2#32
  let c0_i32_1053 : BitVec 32 := 0#32
  let v1324 : BitVec 1 := Scalar.cmpi .sgt c2_i32_1050 c0_i32_1053
  let v1325 : BitVec 32 := Scalar.extui v1324
  let c0_i32_1054 : BitVec 32 := 0#32
  let v1326 : BitVec 1 := Scalar.cmpi .slt c2_i32_1050 c0_i32_1054
  let v1327 : BitVec 32 := Scalar.extui v1326
  let v1328 : BitVec 32 := Scalar.subi v1325 v1327
  let v1329 : BitVec 1 := Scalar.cmpi .ne v1323 v1328
  let v1330 : BitVec 32 := Scalar.remsi v2 c2_i32_1050
  let c0_i32_1055 : BitVec 32 := 0#32
  let v1331 : BitVec 1 := Scalar.cmpi .ne v1330 c0_i32_1055
  let v1332 : BitVec 1 := Scalar.andi v1329 v1331
  let v1318 : BitVec 32 := Scalar.divsi v2 c2_i32_1050
  let c1_i32_1056 : BitVec 32 := 1#32
  let v1333 : BitVec 32 := Scalar.subi v1318 c1_i32_1056
  let v1334 : BitVec 32 := Scalar.select v1332 v1333 v1318
  let c2_i32_1057 : BitVec 32 := 2#32
  let v1335 : BitVec 32 := Scalar.remsi v1334 c2_i32_1057
  let c192_i32_1117 : BitVec 32 := 192#32
  let v1411 : BitVec 32 := Scalar.muli v1335 c192_i32_1117
  let v1412 : BitVec 32 := Scalar.subi v1293 v1411
  let c0_i32_1157 : BitVec 32 := 0#32
  ![v1412.toNat, 0]
def k0_dev19 (d0 : Dev nD) : Nat :=
  let c0_i32_1156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1150 : BitVec 32 := 1#32
  let v1437 : BitVec 32 := Scalar.xori v2 c1_i32_1150
  let c1_i32_1155 : BitVec 32 := 1#32
  let v1438 : BitVec 32 := Scalar.muli v1437 c1_i32_1155
  let v1439 : BitVec 32 := Scalar.addi c0_i32_1156 v1438
  v1439.toNat
def k0_off28 (d0 : Dev nD) : Fin 2 → Nat :=
  let c768_i32_712 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let v749 : BitVec 1 := Scalar.cmpi .sgt v2 c0_i32_609
  let v750 : BitVec 32 := Scalar.extui v749
  let c0_i32_610 : BitVec 32 := 0#32
  let v751 : BitVec 1 := Scalar.cmpi .slt v2 c0_i32_610
  let v752 : BitVec 32 := Scalar.extui v751
  let v753 : BitVec 32 := Scalar.subi v750 v752
  let c2_i32_608 : BitVec 32 := 2#32
  let c0_i32_611 : BitVec 32 := 0#32
  let v754 : BitVec 1 := Scalar.cmpi .sgt c2_i32_608 c0_i32_611
  let v755 : BitVec 32 := Scalar.extui v754
  let c0_i32_612 : BitVec 32 := 0#32
  let v756 : BitVec 1 := Scalar.cmpi .slt c2_i32_608 c0_i32_612
  let v757 : BitVec 32 := Scalar.extui v756
  let v758 : BitVec 32 := Scalar.subi v755 v757
  let v759 : BitVec 1 := Scalar.cmpi .ne v753 v758
  let v760 : BitVec 32 := Scalar.remsi v2 c2_i32_608
  let c0_i32_613 : BitVec 32 := 0#32
  let v761 : BitVec 1 := Scalar.cmpi .ne v760 c0_i32_613
  let v762 : BitVec 1 := Scalar.andi v759 v761
  let v748 : BitVec 32 := Scalar.divsi v2 c2_i32_608
  let c1_i32_614 : BitVec 32 := 1#32
  let v763 : BitVec 32 := Scalar.subi v748 c1_i32_614
  let v764 : BitVec 32 := Scalar.select v762 v763 v748
  let c2_i32_615 : BitVec 32 := 2#32
  let v765 : BitVec 32 := Scalar.remsi v764 c2_i32_615
  let c384_i32_711 : BitVec 32 := 384#32
  let v869 : BitVec 32 := Scalar.muli v765 c384_i32_711
  let v870 : BitVec 32 := Scalar.addi c768_i32_712 v869
  let c0_i32_754 : BitVec 32 := 0#32
  let v931 : BitVec 1 := Scalar.cmpi .sgt v2 c0_i32_754
  let v932 : BitVec 32 := Scalar.extui v931
  let c0_i32_755 : BitVec 32 := 0#32
  let v933 : BitVec 1 := Scalar.cmpi .slt v2 c0_i32_755
  let v934 : BitVec 32 := Scalar.extui v933
  let v935 : BitVec 32 := Scalar.subi v932 v934
  let c4_i32_753 : BitVec 32 := 4#32
  let c0_i32_756 : BitVec 32 := 0#32
  let v936 : BitVec 1 := Scalar.cmpi .sgt c4_i32_753 c0_i32_756
  let v937 : BitVec 32 := Scalar.extui v936
  let c0_i32_757 : BitVec 32 := 0#32
  let v938 : BitVec 1 := Scalar.cmpi .slt c4_i32_753 c0_i32_757
  let v939 : BitVec 32 := Scalar.extui v938
  let v940 : BitVec 32 := Scalar.subi v937 v939
  let v941 : BitVec 1 := Scalar.cmpi .ne v935 v940
  let v942 : BitVec 32 := Scalar.remsi v2 c4_i32_753
  let c0_i32_758 : BitVec 32 := 0#32
  let v943 : BitVec 1 := Scalar.cmpi .ne v942 c0_i32_758
  let v944 : BitVec 1 := Scalar.andi v941 v943
  let v930 : BitVec 32 := Scalar.divsi v2 c4_i32_753
  let c1_i32_759 : BitVec 32 := 1#32
  let v945 : BitVec 32 := Scalar.subi v930 c1_i32_759
  let v946 : BitVec 32 := Scalar.select v944 v945 v930
  let c192_i32_820 : BitVec 32 := 192#32
  let v1018 : BitVec 32 := Scalar.muli v946 c192_i32_820
  let v1019 : BitVec 32 := Scalar.addi v870 v1018
  let c2_i32_859 : BitVec 32 := 2#32
  let v1078 : BitVec 32 := Scalar.remsi v2 c2_i32_859
  let c0_i32_861 : BitVec 32 := 0#32
  let v1080 : BitVec 1 := Scalar.cmpi .sgt v2 c0_i32_861
  let v1081 : BitVec 32 := Scalar.extui v1080
  let c0_i32_862 : BitVec 32 := 0#32
  let v1082 : BitVec 1 := Scalar.cmpi .slt v2 c0_i32_862
  let v1083 : BitVec 32 := Scalar.extui v1082
  let v1084 : BitVec 32 := Scalar.subi v1081 v1083
  let c2_i32_860 : BitVec 32 := 2#32
  let c0_i32_863 : BitVec 32 := 0#32
  let v1085 : BitVec 1 := Scalar.cmpi .sgt c2_i32_860 c0_i32_863
  let v1086 : BitVec 32 := Scalar.extui v1085
  let c0_i32_864 : BitVec 32 := 0#32
  let v1087 : BitVec 1 := Scalar.cmpi .slt c2_i32_860 c0_i32_864
  let v1088 : BitVec 32 := Scalar.extui v1087
  let v1089 : BitVec 32 := Scalar.subi v1086 v1088
  let v1090 : BitVec 1 := Scalar.cmpi .ne v1084 v1089
  let v1091 : BitVec 32 := Scalar.remsi v2 c2_i32_860
  let c0_i32_865 : BitVec 32 := 0#32
  let v1092 : BitVec 1 := Scalar.cmpi .ne v1091 c0_i32_865
  let v1093 : BitVec 1 := Scalar.andi v1090 v1092
  let v1079 : BitVec 32 := Scalar.divsi v2 c2_i32_860
  let c1_i32_866 : BitVec 32 := 1#32
  let v1094 : BitVec 32 := Scalar.subi v1079 c1_i32_866
  let v1095 : BitVec 32 := Scalar.select v1093 v1094 v1079
  let c2_i32_867 : BitVec 32 := 2#32
  let v1096 : BitVec 32 := Scalar.remsi v1095 c2_i32_867
  let v1097 : BitVec 32 := Scalar.addi v1078 v1096
  let c2_i32_868 : BitVec 32 := 2#32
  let v1098 : BitVec 32 := Scalar.remsi v1097 c2_i32_868
  let c96_i32_927 : BitVec 32 := 96#32
  let v1167 : BitVec 32 := Scalar.muli v1098 c96_i32_927
  let v1168 : BitVec 32 := Scalar.addi v1019 v1167
  let c2_i32_966 : BitVec 32 := 2#32
  let v1225 : BitVec 32 := Scalar.remsi v2 c2_i32_966
  let c0_i32_968 : BitVec 32 := 0#32
  let v1227 : BitVec 1 := Scalar.cmpi .sgt v2 c0_i32_968
  let v1228 : BitVec 32 := Scalar.extui v1227
  let c0_i32_969 : BitVec 32 := 0#32
  let v1229 : BitVec 1 := Scalar.cmpi .slt v2 c0_i32_969
  let v1230 : BitVec 32 := Scalar.extui v1229
  let v1231 : BitVec 32 := Scalar.subi v1228 v1230
  let c2_i32_967 : BitVec 32 := 2#32
  let c0_i32_970 : BitVec 32 := 0#32
  let v1232 : BitVec 1 := Scalar.cmpi .sgt c2_i32_967 c0_i32_970
  let v1233 : BitVec 32 := Scalar.extui v1232
  let c0_i32_971 : BitVec 32 := 0#32
  let v1234 : BitVec 1 := Scalar.cmpi .slt c2_i32_967 c0_i32_971
  let v1235 : BitVec 32 := Scalar.extui v1234
  let v1236 : BitVec 32 := Scalar.subi v1233 v1235
  let v1237 : BitVec 1 := Scalar.cmpi .ne v1231 v1236
  let v1238 : BitVec 32 := Scalar.remsi v2 c2_i32_967
  let c0_i32_972 : BitVec 32 := 0#32
  let v1239 : BitVec 1 := Scalar.cmpi .ne v1238 c0_i32_972
  let v1240 : BitVec 1 := Scalar.andi v1237 v1239
  let v1226 : BitVec 32 := Scalar.divsi v2 c2_i32_967
  let c1_i32_973 : BitVec 32 := 1#32
  let v1241 : BitVec 32 := Scalar.subi v1226 c1_i32_973
  let v1242 : BitVec 32 := Scalar.select v1240 v1241 v1226
  let c2_i32_974 : BitVec 32 := 2#32
  let v1243 : BitVec 32 := Scalar.remsi v1242 c2_i32_974
  let v1244 : BitVec 32 := Scalar.addi v1225 v1243
  let c2_i32_975 : BitVec 32 := 2#32
  let v1245 : BitVec 32 := Scalar.remsi v1244 c2_i32_975
  let c96_i32_1033 : BitVec 32 := 96#32
  let v1304 : BitVec 32 := Scalar.muli v1245 c96_i32_1033
  let v1305 : BitVec 32 := Scalar.subi v1168 v1304
  let c0_i32_1068 : BitVec 32 := 0#32
  let v1346 : BitVec 1 := Scalar.cmpi .sgt v2 c0_i32_1068
  let v1347 : BitVec 32 := Scalar.extui v1346
  let c0_i32_1069 : BitVec 32 := 0#32
  let v1348 : BitVec 1 := Scalar.cmpi .slt v2 c0_i32_1069
  let v1349 : BitVec 32 := Scalar.extui v1348
  let v1350 : BitVec 32 := Scalar.subi v1347 v1349
  let c4_i32_1067 : BitVec 32 := 4#32
  let c0_i32_1070 : BitVec 32 := 0#32
  let v1351 : BitVec 1 := Scalar.cmpi .sgt c4_i32_1067 c0_i32_1070
  let v1352 : BitVec 32 := Scalar.extui v1351
  let c0_i32_1071 : BitVec 32 := 0#32
  let v1353 : BitVec 1 := Scalar.cmpi .slt c4_i32_1067 c0_i32_1071
  let v1354 : BitVec 32 := Scalar.extui v1353
  let v1355 : BitVec 32 := Scalar.subi v1352 v1354
  let v1356 : BitVec 1 := Scalar.cmpi .ne v1350 v1355
  let v1357 : BitVec 32 := Scalar.remsi v2 c4_i32_1067
  let c0_i32_1072 : BitVec 32 := 0#32
  let v1358 : BitVec 1 := Scalar.cmpi .ne v1357 c0_i32_1072
  let v1359 : BitVec 1 := Scalar.andi v1356 v1358
  let v1345 : BitVec 32 := Scalar.divsi v2 c4_i32_1067
  let c1_i32_1073 : BitVec 32 := 1#32
  let v1360 : BitVec 32 := Scalar.subi v1345 c1_i32_1073
  let v1361 : BitVec 32 := Scalar.select v1359 v1360 v1345
  let c192_i32_1133 : BitVec 32 := 192#32
  let v1423 : BitVec 32 := Scalar.muli v1361 c192_i32_1133
  let v1424 : BitVec 32 := Scalar.subi v1305 v1423
  let c0_i32_1166 : BitVec 32 := 0#32
  ![v1424.toNat, 0]
def k0_dev20 (d0 : Dev nD) : Nat :=
  let c0_i32_1165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1159 : BitVec 32 := 3#32
  let v1446 : BitVec 32 := Scalar.xori v2 c3_i32_1159
  let c1_i32_1164 : BitVec 32 := 1#32
  let v1447 : BitVec 32 := Scalar.muli v1446 c1_i32_1164
  let v1448 : BitVec 32 := Scalar.addi c0_i32_1165 v1447
  v1448.toNat
def k0_off29 (d0 : Dev nD) : Fin 2 → Nat :=
  let c1536_i32_731 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_664 : BitVec 32 := 0#32
  let v814 : BitVec 1 := Scalar.cmpi .sgt v2 c0_i32_664
  let v815 : BitVec 32 := Scalar.extui v814
  let c0_i32_665 : BitVec 32 := 0#32
  let v816 : BitVec 1 := Scalar.cmpi .slt v2 c0_i32_665
  let v817 : BitVec 32 := Scalar.extui v816
  let v818 : BitVec 32 := Scalar.subi v815 v817
  let c4_i32_663 : BitVec 32 := 4#32
  let c0_i32_666 : BitVec 32 := 0#32
  let v819 : BitVec 1 := Scalar.cmpi .sgt c4_i32_663 c0_i32_666
  let v820 : BitVec 32 := Scalar.extui v819
  let c0_i32_667 : BitVec 32 := 0#32
  let v821 : BitVec 1 := Scalar.cmpi .slt c4_i32_663 c0_i32_667
  let v822 : BitVec 32 := Scalar.extui v821
  let v823 : BitVec 32 := Scalar.subi v820 v822
  let v824 : BitVec 1 := Scalar.cmpi .ne v818 v823
  let v825 : BitVec 32 := Scalar.remsi v2 c4_i32_663
  let c0_i32_668 : BitVec 32 := 0#32
  let v826 : BitVec 1 := Scalar.cmpi .ne v825 c0_i32_668
  let v827 : BitVec 1 := Scalar.andi v824 v826
  let v813 : BitVec 32 := Scalar.divsi v2 c4_i32_663
  let c1_i32_669 : BitVec 32 := 1#32
  let v828 : BitVec 32 := Scalar.subi v813 c1_i32_669
  let v829 : BitVec 32 := Scalar.select v827 v828 v813
  let c256_i32_730 : BitVec 32 := 256#32
  let v889 : BitVec 32 := Scalar.muli v829 c256_i32_730
  let v890 : BitVec 32 := Scalar.addi c1536_i32_731 v889
  let c2_i32_770 : BitVec 32 := 2#32
  let v958 : BitVec 32 := Scalar.remsi v2 c2_i32_770
  let c0_i32_772 : BitVec 32 := 0#32
  let v960 : BitVec 1 := Scalar.cmpi .sgt v2 c0_i32_772
  let v961 : BitVec 32 := Scalar.extui v960
  let c0_i32_773 : BitVec 32 := 0#32
  let v962 : BitVec 1 := Scalar.cmpi .slt v2 c0_i32_773
  let v963 : BitVec 32 := Scalar.extui v962
  let v964 : BitVec 32 := Scalar.subi v961 v963
  let c2_i32_771 : BitVec 32 := 2#32
  let c0_i32_774 : BitVec 32 := 0#32
  let v965 : BitVec 1 := Scalar.cmpi .sgt c2_i32_771 c0_i32_774
  let v966 : BitVec 32 := Scalar.extui v965
  let c0_i32_775 : BitVec 32 := 0#32
  let v967 : BitVec 1 := Scalar.cmpi .slt c2_i32_771 c0_i32_775
  let v968 : BitVec 32 := Scalar.extui v967
  let v969 : BitVec 32 := Scalar.subi v966 v968
  let v970 : BitVec 1 := Scalar.cmpi .ne v964 v969
  let v971 : BitVec 32 := Scalar.remsi v2 c2_i32_771
  let c0_i32_776 : BitVec 32 := 0#32
  let v972 : BitVec 1 := Scalar.cmpi .ne v971 c0_i32_776
  let v973 : BitVec 1 := Scalar.andi v970 v972
  let v959 : BitVec 32 := Scalar.divsi v2 c2_i32_771
  let c1_i32_777 : BitVec 32 := 1#32
  let v974 : BitVec 32 := Scalar.subi v959 c1_i32_777
  let v975 : BitVec 32 := Scalar.select v973 v974 v959
  let c2_i32_778 : BitVec 32 := 2#32
  let v976 : BitVec 32 := Scalar.remsi v975 c2_i32_778
  let v977 : BitVec 32 := Scalar.addi v958 v976
  let c2_i32_779 : BitVec 32 := 2#32
  let v978 : BitVec 32 := Scalar.remsi v977 c2_i32_779
  let c128_i32_838 : BitVec 32 := 128#32
  let v1038 : BitVec 32 := Scalar.muli v978 c128_i32_838
  let v1039 : BitVec 32 := Scalar.addi v890 v1038
  let c0_i32_880 : BitVec 32 := 0#32
  let v1111 : BitVec 1 := Scalar.cmpi .sgt v2 c0_i32_880
  let v1112 : BitVec 32 := Scalar.extui v1111
  let c0_i32_881 : BitVec 32 := 0#32
  let v1113 : BitVec 1 := Scalar.cmpi .slt v2 c0_i32_881
  let v1114 : BitVec 32 := Scalar.extui v1113
  let v1115 : BitVec 32 := Scalar.subi v1112 v1114
  let c2_i32_879 : BitVec 32 := 2#32
  let c0_i32_882 : BitVec 32 := 0#32
  let v1116 : BitVec 1 := Scalar.cmpi .sgt c2_i32_879 c0_i32_882
  let v1117 : BitVec 32 := Scalar.extui v1116
  let c0_i32_883 : BitVec 32 := 0#32
  let v1118 : BitVec 1 := Scalar.cmpi .slt c2_i32_879 c0_i32_883
  let v1119 : BitVec 32 := Scalar.extui v1118
  let v1120 : BitVec 32 := Scalar.subi v1117 v1119
  let v1121 : BitVec 1 := Scalar.cmpi .ne v1115 v1120
  let v1122 : BitVec 32 := Scalar.remsi v2 c2_i32_879
  let c0_i32_884 : BitVec 32 := 0#32
  let v1123 : BitVec 1 := Scalar.cmpi .ne v1122 c0_i32_884
  let v1124 : BitVec 1 := Scalar.andi v1121 v1123
  let v1110 : BitVec 32 := Scalar.divsi v2 c2_i32_879
  let c1_i32_885 : BitVec 32 := 1#32
  let v1125 : BitVec 32 := Scalar.subi v1110 c1_i32_885
  let v1126 : BitVec 32 := Scalar.select v1124 v1125 v1110
  let c2_i32_886 : BitVec 32 := 2#32
  let v1127 : BitVec 32 := Scalar.remsi v1126 c2_i32_886
  let c64_i32_945 : BitVec 32 := 64#32
  let v1187 : BitVec 32 := Scalar.muli v1127 c64_i32_945
  let v1188 : BitVec 32 := Scalar.addi v1039 v1187
  let c0_i32_986 : BitVec 32 := 0#32
  let v1256 : BitVec 1 := Scalar.cmpi .sgt v2 c0_i32_986
  let v1257 : BitVec 32 := Scalar.extui v1256
  let c0_i32_987 : BitVec 32 := 0#32
  let v1258 : BitVec 1 := Scalar.cmpi .slt v2 c0_i32_987
  let v1259 : BitVec 32 := Scalar.extui v1258
  let v1260 : BitVec 32 := Scalar.subi v1257 v1259
  let c2_i32_985 : BitVec 32 := 2#32
  let c0_i32_988 : BitVec 32 := 0#32
  let v1261 : BitVec 1 := Scalar.cmpi .sgt c2_i32_985 c0_i32_988
  let v1262 : BitVec 32 := Scalar.extui v1261
  let c0_i32_989 : BitVec 32 := 0#32
  let v1263 : BitVec 1 := Scalar.cmpi .slt c2_i32_985 c0_i32_989
  let v1264 : BitVec 32 := Scalar.extui v1263
  let v1265 : BitVec 32 := Scalar.subi v1262 v1264
  let v1266 : BitVec 1 := Scalar.cmpi .ne v1260 v1265
  let v1267 : BitVec 32 := Scalar.remsi v2 c2_i32_985
  let c0_i32_990 : BitVec 32 := 0#32
  let v1268 : BitVec 1 := Scalar.cmpi .ne v1267 c0_i32_990
  let v1269 : BitVec 1 := Scalar.andi v1266 v1268
  let v1255 : BitVec 32 := Scalar.divsi v2 c2_i32_985
  let c1_i32_991 : BitVec 32 := 1#32
  let v1270 : BitVec 32 := Scalar.subi v1255 c1_i32_991
  let v1271 : BitVec 32 := Scalar.select v1269 v1270 v1255
  let c2_i32_992 : BitVec 32 := 2#32
  let v1272 : BitVec 32 := Scalar.remsi v1271 c2_i32_992
  let c64_i32_1049 : BitVec 32 := 64#32
  let v1316 : BitVec 32 := Scalar.muli v1272 c64_i32_1049
  let v1317 : BitVec 32 := Scalar.subi v1188 v1316
  let c2_i32_1083 : BitVec 32 := 2#32
  let v1371 : BitVec 32 := Scalar.remsi v2 c2_i32_1083
  let c0_i32_1085 : BitVec 32 := 0#32
  let v1373 : BitVec 1 := Scalar.cmpi .sgt v2 c0_i32_1085
  let v1374 : BitVec 32 := Scalar.extui v1373
  let c0_i32_1086 : BitVec 32 := 0#32
  let v1375 : BitVec 1 := Scalar.cmpi .slt v2 c0_i32_1086
  let v1376 : BitVec 32 := Scalar.extui v1375
  let v1377 : BitVec 32 := Scalar.subi v1374 v1376
  let c2_i32_1084 : BitVec 32 := 2#32
  let c0_i32_1087 : BitVec 32 := 0#32
  let v1378 : BitVec 1 := Scalar.cmpi .sgt c2_i32_1084 c0_i32_1087
  let v1379 : BitVec 32 := Scalar.extui v1378
  let c0_i32_1088 : BitVec 32 := 0#32
  let v1380 : BitVec 1 := Scalar.cmpi .slt c2_i32_1084 c0_i32_1088
  let v1381 : BitVec 32 := Scalar.extui v1380
  let v1382 : BitVec 32 := Scalar.subi v1379 v1381
  let v1383 : BitVec 1 := Scalar.cmpi .ne v1377 v1382
  let v1384 : BitVec 32 := Scalar.remsi v2 c2_i32_1084
  let c0_i32_1089 : BitVec 32 := 0#32
  let v1385 : BitVec 1 := Scalar.cmpi .ne v1384 c0_i32_1089
  let v1386 : BitVec 1 := Scalar.andi v1383 v1385
  let v1372 : BitVec 32 := Scalar.divsi v2 c2_i32_1084
  let c1_i32_1090 : BitVec 32 := 1#32
  let v1387 : BitVec 32 := Scalar.subi v1372 c1_i32_1090
  let v1388 : BitVec 32 := Scalar.select v1386 v1387 v1372
  let c2_i32_1091 : BitVec 32 := 2#32
  let v1389 : BitVec 32 := Scalar.remsi v1388 c2_i32_1091
  let v1390 : BitVec 32 := Scalar.addi v1371 v1389
  let c2_i32_1092 : BitVec 32 := 2#32
  let v1391 : BitVec 32 := Scalar.remsi v1390 c2_i32_1092
  let c128_i32_1149 : BitVec 32 := 128#32
  let v1435 : BitVec 32 := Scalar.muli v1391 c128_i32_1149
  let v1436 : BitVec 32 := Scalar.subi v1317 v1435
  let c0_i32_1175 : BitVec 32 := 0#32
  ![v1436.toNat, 0]
def k0_dev21 (d0 : Dev nD) : Nat :=
  let c0_i32_1174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1168 : BitVec 32 := 4#32
  let v1455 : BitVec 32 := Scalar.xori v2 c4_i32_1168
  let c1_i32_1173 : BitVec 32 := 1#32
  let v1456 : BitVec 32 := Scalar.muli v1455 c1_i32_1173
  let v1457 : BitVec 32 := Scalar.addi c0_i32_1174 v1456
  v1457.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩
abbrev S2048x1024 : Shape := ⟨2, ![2048, 1024]⟩

abbrev nBuf : Space → Nat
  | .hbm => 139
  | .vmem => 0
  | .smem => 0
  | _ => 0

abbrev hbmTy0_0 (i : Nat) : BufTy := match i % 128 with
  | 0 => ⟨S1x2048x1024, .f32⟩
  | 1 => ⟨S1024x8192, .f32⟩
  | 2 => ⟨S1x2048x64x128, .f32⟩
  | 3 => ⟨S1x2048x64x128, .f32⟩
  | 4 => ⟨S8192x1024, .f32⟩
  | 5 => ⟨S1x2048x8192, .f32⟩
  | 6 => ⟨S1x2048x64x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S2048x2048, .i32⟩
  | 48 => ⟨S2048x2048, .i32⟩
  | 49 => ⟨S2048x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x2048, .i32⟩
  | 95 => ⟨S2048x2048, .i32⟩
  | 96 => ⟨S2048x2048, .i1⟩
  | 97 => ⟨S2048x2048, .i1⟩
  | 98 => ⟨S1x64x2048x2048, .f32⟩
  | 99 => ⟨S_, .f32⟩
  | 100 => ⟨S1x64x2048x2048, .f32⟩
  | 101 => ⟨S1x64x2048x2048, .f32⟩
  | 102 => ⟨S1x1x2048x2048, .i1⟩
  | 103 => ⟨S_, .f32⟩
  | 104 => ⟨S_, .f32⟩
  | 105 => ⟨S1x64x2048x2048, .i1⟩
  | 106 => ⟨S1x64x2048x2048, .f32⟩
  | 107 => ⟨S1x64x2048x2048, .f32⟩
  | 108 => ⟨S_, .f32⟩
  | 109 => ⟨S1x64x2048, .f32⟩
  | 110 => ⟨S1x64x2048x1, .f32⟩
  | 111 => ⟨S1x64x2048x2048, .f32⟩
  | 112 => ⟨S1x64x2048x2048, .f32⟩
  | 113 => ⟨S1x64x2048x2048, .f32⟩
  | 114 => ⟨S_, .i1⟩
  | 115 => ⟨S2048, .i1⟩
  | 116 => ⟨S1x1x2048x1, .i1⟩
  | 117 => ⟨S_, .f32⟩
  | 118 => ⟨S1x64x2048, .f32⟩
  | 119 => ⟨S1x64x2048x1, .f32⟩
  | 120 => ⟨S_, .f32⟩
  | 121 => ⟨S_, .f32⟩
  | 122 => ⟨S1x64x2048x1, .i1⟩
  | 123 => ⟨S1x64x2048x1, .f32⟩
  | 124 => ⟨S1x64x2048x1, .f32⟩
  | 125 => ⟨S1x64x2048x2048, .f32⟩
  | 126 => ⟨S1x64x2048x2048, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x64x2048x2048, .i1⟩
  | 3 => ⟨S1x64x2048x2048, .f32⟩
  | 4 => ⟨S1x64x2048x2048, .f32⟩
  | 5 => ⟨S1x64x128x2048, .f32⟩
  | 6 => ⟨S1x2048x64x128, .f32⟩
  | 7 => ⟨S1x2048x8192, .f32⟩
  | 8 => ⟨S1x2048x1024, .f32⟩
  | 9 => ⟨S1x2048x1024, .bf16⟩
  | 10 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Mesh.lean ====
/-
# The exchange pattern of the reduction

The eight devices reduce their partial products in three rounds and spread the result in three more. The rows of the
result fall into three bands; in every band a round pairs the devices along one of three exchange masks. Stage
`k = 3 i + r` is round `r` of band `i`. This module holds the arithmetic of it: each stage's partner, the rows a device
keeps and the rows it hands over, and the closed forms of the offsets and device numbers the program computes.
-/
module

public import proofs.«01_k».proof.Proof.Gen.KernelIdeal
public import proofs.«01_k».proof.Proof.Gen.KernelIdeal.Skeleton
public import Idealize.ShloMosaic.Lib.Pointwise.Index

@[expose] public section

noncomputable section

namespace Cert.Mesh

open Cert.KernelIdeal Cert.KernelIdeal.Gen
open Idealize.ShloMosaic

/-- The exchange mask of stage `k`. -/
def mask (k : Fin 9) : ℕ := match k.val with
  | 0 => 1 | 1 => 3 | 2 => 4 | 3 => 3 | 4 => 4 | 5 => 1 | 6 => 4 | 7 => 1 | _ => 3

/-- Half the rows that stage `k` works on: what a device keeps, and what it hands over. -/
@[reducible] def hs (k : Fin 9) : ℕ := match k with
  | 0 => 384 | 1 => 192 | 2 => 96 | 3 => 384 | 4 => 192 | 5 => 96 | 6 => 256 | 7 => 128 | 8 => 64

/-- The partner of device `c` in stage `k`. -/
def par (k : Fin 9) (c : Dev nD) : Dev nD := ⟨(Nat.xor c.val (mask k)) % 8, Nat.mod_lt _ (by decide)⟩

/-- Which half device `c` keeps in stage `k`: 0 the lower one, 1 the upper one. -/
def tb (k : Fin 9) (c : Dev nD) : ℕ := match mask k with
  | 1 => (c.val % 2 + c.val / 2 % 2) % 2
  | 3 => c.val / 2 % 2
  | _ => c.val / 4 % 2

/-- The first row of what device `c` holds before stage `k`. -/
def bOff (k : Fin 9) (c : Dev nD) : ℕ := match k.val with
  | 0 => 0
  | 1 => tb 0 c * 384
  | 2 => tb 0 c * 384 + tb 1 c * 192
  | 3 => 768
  | 4 => 768 + tb 3 c * 384
  | 5 => 768 + tb 3 c * 384 + tb 4 c * 192
  | 6 => 1536
  | 7 => 1536 + tb 6 c * 256
  | _ => 1536 + tb 6 c * 256 + tb 7 c * 128

/-- The first row device `c` keeps in stage `k`; -/
def kOff (k : Fin 9) (c : Dev nD) : ℕ := bOff k c + tb k c * hs k
/-- the first row it hands over. -/
def sOff (k : Fin 9) (c : Dev nD) : ℕ := bOff k c + (1 - tb k c) * hs k

theorem par_par : ∀ (k : Fin 9) (c : Dev nD), par k (par k c) = c := by decide +kernel
theorem sOff_par : ∀ (k : Fin 9) (c : Dev nD), sOff k (par k c) = kOff k c := by decide +kernel
theorem kOff_par : ∀ (k : Fin 9) (c : Dev nD), kOff k (par k c) = sOff k c := by decide +kernel
theorem kOff_le : ∀ (k : Fin 9) (c : Dev nD), kOff k c + hs k ≤ 2048 := by decide +kernel
theorem sOff_le : ∀ (k : Fin 9) (c : Dev nD), sOff k c + hs k ≤ 2048 := by decide +kernel
theorem par_ne : ∀ (k : Fin 9) (c : Dev nD), par k c ≠ c := by decide +kernel

/-- The exchange of stage `k` as a permutation of the devices. -/
def parE (k : Fin 9) : Dev nD ≃ Dev nD := ⟨par k, par k, par_par k, par_par k⟩

/-- The band a row lies in. -/
def inst (r : ℕ) : ℕ := if r < 768 then 0 else if r < 1536 then 1 else 2

/-- The halves of a stage make what the device held before it. -/
theorem halves : ∀ (k : Fin 9) (c : Dev nD), (kOff k c = bOff k c ∧ sOff k c = bOff k c + hs k) ∨ (sOff k c = bOff k c ∧ kOff k c = bOff k c + hs k) := by decide +kernel

theorem next1 (c : Dev nD) : bOff 1 c = kOff 0 c := by revert c; decide +kernel
theorem next2 (c : Dev nD) : bOff 2 c = kOff 1 c := by revert c; decide +kernel
theorem next4 (c : Dev nD) : bOff 4 c = kOff 3 c := by revert c; decide +kernel
theorem next5 (c : Dev nD) : bOff 5 c = kOff 4 c := by revert c; decide +kernel
theorem next7 (c : Dev nD) : bOff 7 c = kOff 6 c := by revert c; decide +kernel
theorem next8 (c : Dev nD) : bOff 8 c = kOff 7 c := by revert c; decide +kernel

/-- Stage `k`'s rows lie in band `k / 3`. -/
theorem kOff_band : ∀ (k : Fin 9) (c : Dev nD), inst (kOff k c) = k.val / 3 ∧ inst (kOff k c + hs k - 1) = k.val / 3 := by decide +kernel

theorem inst_mono {a b : ℕ} (h : a ≤ b) : inst a ≤ inst b := by unfold inst; split_ifs <;> omega

theorem inst_kept (k : Fin 9) (c : Dev nD) (r : ℕ) (h1 : kOff k c ≤ r) (h2 : r < kOff k c + hs k) : inst r = k.val / 3 := by
  obtain ⟨ha, hb⟩ := kOff_band k c
  have h3 := inst_mono h1
  have h4 : inst r ≤ inst (kOff k c + hs k - 1) := inst_mono (by omega)
  omega

/-! ## The program's offsets and device numbers -/

theorem off3 : ∀ c : Dev nD, k0_off3 c = ![sOff 0 c, 0] := by decide +kernel
theorem off4 : ∀ c : Dev nD, k0_off4 c = ![sOff 3 c, 0] := by decide +kernel
theorem off5 : ∀ c : Dev nD, k0_off5 c = ![sOff 6 c, 0] := by decide +kernel
theorem off6 : ∀ c : Dev nD, k0_off6 c = ![kOff 0 c, 0] := by decide +kernel
theorem off7 : ∀ c : Dev nD, k0_off7 c = ![kOff 3 c, 0] := by decide +kernel
theorem off8 : ∀ c : Dev nD, k0_off8 c = ![kOff 6 c, 0] := by decide +kernel
theorem off9 : ∀ c : Dev nD, k0_off9 c = ![sOff 1 c, 0] := by decide +kernel
theorem off10 : ∀ c : Dev nD, k0_off10 c = ![sOff 4 c, 0] := by decide +kernel
theorem off11 : ∀ c : Dev nD, k0_off11 c = ![sOff 7 c, 0] := by decide +kernel
theorem off12 : ∀ c : Dev nD, k0_off12 c = ![kOff 1 c, 0] := by decide +kernel
theorem off13 : ∀ c : Dev nD, k0_off13 c = ![kOff 4 c, 0] := by decide +kernel
theorem off14 : ∀ c : Dev nD, k0_off14 c = ![kOff 7 c, 0] := by decide +kernel
theorem off15 : ∀ c : Dev nD, k0_off15 c = ![sOff 2 c, 0] := by decide +kernel
theorem off16 : ∀ c : Dev nD, k0_off16 c = ![sOff 5 c, 0] := by decide +kernel
theorem off17 : ∀ c : Dev nD, k0_off17 c = ![sOff 8 c, 0] := by decide +kernel
theorem off18 : ∀ c : Dev nD, k0_off18 c = ![kOff 2 c, 0] := by decide +kernel
theorem off19 : ∀ c : Dev nD, k0_off19 c = ![kOff 5 c, 0] := by decide +kernel
theorem off20 : ∀ c : Dev nD, k0_off20 c = ![kOff 8 c, 0] := by decide +kernel
theorem off21 : ∀ c : Dev nD, k0_off21 c = ![kOff 2 c, 0] := by decide +kernel
theorem off22 : ∀ c : Dev nD, k0_off22 c = ![kOff 5 c, 0] := by decide +kernel
theorem off23 : ∀ c : Dev nD, k0_off23 c = ![kOff 8 c, 0] := by decide +kernel
theorem off24 : ∀ c : Dev nD, k0_off24 c = ![kOff 1 c, 0] := by decide +kernel
theorem off25 : ∀ c : Dev nD, k0_off25 c = ![kOff 4 c, 0] := by decide +kernel
theorem off26 : ∀ c : Dev nD, k0_off26 c = ![kOff 7 c, 0] := by decide +kernel
theorem off27 : ∀ c : Dev nD, k0_off27 c = ![kOff 0 c, 0] := by decide +kernel
theorem off28 : ∀ c : Dev nD, k0_off28 c = ![kOff 3 c, 0] := by decide +kernel
theorem off29 : ∀ c : Dev nD, k0_off29 c = ![kOff 6 c, 0] := by decide +kernel

theorem dev1 : ∀ c : Dev nD, (⟨k0_dev1 c, k0_dev1_lt c⟩ : Dev nD) = par 0 c := by decide +kernel
theorem dev2 : ∀ c : Dev nD, (⟨k0_dev2 c, k0_dev2_lt c⟩ : Dev nD) = par 1 c := by decide +kernel
theorem dev3 : ∀ c : Dev nD, (⟨k0_dev3 c, k0_dev3_lt c⟩ : Dev nD) = par 2 c := by decide +kernel
theorem dev4 : ∀ c : Dev nD, (⟨k0_dev4 c, k0_dev4_lt c⟩ : Dev nD) = par 0 c := by decide +kernel
theorem dev5 : ∀ c : Dev nD, (⟨k0_dev5 c, k0_dev5_lt c⟩ : Dev nD) = par 3 c := by decide +kernel
theorem dev6 : ∀ c : Dev nD, (⟨k0_dev6 c, k0_dev6_lt c⟩ : Dev nD) = par 6 c := by decide +kernel
theorem dev7 : ∀ c : Dev nD, (⟨k0_dev7 c, k0_dev7_lt c⟩ : Dev nD) = par 1 c := by decide +kernel
theorem dev8 : ∀ c : Dev nD, (⟨k0_dev8 c, k0_dev8_lt c⟩ : Dev nD) = par 4 c := by decide +kernel
theorem dev9 : ∀ c : Dev nD, (⟨k0_dev9 c, k0_dev9_lt c⟩ : Dev nD) = par 7 c := by decide +kernel
theorem dev10 : ∀ c : Dev nD, (⟨k0_dev10 c, k0_dev10_lt c⟩ : Dev nD) = par 2 c := by decide +kernel
theorem dev11 : ∀ c : Dev nD, (⟨k0_dev11 c, k0_dev11_lt c⟩ : Dev nD) = par 5 c := by decide +kernel
theorem dev12 : ∀ c : Dev nD, (⟨k0_dev12 c, k0_dev12_lt c⟩ : Dev nD) = par 8 c := by decide +kernel
theorem dev13 : ∀ c : Dev nD, (⟨k0_dev13 c, k0_dev13_lt c⟩ : Dev nD) = par 2 c := by decide +kernel
theorem dev14 : ∀ c : Dev nD, (⟨k0_dev14 c, k0_dev14_lt c⟩ : Dev nD) = par 5 c := by decide +kernel
theorem dev15 : ∀ c : Dev nD, (⟨k0_dev15 c, k0_dev15_lt c⟩ : Dev nD) = par 8 c := by decide +kernel
theorem dev16 : ∀ c : Dev nD, (⟨k0_dev16 c, k0_dev16_lt c⟩ : Dev nD) = par 1 c := by decide +kernel
theorem dev17 : ∀ c : Dev nD, (⟨k0_dev17 c, k0_dev17_lt c⟩ : Dev nD) = par 4 c := by decide +kernel
theorem dev18 : ∀ c : Dev nD, (⟨k0_dev18 c, k0_dev18_lt c⟩ : Dev nD) = par 7 c := by decide +kernel
theorem dev19 : ∀ c : Dev nD, (⟨k0_dev19 c, k0_dev19_lt c⟩ : Dev nD) = par 0 c := by decide +kernel
theorem dev20 : ∀ c : Dev nD, (⟨k0_dev20 c, k0_dev20_lt c⟩ : Dev nD) = par 3 c := by decide +kernel
theorem dev21 : ∀ c : Dev nD, (⟨k0_dev21 c, k0_dev21_lt c⟩ : Dev nD) = par 6 c := by decide +kernel

end Cert.Mesh

end
-- ==== Proof.Proto.lean ====
/-
# The protocol of the exchanges

Every device owns thirty-nine counters that take part: its barrier counter, and a send and a receive counter for each of
the nine stages of the reduction and of the spreading, and one counter each for its two local copies. This module states,
for each counter, who pays it, how much, and what changes hands when the payment lands, contents included.

- The barrier counter of a device is paid one unit by each of its three partners. A payment hands over the landing
  buffers of the stages in which the payer receives from this device.
- The receive counter of stage `k` of the reduction is paid by the partner. The payment hands over the device's landing
  buffer holding the partner's rows, and those rows of the partner's result buffer themselves: the device writes the
  finished rows back into them when the result is spread.
- The receive counter of stage `k` of the spreading is paid by the partner and hands back the rows given away in stage
  `k` of the reduction, now finished; the send counter hands the sender's own rows back.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Tactic

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## Buffers -/

abbrev xM : Memref sig .tc .vmem S1x2048x1024 .f32 := Memref.whole cc0_stg0_0
abbrev wqM : Memref sig .tc .vmem S1024x1024 .f32 := Memref.whole cc0_stg1_0
abbrev kM : Memref sig .tc .hbm S1x2048x64x128 .f32 := Memref.whole main_arg2
abbrev vM : Memref sig .tc .hbm S1x2048x64x128 .f32 := Memref.whole main_arg3
abbrev woM : Memref sig .tc .vmem S1024x1024 .f32 := Memref.whole cc0_stg2_0
abbrev oM : Memref sig .tc .vmem S2048x1024 .bf16 := Memref.whole cc0_stg3_0
abbrev xpM : Memref sig .tc .vmem S2048x1024 .bf16 := Memref.whole cc0_scratch0
abbrev kpM : Memref sig .tc .vmem S2048x1024 .bf16 := Memref.whole cc0_scratch1
abbrev vpM : Memref sig .tc .vmem S2048x1024 .bf16 := Memref.whole cc0_scratch2
abbrev qpM : Memref sig .tc .vmem S2048x1024 .bf16 := Memref.whole cc0_scratch3
abbrev kvM : Memref sig .tc .vmem S2048x8x128 .f32 := Memref.whole cc0_scratch4

/-- The landing buffer of stage `k`. -/
abbrev rbM (k : Fin 9) : Memref sig .tc .vmem ⟨2, ![hs k, 1024]⟩ .bf16 := match k with
  | 0 => (Memref.whole cc0_scratch5 : Memref sig .tc .vmem S384x1024 .bf16)
  | 1 => (Memref.whole cc0_scratch6 : Memref sig .tc .vmem S192x1024 .bf16)
  | 2 => (Memref.whole cc0_scratch7 : Memref sig .tc .vmem S96x1024 .bf16)
  | 3 => (Memref.whole cc0_scratch8 : Memref sig .tc .vmem S384x1024 .bf16)
  | 4 => (Memref.whole cc0_scratch9 : Memref sig .tc .vmem S192x1024 .bf16)
  | 5 => (Memref.whole cc0_scratch10 : Memref sig .tc .vmem S96x1024 .bf16)
  | 6 => (Memref.whole cc0_scratch11 : Memref sig .tc .vmem S256x1024 .bf16)
  | 7 => (Memref.whole cc0_scratch12 : Memref sig .tc .vmem S128x1024 .bf16)
  | 8 => (Memref.whole cc0_scratch13 : Memref sig .tc .vmem S64x1024 .bf16)

/-- Rows `off 0 …` of the result buffer, as the program slices them. -/
abbrev oSl (off : Fin 2 → ℕ) (n : ℕ) (inb : ∀ a, off a + (![n, 1024] : Fin 2 → ℕ) a ≤ S2048x1024.size a) :
    Memref sig .tc .vmem ⟨2, ![n, 1024]⟩ .bf16 := oM.slice (Rect.unit (s := S2048x1024) off ![n, 1024] inb) (fun _ => rfl)

/-- The heads of device `c` in the keys' and the values' arrays, as the program slices them. -/
abbrev kSl (c : Dev nD) : Memref sig .tc .hbm S2048x8x128 .f32 :=
  Memref.squeeze (kM.slice (Rect.unit (s := S1x2048x64x128) (k0_off1 c) S1x2048x8x128.size (k0_off1_inb c)) (fun _ => rfl)) S2048x8x128 squeezes_S1x2048x8x128_S2048x8x128
abbrev vSl (c : Dev nD) : Memref sig .tc .hbm S2048x8x128 .f32 :=
  Memref.squeeze (vM.slice (Rect.unit (s := S1x2048x64x128) (k0_off1 c) S1x2048x8x128.size (k0_off1_inb c)) (fun _ => rfl)) S2048x8x128 squeezes_S1x2048x8x128_S2048x8x128

/-! ## Counters -/

abbrev barS : Sem sig := (SemArray.scalar (sig.barrier 0 rfl) : Sems sig S_).sem
abbrev rsS (k : Fin 9) : DmaSem sig := ⟨4 + k.val, by have := k.isLt; show 4 + k.val < 42; omega⟩
abbrev rsR (k : Fin 9) : DmaSem sig := ⟨13 + k.val, by have := k.isLt; show 13 + k.val < 42; omega⟩
abbrev agS (k : Fin 9) : DmaSem sig := ⟨22 + k.val, by have := k.isLt; show 22 + k.val < 42; omega⟩
abbrev agR (k : Fin 9) : DmaSem sig := ⟨31 + k.val, by have := k.isLt; show 31 + k.val < 42; omega⟩
abbrev kS : DmaSem sig := ⟨40, by decide⟩
abbrev vS : DmaSem sig := ⟨41, by decide⟩

/-- The barrier counter of device `c`, and its DMA counters. -/
abbrev barC (c : Dev nD) : GSem nD τ sig := ((c : Thread nD τ), .reg barS)
abbrev dmaC (q : DmaSem sig) (c : Dev nD) : GSem nD τ sig := ((c : Thread nD τ), .dma q)

/-- The units a transfer of stage `k` pays. -/
def ncr (k : Fin 9) : ℕ := (rbM k).view.dmaCredit
def nkv : ℕ := kvM.view.dmaCredit

theorem ncr_pos (k : Fin 9) : 0 < ncr k := View.dmaCredit_pos _ (by revert k; decide)
theorem nkv_pos : 0 < nkv := View.dmaCredit_pos _ (by decide)

/-! ## Contents -/

/-- Row `o + y 0`, column `y 1`. -/
def rowAt {n : ℕ} (o : ℕ) (y : (⟨2, ![n, 1024]⟩ : Shape).Idx) : S2048x1024.Idx :=
  ix2 ⟨(o + (y 0).val) % 2048, Nat.mod_lt _ (by decide)⟩ (y 1)

/-- Two partial results added the way the program adds them: widened, added, rounded. -/
def addB (a b : F .bf16) : F .bf16 := FloatOps.truncf .bf16 bitsLt_bf16_f32 (FloatOps.addf (FloatOps.extf .f32 bitsLt_bf16_f32 a) (FloatOps.extf .f32 bitsLt_bf16_f32 b))

/-- The stage of round `r` that the rows of index `x` go through. -/
def stg (r : ℕ) (x : S2048x1024.Idx) : Fin 9 := ⟨(3 * inst (x 0).val + r % 3) % 9, Nat.mod_lt _ (by decide)⟩

variable (P : Dev nD → Vec F S2048x1024 .bf16)

/-- Device `c`'s partial result after `r` rounds. -/
def acc : ℕ → Dev nD → Vec F S2048x1024 .bf16
  | 0, c => P c
  | r + 1, c => fun x => addB (acc r c x) (acc r (par (stg r x) c) x)

/-- Whether device `c` keeps row `r` to the end. -/
def keeps (c : Dev nD) (r : ℕ) : Bool :=
  (kOff 2 c ≤ r && r < kOff 2 c + 96) || (kOff 5 c ≤ r && r < kOff 5 c + 96) || (kOff 8 c ≤ r && r < kOff 8 c + 64)

/-- The device that keeps row `r` to the end. -/
def owner (r : ℕ) : Dev nD := (List.finRange 8).find? (fun c => keeps c r) |>.getD 0

/-- The finished result. -/
def res : Vec F S2048x1024 .bf16 := fun x => acc P 3 (owner (x 0).val) x

/-- What lands in device `c`'s buffer in stage `k`. -/
def landed (k : Fin 9) (c : Dev nD) : Vec F ⟨2, ![hs k, 1024]⟩ .bf16 := fun y => acc P (k.val % 3) (par k c) (rowAt (kOff k c) y)

/-! ## Holdings -/

/-- Rows `o … o + n - 1` of a whole buffer of the result's shape. -/
def rowsS (o n : ℕ) : Finset S2048x1024.Idx := Finset.univ.filter fun x => o ≤ (x 0).val ∧ (x 0).val < o + n

omit [FloatOps F] in
theorem mem_rowsS {o n : ℕ} {x : S2048x1024.Idx} : x ∈ rowsS o n ↔ o ≤ (x 0).val ∧ (x 0).val < o + n := by
  unfold rowsS; rw [Finset.mem_filter]; exact ⟨fun h => h.2, fun h => ⟨Finset.mem_univ _, h⟩⟩

/-- Device `c` holds rows `o … o + n - 1` of its result buffer at `f`. -/
def oPts (c : Dev nD) (o n : ℕ) (f : Vec F S2048x1024 .bf16) : sProp 𝕄 := ((c : Thread nD τ).loc cc0_stg3_0) ↦[rowsS o n]{fullShare} f

/-- Device `c` holds the landing buffer of stage `k` at `f`. -/
def rbPts (k : Fin 9) (c : Dev nD) (f : Buf (Elt F) ((rbM k).view.loc (c : Thread nD τ))) : sProp 𝕄 := (rbM k).view.loc (c : Thread nD τ) ↦[(rbM k).view.set]{fullShare} f
def rbAny (k : Fin 9) (c : Dev nD) : sProp 𝕄 := iprop(∃ f, rbPts k c f)
/-- The landing buffer of stage `k` holding `X`. -/
def rbAt (k : Fin 9) (c : Dev nD) (X : Vec F ⟨2, ![hs k, 1024]⟩ .bf16) : sProp 𝕄 := iprop(∃ f, rbPts k c f ∗ ⌜(rbM k).view.read (Elt F) f = X⌝)

variable (m : (ℓ : Loc nD τ sig) → Buf (Elt F) ℓ)

/-- Device `c`'s heads of the keys and of the values. -/
def kVal (c : Dev nD) : Vec F S2048x8x128 .f32 := (kSl c).view.read (Elt F) (m ((c : Thread nD τ).loc main_arg2))
def vVal (c : Dev nD) : Vec F S2048x8x128 .f32 := (vSl c).view.read (Elt F) (m ((c : Thread nD τ).loc main_arg3))

def kvPts (c : Dev nD) (f : Vec F S2048x8x128 .f32) : sProp 𝕄 := ((c : Thread nD τ).loc cc0_scratch4) ↦{fullShare} f
def kArg (c : Dev nD) : sProp 𝕄 := (kSl c).view.loc (c : Thread nD τ) ↦[(kSl c).view.set]{fullShare} (m ((c : Thread nD τ).loc main_arg2))
def vArg (c : Dev nD) : sProp 𝕄 := (vSl c).view.loc (c : Thread nD τ) ↦[(vSl c).view.set]{fullShare} (m ((c : Thread nD τ).loc main_arg3))

omit [FloatOps F] in
instance oPts_storable (c o n f) : BI.Storable (upEmb : UEmb _ 𝕄) (oPts (F := F) c o n f) := by unfold oPts; infer_instance
omit [FloatOps F] in
instance rbPts_storable (k c f) : BI.Storable (upEmb : UEmb _ 𝕄) (rbPts (F := F) k c f) := by unfold rbPts; infer_instance
omit [FloatOps F] in
instance rbAny_storable (k c) : BI.Storable (upEmb : UEmb _ 𝕄) (rbAny (F := F) k c) := by unfold rbAny; infer_instance
omit [FloatOps F] in
instance rbAt_storable (k c X) : BI.Storable (upEmb : UEmb _ 𝕄) (rbAt (F := F) k c X) := by unfold rbAt; infer_instance
omit [FloatOps F] in
instance kvPts_storable (c f) : BI.Storable (upEmb : UEmb _ 𝕄) (kvPts (F := F) c f) := by unfold kvPts; infer_instance
omit [FloatOps F] in
instance kArg_storable (c) : BI.Storable (upEmb : UEmb _ 𝕄) (kArg (F := F) m c) := by unfold kArg; infer_instance
omit [FloatOps F] in
instance vArg_storable (c) : BI.Storable (upEmb : UEmb _ 𝕄) (vArg (F := F) m c) := by unfold vArg; infer_instance

/-! ## The schedule -/

/-- What partner `d` (along masks 1, 3, 4) hands device `c` at the barrier: the landing buffers it receives `c`'s rows in. -/
def barPay (d : Fin 3) (c : Dev nD) : sProp 𝕄 := match d with
  | 0 => iprop(rbAny 0 (par 0 c) ∗ rbAny 5 (par 5 c) ∗ rbAny 7 (par 7 c))
  | 1 => iprop(rbAny 1 (par 1 c) ∗ rbAny 3 (par 3 c) ∗ rbAny 8 (par 8 c))
  | 2 => iprop(rbAny 2 (par 2 c) ∗ rbAny 4 (par 4 c) ∗ rbAny 6 (par 6 c))

def rsPay (k : Fin 9) (c : Dev nD) : sProp 𝕄 := iprop(rbAt k c (landed P k c) ∗ oPts (par k c) (kOff k c) (hs k) (acc P (k.val % 3) (par k c)))
def agSPay (k : Fin 9) (c : Dev nD) : sProp 𝕄 := oPts c (kOff k c) (hs k) (res P)
def agRPay (k : Fin 9) (c : Dev nD) : sProp 𝕄 := oPts c (sOff k c) (hs k) (res P)
def kPay (c : Dev nD) : sProp 𝕄 := iprop(kvPts c (kVal m c) ∗ kArg m c)
def vPay (c : Dev nD) : sProp 𝕄 := iprop(kvPts c (vVal m c) ∗ vArg m c)

def dmaPay (n : ℕ) (c : Dev nD) : sProp 𝕄 :=
  if n < 13 then iprop(emp)
  else if n < 22 then rsPay P ⟨(n - 13) % 9, Nat.mod_lt _ (by decide)⟩ c
  else if n < 31 then agSPay P ⟨(n - 22) % 9, Nat.mod_lt _ (by decide)⟩ c
  else if n < 40 then agRPay P ⟨(n - 31) % 9, Nat.mod_lt _ (by decide)⟩ c
  else if n < 41 then kPay m c
  else vPay m c

def dmaAmt (n : ℕ) : ℕ := if n < 40 then ncr ⟨(n - 4) % 9, Nat.mod_lt _ (by decide)⟩ else nkv

instance dmaPay_storable (n : ℕ) (c : Dev nD) : BI.Storable (upEmb : UEmb _ 𝕄) (dmaPay P m n c) := by
  unfold dmaPay rsPay agSPay agRPay kPay vPay
  (repeat' split) <;> infer_instance

instance barPay_storable (d : Fin 3) (c : Dev nD) : BI.Storable (upEmb : UEmb _ 𝕄) (barPay (F := F) d c) := by
  unfold barPay; split <;> infer_instance

/-- One round: three duties of a unit on a barrier counter, one duty of the transfer's credit on a transfer's counter. -/
def Rd : Rounds.Schedule (GSem nD τ sig) (Fin 3) 𝕄 where
  duties g r := if r = 0 ∧ g.1.2 = .tc then (match g.2 with | .reg _ => Finset.univ | .dma q => if 4 ≤ q.val then {0} else ∅) else ∅
  unitless _ := False
  amount g _ _ := match g.2 with | .reg _ => 1 | .dma q => dmaAmt q.val
  payload g _ d := match g.2 with | .reg _ => barPay d g.1.1 | .dma q => dmaPay P m q.val g.1.1
  amount_pos g _ _ _ := by
    rcases hg : g.2 with s | q
    · exact Nat.one_pos
    · show 0 < dmaAmt q.val
      unfold dmaAmt; split
      · exact ncr_pos _
      · exact nkv_pos

instance Rd_payload_storable (g : GSem nD τ sig) (r : ℕ) (d : Fin 3) : BI.Storable (upEmb : UEmb _ 𝕄) ((Rd P m).payload g r d) := by
  show BI.Storable upEmb (match g.2 with | .reg _ => barPay d g.1.1 | .dma q => dmaPay P m q.val g.1.1)
  split <;> infer_instance

omit [FloatOps F] in
theorem univ3 : (Finset.univ : Finset (Fin 3)) = {0, 1, 2} := by decide

theorem duties_bar (c : Dev nD) : (Rd P m).duties (barC c) 0 = Finset.univ := rfl
theorem duties_dma (q : DmaSem sig) (c : Dev nD) (h : 4 ≤ q.val) : (Rd P m).duties (dmaC q c) 0 = {0} := by
  show (if (0 = 0 ∧ True) then (if 4 ≤ q.val then ({0} : Finset (Fin 3)) else ∅) else ∅) = {0}
  rw [if_pos ⟨rfl, trivial⟩, if_pos h]
theorem duties_later (g : GSem nD τ sig) : ∀ r, 1 ≤ r → (Rd P m).duties g r = ∅ := fun r hr => by
  dsimp only [Rd]; exact if_neg fun h => by omega

theorem amount_bar (c : Dev nD) (d : Fin 3) : (Rd P m).amount (barC c) 0 d = 1 := rfl
theorem amount_dma (q : DmaSem sig) (c : Dev nD) (d : Fin 3) : (Rd P m).amount (dmaC q c) 0 d = dmaAmt q.val := rfl
theorem expect_bar (c : Dev nD) : (Rd P m).expect (barC c) 0 = 3 := by
  unfold Schedule.expect Schedule.amountOf
  rw [duties_bar, Finset.sum_congr rfl fun d _ => amount_bar P m c d]; rfl
theorem expect_dma (q : DmaSem sig) (c : Dev nD) (h : 4 ≤ q.val) : (Rd P m).expect (dmaC q c) 0 = dmaAmt q.val := by
  unfold Schedule.expect Schedule.amountOf; rw [duties_dma P m q c h, Finset.sum_singleton, amount_dma]
theorem payload_bar (c : Dev nD) (d : Fin 3) : (Rd P m).payload (barC c) 0 d = barPay d c := rfl
theorem payload_dma (q : DmaSem sig) (c : Dev nD) (d : Fin 3) : (Rd P m).payload (dmaC q c) 0 d = dmaPay P m q.val c := rfl

theorem dmaAmt_rsS (k : Fin 9) : dmaAmt (rsS k).val = ncr k := by fin_cases k <;> rfl
theorem dmaAmt_rsR (k : Fin 9) : dmaAmt (rsR k).val = ncr k := by fin_cases k <;> rfl
theorem dmaAmt_agS (k : Fin 9) : dmaAmt (agS k).val = ncr k := by fin_cases k <;> rfl
theorem dmaAmt_agR (k : Fin 9) : dmaAmt (agR k).val = ncr k := by fin_cases k <;> rfl
theorem dmaPay_rsS (k : Fin 9) (c : Dev nD) : dmaPay P m (rsS k).val c = iprop(emp) := by fin_cases k <;> rfl
theorem dmaPay_rsR (k : Fin 9) (c : Dev nD) : dmaPay P m (rsR k).val c = rsPay P k c := by fin_cases k <;> rfl
theorem dmaPay_agS (k : Fin 9) (c : Dev nD) : dmaPay P m (agS k).val c = agSPay P k c := by fin_cases k <;> rfl
theorem dmaPay_agR (k : Fin 9) (c : Dev nD) : dmaPay P m (agR k).val c = agRPay P k c := by fin_cases k <;> rfl

/-- The rest of a counter's round, no duty taken. -/
theorem rest_bar (c : Dev nD) : bigSep ((Rd P m).duties (barC c) 0 \ ∅) (fun d => (Rd P m).payload (barC c) 0 d) = iprop(barPay 0 c ∗ barPay 1 c ∗ barPay 2 c) := by
  rw [Finset.sdiff_empty, duties_bar, bigSep_univ_eq_bigSepL [0, 1, 2] (by decide) (by decide)]; rfl
theorem rest_dma (q : DmaSem sig) (c : Dev nD) (h : 4 ≤ q.val) : bigSep ((Rd P m).duties (dmaC q c) 0 \ ∅) (fun d => (Rd P m).payload (dmaC q c) 0 d) = dmaPay P m q.val c := by
  rw [Finset.sdiff_empty, duties_dma P m q c h, bigSep_singleton, payload_dma]

/-! ## What a device owes, in the order it pays it -/

/-- One payment of device `c` in stage `k` of the reduction; of the spreading. -/
abbrev payRS (k : Fin 9) (i : ℕ) (c : Dev nD) : Pay nD τ sig := (dmaC (rsR k) (par k c), i, ncr k)
abbrev payAG (k : Fin 9) (i : ℕ) (c : Dev nD) : Pay nD τ sig := (dmaC (agR k) (par k c), i, ncr k)
abbrev payBar (k : Fin 9) (c : Dev nD) : Pay nD τ sig := (barC (par k c), 1, 1)

/-- Everything device `c` pays, in order, each payment with the level of its counter. -/
def due (c : Dev nD) : List (Pay nD τ sig) :=
  [payBar 0 c, payBar 1 c, payBar 2 c,
   payRS 0 2 c, payRS 3 2 c, payRS 6 2 c, payRS 1 3 c, payRS 4 3 c, payRS 7 3 c, payRS 2 4 c, payRS 5 4 c, payRS 8 4 c,
   payAG 2 5 c, payAG 5 5 c, payAG 8 5 c, payAG 1 6 c, payAG 4 6 c, payAG 7 6 c, payAG 0 7 c, payAG 3 7 c, payAG 6 7 c]

/-- Device `c` owes the payments of the list. -/
def owe (c : Dev nD) (l : List (Pay nD τ sig)) : sProp 𝕄 := iprop(∃ W, owes (c : Thread nD τ) (tallyL l) W)

/-- The levels known. -/
def lev : sProp 𝕄 := levAts (SiteBlocks.L 9) SiteBlocks.lv

instance lev_persistent : BI.Persistent (lev : sProp 𝕄) := by unfold lev; infer_instance

/-- A wait at level `i` while every payment still owed is at a higher level. -/
theorem mayWait (c : Dev nD) (sm : SemLoc sig) (i : ℕ) (hi : i < 9) (l : List (Pay nD τ sig)) (hl : ∀ x ∈ l, x.1.1.2 = .tc ∧ i < x.2.1 ∧ x.2.1 < 9) :
    (lev : sProp 𝕄) ⊢ MayWait (c : Thread nD τ) sm i (tallyL l) :=
  SiteBlocks.mayWait_of hi c sm _ fun g k h => by
    obtain ⟨x, hx, rfl, rfl⟩ := TalkSites.tallyL_pos h
    obtain ⟨h1, h2, h3⟩ := hl x hx
    exact ⟨SiteBlocks.mem_L' h1 h3, h2⟩

/-! ## The standing facts -/

/-- The counters of the protocol: the barrier first, then the DMA counters from the fourth on. -/
abbrev csem (j : Fin 39) : SemLoc sig := if j.val = 0 then .reg barS else .dma ⟨(j.val + 3) % 42, Nat.mod_lt _ (by decide)⟩
abbrev kcell (cj : Dev nD × Fin 39) : GSem nD τ sig := ((cj.1 : Thread nD τ), csem cj.2)

/-- Every counter's invariant, and that its first round is open: what every device may use at any time. -/
def records : sProp 𝕄 := bigSep Finset.univ fun cj : Dev nD × Fin 39 => iprop((∃ κ : ℕ, cellInv ER (Rd P m) κ (kcell cj)) ∗ reached ER (kcell cj) 0)

instance records_persistent : BI.Persistent (records P m) := by unfold records; infer_instance

theorem records_at (cj : Dev nD × Fin 39) : records P m ⊢ iprop((∃ κ : ℕ, cellInv ER (Rd P m) κ (kcell cj)) ∗ reached ER (kcell cj) 0) :=
  bigSep_elim (Φ := fun cj : Dev nD × Fin 39 => iprop((∃ κ : ℕ, cellInv ER (Rd P m) κ (kcell cj)) ∗ reached ER (kcell cj) 0)) (Finset.mem_univ cj)

theorem records_bar (c : Dev nD) : records P m ⊢ iprop((∃ κ : ℕ, cellInv ER (Rd P m) κ (barC c)) ∗ reached ER (barC c) 0) := records_at P m (c, 0)
theorem records_dma (q : DmaSem sig) (c : Dev nD) (h : 4 ≤ q.val) : records P m ⊢ iprop((∃ κ : ℕ, cellInv ER (Rd P m) κ (dmaC q c)) ∗ reached ER (dmaC q c) 0) := by
  have hq : q.val < 42 := q.isLt
  have e : kcell (c, ⟨q.val - 3, by omega⟩) = dmaC q c := by
    show ((c : Thread nD τ), csem ⟨q.val - 3, _⟩) = _
    unfold csem
    rw [if_neg (by show ¬ q.val - 3 = 0; omega)]
    congr 2
    exact Fin.ext (by show (q.val - 3 + 3) % 42 = q.val; omega)
  have := records_at P m (c, ⟨q.val - 3, by omega⟩)
  rwa [e] at this

end Cert.Proto

end
-- ==== Proof.Comm.lean ====
/-
# The steps of the exchanges

One rule for each kind of step that talks: a signal and the wait at the barrier, a transfer of the reduction and of the
spreading, the wait on a transfer's counter. Each is stated once, for any stage `k`, from the standing facts, the step's
token, what it hands over and what the device still owes.
-/
module

public import proofs.«01_k».proof.Proof.Proto

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) (c : Dev nD)

/-! ## The rows of the result buffer -/

/-- The elements of a slice of rows. -/
theorem oSl_set (o n : ℕ) {off : Fin 2 → ℕ} (ho : off = ![o, 0]) (inb) : (oSl off n inb).view.set = rowsS o n := by
  subst ho
  show ((View.whole cc0_stg3_0).slice (Rect.unit (s := S2048x1024) ![o, 0] ![n, 1024] inb)).set = _
  rw [View.set_slice_whole]
  ext x
  rw [mem_rowsS, Rect.mem_set_unit]
  constructor
  · intro h
    exact h 0
  · intro h a
    match a with
    | 0 => exact h
    | 1 => exact ⟨Nat.zero_le _, by
      have h1 : (x 1).val < 1024 := (x 1).isLt
      show (x 1).val < 0 + 1024
      omega⟩

/-- A slice of rows, element by element. -/
theorem oSl_emb (o n : ℕ) {off : Fin 2 → ℕ} (ho : off = ![o, 0]) (inb) (y : (⟨2, ![n, 1024]⟩ : Shape).Idx) :
    (Rect.unit (s := S2048x1024) off ![n, 1024] inb).emb y = rowAt o y := by
  subst ho
  funext a
  apply Fin.ext
  rw [Rect.emb_apply]
  match a with
  | 0 =>
    have h0 : o + n ≤ 2048 := inb 0
    have hy : (y 0).val < n := (y 0).isLt
    show o + 1 * (y 0).val = (o + (y 0).val) % 2048
    rw [Nat.mod_eq_of_lt (by omega)]; omega
  | 1 => show 0 + 1 * (y 1).val = (y 1).val; omega

theorem oSl_read (o n : ℕ) {off : Fin 2 → ℕ} (ho : off = ![o, 0]) (inb) (f : Vec F S2048x1024 .bf16) :
    (oSl off n inb).view.read (Elt F) f = fun y => f (rowAt o y) := by
  funext y
  show f ((Rect.unit (s := S2048x1024) off ![n, 1024] inb).emb y) = _
  rw [oSl_emb o n ho inb]

/-- Holding a slice's elements is holding the rows. -/
theorem oPts_slice (d : Dev nD) (o n : ℕ) {off : Fin 2 → ℕ} (ho : off = ![o, 0]) (inb) (f : Vec F S2048x1024 .bf16) :
    (((oSl off n inb).view.loc (d : Thread nD τ) ↦[(oSl off n inb).view.set]{fullShare} f) : sProp 𝕄) = oPts d o n f := by
  rw [oSl_set o n ho inb]; rfl

/-- Rows written with what they should hold hold it. -/
theorem oPts_written (d : Dev nD) (o n : ℕ) {off : Fin 2 → ℕ} (ho : off = ![o, 0]) (inb) (f : Vec F S2048x1024 .bf16)
    (w : Vec F ⟨2, ![n, 1024]⟩ .bf16) (g : Vec F S2048x1024 .bf16) (hg : ∀ y, g (rowAt o y) = w y) :
    (((oSl off n inb).view.loc (d : Thread nD τ) ↦[(oSl off n inb).view.set]{fullShare} ((oSl off n inb).view.write (Elt F) f w Finset.univ)) : sProp 𝕄) = oPts d o n g := by
  rw [← oPts_slice d o n ho inb g]
  refine pointsTo_congr fun i hi => ?_
  obtain ⟨y, -, rfl⟩ := Finset.mem_map.mp hi
  refine (View.write_emb_of_mem (v := (oSl off n inb).view) (Val := Elt F) f w (Finset.mem_univ y)).trans ?_
  show w y = g ((Rect.unit (s := S2048x1024) off ![n, 1024] inb).emb y)
  rw [oSl_emb o n ho inb, hg]

/-- The same rows at contents that agree on them. -/
theorem oPts_congr (d : Dev nD) (o n : ℕ) (f g : Vec F S2048x1024 .bf16) (h : ∀ x, o ≤ (x 0).val → (x 0).val < o + n → f x = g x) :
    (oPts d o n f : sProp 𝕄) = oPts d o n g :=
  pointsTo_congr fun i hi => h i (mem_rowsS.mp hi).1 (mem_rowsS.mp hi).2

/-- Neighbouring rows. -/
theorem oPts_append (d : Dev nD) (o n n' : ℕ) (f : Vec F S2048x1024 .bf16) :
    (oPts d o (n + n') f : sProp 𝕄) = iprop(oPts d o n f ∗ oPts d (o + n) n' f) := by
  unfold oPts
  have hu : rowsS o (n + n') = rowsS o n ∪ rowsS (o + n) n' := by
    ext x; rw [Finset.mem_union, mem_rowsS, mem_rowsS, mem_rowsS]; omega
  have hd : Disjoint (rowsS o n) (rowsS (o + n) n') := Finset.disjoint_left.mpr fun x h1 h2 => by
    rw [mem_rowsS] at h1 h2; omega
  rw [hu]
  exact BI.Entails.antisymm (pointsTo_union hd).1 (pointsTo_union hd).2

/-! ## What is owed, in order -/

/-- What device `c` owes once the first `n` payments are made. -/
def oweN (n : ℕ) : sProp 𝕄 := owe c ((due c).drop n)

/-- The levels of the payments, in order. -/
def lvls : List ℕ := [1, 1, 1, 2, 2, 2, 3, 3, 3, 4, 4, 4, 5, 5, 5, 6, 6, 6, 7, 7, 7]

theorem due_tc : ∀ x ∈ due c, x.1.1.2 = .tc := by
  intro x hx
  simp only [due, List.mem_cons, List.not_mem_nil, or_false] at hx
  rcases hx with rfl | rfl | rfl | rfl | rfl | rfl | rfl | rfl | rfl | rfl | rfl | rfl | rfl | rfl | rfl | rfl | rfl | rfl | rfl | rfl | rfl <;> rfl

theorem due_lvls : (due c).map (fun x => x.2.1) = lvls := rfl

theorem mayWaitN (sm : SemLoc sig) (i : ℕ) (hi : i < 9) (n : ℕ) (hl : ∀ j ∈ lvls.drop n, i < j ∧ j < 9) :
    (lev : sProp 𝕄) ⊢ MayWait (c : Thread nD τ) sm i (tallyL ((due c).drop n)) :=
  mayWait c sm i hi _ fun x hx => ⟨due_tc c x (List.mem_of_mem_drop hx), hl _ (by
    rw [← due_lvls c, ← List.map_drop]; exact List.mem_map.mpr ⟨x, hx, rfl⟩)⟩

theorem owe_cons {n : ℕ} {x : Pay nD τ sig} (h : (due c).drop n = x :: (due c).drop (n + 1)) :
    tallyL ((due c).drop n) = tallyL ((due c).drop (n + 1)) + x.tally := by rw [h, tallyL, add_comm]

variable {c}

/-! ## The barrier -/

/-- The stage whose partner is the `d`-th of the barrier. -/
abbrev bk (d : Fin 3) : Fin 9 := match d with
  | 0 => 0
  | 1 => 1
  | 2 => 2

/-- What device `c` hands its partner along mask 1, 3, 4. -/
theorem barPay_give (d : Fin 3) : (barPay d (par (bk d) c) : sProp 𝕄) = match d with
    | 0 => iprop(rbAny 0 c ∗ rbAny 5 c ∗ rbAny 7 c)
    | 1 => iprop(rbAny 1 c ∗ rbAny 3 c ∗ rbAny 8 c)
    | 2 => iprop(rbAny 2 c ∗ rbAny 4 c ∗ rbAny 6 c) := by
  have h : ∀ (i j : Fin 9), par i = par j → par j (par i c) = c := fun i j e => by rw [e]; exact par_par j c
  match d with
  | 0 => unfold barPay; dsimp only; rw [h 0 0 rfl, h 0 5 (by decide), h 0 7 (by decide)]
  | 1 => unfold barPay; dsimp only; rw [h 1 1 rfl, h 1 3 (by decide), h 1 8 (by decide)]
  | 2 => unfold barPay; dsimp only; rw [h 2 2 rfl, h 2 4 (by decide), h 2 6 (by decide)]

/-- A signal at the barrier. -/
theorem wp_bar_signal (d : Fin 3) {e : Dev nD} (he : e = par (bk d) c) {amt : ℕ} (hamt : 1 = amt) (n : ℕ)
    (hd : (due c).drop n = payBar (bk d) c :: (due c).drop (n + 1))
    {α : Type} {Q : α → sProp 𝕄} {k : PUnit → Prog (TpuEff nD τ sig (Elt F) Λ₀ .tc) α} :
    iprop(records P m ∗ oweN c n ∗ dutyTok ER (barC (par (bk d) c)) 0 d ∗ barPay d (par (bk d) c))
      ⊢ iprop((oweN c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e, Proc.tc) barS amt) k) Q) := by
  subst he hamt
  unfold oweN owe
  iintro ⟨#HR, ⟨%W, HO⟩, Ht, Hp⟩ Hk
  ihave Hb := (records_bar P m (par (bk d) c)) $$ HR
  icases Hb with ⟨⟨%κ, #HI⟩, #Hr⟩
  iapply (Rounds.wp_signal 𝒱₀ ER (Rd P m) (c : Thread nD τ) none (dst := (par (bk d) c : Thread nD τ)) (κ := κ)
      (d := d) (by rw [duties_bar]; exact Finset.mem_univ _) (amount_bar P m _ d) 1 (tallyL ((due c).drop (n + 1)))
      (owe_cons c hd)) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the three partners. -/
theorem wp_bar_wait {amt : ℕ} (hamt : 3 = amt) {α : Type} {Q : α → sProp 𝕄} {k : PUnit → Prog (TpuEff nD τ sig (Elt F) Λ₀ .tc) α} :
    iprop(records P m ∗ lev ∗ oweN c 3 ∗ cred (tallyAt (barC c) 1 3) ∗ atPos ER (barC c) 0 ∅ 0)
      ⊢ iprop((oweN c 3 ∗ atPos ER (barC c) 1 ∅ 0 ∗ barPay 0 c ∗ barPay 1 c ∗ barPay 2 c -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS amt) k) Q) := by
  subst hamt
  unfold oweN owe
  iintro ⟨#HR, #Hlev, ⟨%W, HO⟩, Hc, Hat⟩ Hk
  ihave Hb := (records_bar P m c) $$ HR
  icases Hb with ⟨⟨%κ, #HI⟩, #Hr⟩
  iapply (Rounds.wp_wait_rest_token 𝒱₀ ER (Rd P m) (c : Thread nD τ) none (κ := κ)
      (wpE_semWait_eq 𝒱₀ (c : Thread nD τ) none Set.univ) (Set.mem_univ _) 1 (O := tallyL ((due c).drop 3)) (W := W) (R := 0) (m := 0) (T := ∅)
      (by rw [expect_bar])) $$ [Hc HO Hat]
  · isplitr; · iexact HI
    isplitl [Hc]; · iexact Hc
    isplitl [HO]; · iexact HO
    isplitr; · iapply (mayWaitN c (.reg barS) 1 (by decide) 3 (by decide)); iexact Hlev
    iexact Hat
  iintro ⟨HO, Hat, -, Hpay⟩
  ihave Hp := (Entails.of_eq (rest_bar P m c)) $$ Hpay
  iapply Hk
  isplitl [HO]; · iexists _; iexact HO
  isplitl [Hat]; · iexact Hat
  iexact Hp

/-! ## A transfer's counter -/

/-- The wait on a transfer's counter: what its payment carries comes out. -/
theorem wp_dma_wait (q : DmaSem sig) (hq : 4 ≤ q.val) (i : ℕ) (hi : i < 9) (n : ℕ) (hl : ∀ j ∈ lvls.drop n, i < j ∧ j < 9)
    {sp sp' : Space} {s s' : Shape} {e e' : EltTy} {src : Memref sig .tc sp' s' e'} {dst : Memref sig .tc sp s e}
    {hsrc : src.view.WordExact} {hdst : dst.view.WordExact} (hN : dst.view.dmaCredit = dmaAmt q.val)
    {α : Type} {Q : α → sProp 𝕄} {k : PUnit → Prog (TpuEff nD τ sig (Elt F) Λ₀ .tc) α} :
    iprop(records P m ∗ lev ∗ oweN c n ∗ cred (tallyAt (dmaC q c) i (dmaAmt q.val)) ∗ atPos ER (dmaC q c) 0 ∅ 0)
      ⊢ iprop((oweN c n ∗ atPos ER (dmaC q c) 1 ∅ 0 ∗ dmaPay P m q.val c -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold oweN owe
  iintro ⟨#HR, #Hlev, ⟨%W, HO⟩, Hc, Hat⟩ Hk
  ihave Hb := (records_dma P m q c hq) $$ HR
  icases Hb with ⟨⟨%κ, #HI⟩, #Hr⟩
  iapply (Rounds.wp_wait_rest_token 𝒱₀ ER (Rd P m) (c : Thread nD τ) none (κ := κ)
      (wpE_waitDma2_eq 𝒱₀ (c : Thread nD τ) none Set.univ) (Set.mem_univ _) i (O := tallyL ((due c).drop n)) (W := W) (R := 0) (m := 0) (T := ∅)
      (by rw [expect_dma P m q c hq, hN, zero_add])) $$ [Hc HO Hat]
  · isplitr; · iexact HI
    isplitl [Hc]; · rw [hN]; iexact Hc
    isplitl [HO]; · iexact HO
    isplitr; · iapply (mayWaitN c (.dma q) i hi n hl); iexact Hlev
    iexact Hat
  iintro ⟨HO, Hat, -, Hpay⟩
  ihave Hp := (Entails.of_eq (rest_dma P m q c hq)) $$ Hpay
  iapply Hk
  isplitl [HO]; · iexists _; iexact HO
  isplitl [Hat]; · iexact Hat
  iexact Hp

/-! ## The transfers -/

/-- A transfer of the reduction. The rows that leave go along with what lands: the partner holds them until it sends
them back finished. -/
theorem wp_rs_send (k : Fin 9) (i n : ℕ) (hd : (due c).drop n = payRS k i c :: (due c).drop (n + 1))
    {e : Dev nD} (he : e = par k c) {off : Fin 2 → ℕ} (ho : off = ![sOff k c, 0]) {inb}
    {hsc : (rbM k).view.ref.isScScratch = false}
    {hsrc : (oSl off (hs k) inb).view.WordExact} {hdst : (rbM k).view.WordExact}
    {hsem : DmaTarget.Typed .vmem (.dma (rsR k)) (.remote (Dev.tc e : Thread nD τ) (rbM k) (.dma (rsS k)) hsc)}
    {α : Type} {Q : α → sProp 𝕄} {kk : PUnit → Prog (TpuEff nD τ sig (Elt F) Λ₀ .tc) α} :
    iprop(records P m ∗ oweN c n ∗ oPts c (sOff k c) (hs k) (acc P (k.val % 3) c) ∗ rbAny k (par k c)
        ∗ dutyTok ER (dmaC (rsS k) c) 0 0 ∗ dutyTok ER (dmaC (rsR k) (par k c)) 0 0)
      ⊢ iprop((oweN c (n + 1) ∗ cred (tallyAt (dmaC (rsS k) c) 0 (dmaAmt (rsS k).val))
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oSl off (hs k) inb) (.remote (Dev.tc e : Thread nD τ) (rbM k) (.dma (rsS k)) hsc) (.dma (rsR k)) hsrc hdst hsem) kk) Q) := by
  subst he
  unfold oweN owe rbAny rbPts
  iintro ⟨#HR, ⟨%W, HO⟩, Hsrc, ⟨%fd, Hdst⟩, Ht1, Ht2⟩ Hk
  ihave Hb := (records_dma P m (rsS k) c (by show 4 ≤ 4 + k.val; omega)) $$ HR
  icases Hb with ⟨⟨%κ₁, #HI1⟩, #Hr1⟩
  ihave Hb := (records_dma P m (rsR k) (par k c) (by show 4 ≤ 13 + k.val; omega)) $$ HR
  icases Hb with ⟨⟨%κ₂, #HI2⟩, #Hr2⟩
  iapply (Rounds.wp_send_landing_pointsTo 𝒱₀ ER (Rd P m) (c : Thread nD τ) none (κ₁ := κ₁) (κ₂ := κ₂)
      (r₁ := 0) (r₂ := 0) (d₁ := 0) (d₂ := 0) (fd := fd) (fs := acc P (k.val % 3) c) (q := fullShare) (W := W)
      (by rw [duties_dma P m _ _ (by show 4 ≤ 4 + k.val; omega)]; exact Finset.mem_singleton_self _)
      (by rw [duties_dma P m _ _ (by show 4 ≤ 13 + k.val; omega)]; exact Finset.mem_singleton_self _)
      i 0 (ncr k) rfl (by rw [amount_dma, dmaAmt_rsS]) (by rw [amount_dma, dmaAmt_rsR])
      (tallyL ((due c).drop (n + 1))) (owe_cons c hd)
      (by rw [payload_dma, dmaPay_rsS])
      (by
        rw [payload_dma, dmaPay_rsR, oPts_slice c _ _ ho inb]
        unfold rsPay rbAt rbPts
        rw [par_par, ← sOff_par, par_par]
        iintro ⟨Hd, Hs⟩
        isplitl [Hd]
        · iexists _
          isplitl [Hd]; · iexact Hd
          ipureintro
          rw [View.read_write_univ, oSl_read _ _ ho inb]
          unfold landed
          rw [par_par, ← sOff_par, par_par]
        iexact Hs)) $$ [HO Hsrc Hdst Ht1 Ht2]
  · isplitr; · iexact HI1
    isplitr; · iexact HI2
    isplitl [Hsrc]; · rw [oPts_slice c _ _ ho inb]; iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  rw [dmaAmt_rsS]
  iexact Hc

/-- A transfer of the spreading, into the rows that the partner gave away. -/
theorem wp_ag_send (k : Fin 9) (i n : ℕ) (hd : (due c).drop n = payAG k i c :: (due c).drop (n + 1))
    {e : Dev nD} (he : e = par k c) {off : Fin 2 → ℕ} (ho : off = ![kOff k c, 0]) {inb}
    (hcr : (oSl off (hs k) inb).view.dmaCredit = ncr k)
    {hsc : (oSl off (hs k) inb).view.ref.isScScratch = false}
    {hsrc : (oSl off (hs k) inb).view.WordExact} {hdst : (oSl off (hs k) inb).view.WordExact}
    {hsem : DmaTarget.Typed .vmem (.dma (agR k)) (.remote (Dev.tc e : Thread nD τ) (oSl off (hs k) inb) (.dma (agS k)) hsc)}
    {α : Type} {Q : α → sProp 𝕄} {kk : PUnit → Prog (TpuEff nD τ sig (Elt F) Λ₀ .tc) α}
    (g : Vec F S2048x1024 .bf16) :
    iprop(records P m ∗ oweN c n ∗ oPts c (kOff k c) (hs k) (res P) ∗ oPts (par k c) (kOff k c) (hs k) g
        ∗ dutyTok ER (dmaC (agS k) c) 0 0 ∗ dutyTok ER (dmaC (agR k) (par k c)) 0 0)
      ⊢ iprop((oweN c (n + 1) ∗ cred (tallyAt (dmaC (agS k) c) 0 (dmaAmt (agS k).val))
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oSl off (hs k) inb) (.remote (Dev.tc e : Thread nD τ) (oSl off (hs k) inb) (.dma (agS k)) hsc) (.dma (agR k)) hsrc hdst hsem) kk) Q) := by
  subst he
  unfold oweN owe
  iintro ⟨#HR, ⟨%W, HO⟩, Hsrc, Hdst, Ht1, Ht2⟩ Hk
  ihave Hb := (records_dma P m (agS k) c (by show 4 ≤ 22 + k.val; omega)) $$ HR
  icases Hb with ⟨⟨%κ₁, #HI1⟩, #Hr1⟩
  ihave Hb := (records_dma P m (agR k) (par k c) (by show 4 ≤ 31 + k.val; omega)) $$ HR
  icases Hb with ⟨⟨%κ₂, #HI2⟩, #Hr2⟩
  iapply (Rounds.wp_send_pointsTo 𝒱₀ ER (Rd P m) (c : Thread nD τ) none (κ₁ := κ₁) (κ₂ := κ₂)
      (r₁ := 0) (r₂ := 0) (d₁ := 0) (d₂ := 0) (fd := g) (fs := res P) (q := fullShare) (W := W)
      (by rw [duties_dma P m _ _ (by show 4 ≤ 22 + k.val; omega)]; exact Finset.mem_singleton_self _)
      (by rw [duties_dma P m _ _ (by show 4 ≤ 31 + k.val; omega)]; exact Finset.mem_singleton_self _)
      i 0 (ncr k) (by exact hcr) (by rw [amount_dma, dmaAmt_agS]) (by rw [amount_dma, dmaAmt_agR])
      (tallyL ((due c).drop (n + 1))) (owe_cons c hd)
      (by rw [payload_dma, dmaPay_agS, oPts_slice c _ _ ho inb]; exact BI.Entails.refl _)
      (by
        rw [payload_dma, dmaPay_agR, oPts_written (par k c) _ _ ho inb g _ (res P) (fun y => by rw [oSl_read _ _ ho inb])]
        unfold agRPay
        rw [sOff_par])) $$ [HO Hsrc Hdst Ht1 Ht2]
  · isplitr; · iexact HI1
    isplitr; · iexact HI2
    isplitl [Hsrc]; · rw [oPts_slice c _ _ ho inb]; iexact Hsrc
    isplitl [Hdst]; · rw [oPts_slice (par k c) _ _ ho inb]; iexact Hdst
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  rw [dmaAmt_agS]
  iexact Hc

end Cert.Proto

end
-- ==== Proof.Steps.lean ====
/-
# The local steps

The buffers that a device fills on its own, block by block: what each load reads and what each store leaves, with
contents. A scratch buffer's state is "its first `n` rows are those of `G`"; a store of the next rows of `G` extends it.
-/
module

public import proofs.«01_k».proof.Proof.Proto

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Windows of the inputs -/

/-- Sixty-four rows of the activations from row `o` on. -/
def xwin (f : Vec F S1x2048x1024 .f32) (o : ℕ) : Vec F S1x64x1024 .f32 := fun y => f (ix3 0 ⟨(o + (y 1).val) % 2048, Nat.mod_lt _ (by decide)⟩ (y 2))

/-- Sixty-four rows of a device's keys or values from row `o` on. -/
def kvwin (f : Vec F S2048x8x128 .f32) (o : ℕ) : Vec F S64x8x128 .f32 := fun y => f (ix3 ⟨(o + (y 0).val) % 2048, Nat.mod_lt _ (by decide)⟩ (y 1) (y 2))

/-- Rows of an array from row `o` on. -/
def rwin {n : ℕ} (G : Vec F S2048x1024 .bf16) (o : ℕ) : Vec F ⟨2, ![n, 1024]⟩ .bf16 := fun y => G (rowAt o y)

/-- The tile of row group `t / 8` and head `t % 8`. -/
def tile (G : Vec F S2048x1024 .bf16) (t : ℕ) : Vec F S512x128 .bf16 := fun y =>
  G (ix2 ⟨(512 * (t / 8) + (y 0).val) % 2048, Nat.mod_lt _ (by decide)⟩ ⟨(128 * (t % 8) + (y 1).val) % 1024, Nat.mod_lt _ (by decide)⟩)

/-- The tile an index lies in. -/
def tileOf (x : S2048x1024.Idx) : ℕ := 8 * ((x 0).val / 512) + (x 1).val / 128

/-- An array put together from blocks of sixty-four rows. -/
def byBlocks (B : ℕ → Vec F S64x1024 .bf16) : Vec F S2048x1024 .bf16 := fun x =>
  B ((x 0).val / 64) (ix2 ⟨(x 0).val % 64, Nat.mod_lt _ (by decide)⟩ (x 1))

/-- The row block that block `j` of the regrouped order is: blocks of the same class modulo four lie together. -/
def xo (j : ℕ) : ℕ := 64 * (j / 8 + 4 * (j % 8))
/-- Where block `j` of the original order lies in the regrouped one. -/
def go (j : ℕ) : ℕ := 64 * (8 * (j % 4) + j / 4)

/-- The regrouped activations, and the regrouped heads of the keys or values. -/
def XP (f : Vec F S1x2048x1024 .f32) : Vec F S2048x1024 .bf16 := byBlocks fun j => k0_pay4 (xwin f (xo j))
def KP (f : Vec F S2048x8x128 .f32) : Vec F S2048x1024 .bf16 := byBlocks fun j => k0_pay43 (kvwin f (xo j))

/-- One head of one row group: attention within the group. -/
def ctxT (q k v : Vec F S2048x1024 .bf16) (t : ℕ) : Vec F S512x128 .bf16 :=
  k0_pay114 (k0_pay2 (tile q t) (tile k t) (tile v t)) (k0_pay3 (tile q t) (tile k t))

/-- The queries' buffer once the tiles before `t` are replaced. -/
def ctxG (q k v : Vec F S2048x1024 .bf16) (t : ℕ) : Vec F S2048x1024 .bf16 := fun x =>
  if tileOf x < t then ctxT q k v (tileOf x) (ix2 ⟨(x 0).val % 512, Nat.mod_lt _ (by decide)⟩ ⟨(x 1).val % 128, Nat.mod_lt _ (by decide)⟩) else q x

/-- Rows of the result of attention in the original order, from block `b` on. -/
def gath (C : Vec F S2048x1024 .bf16) (b : ℕ) : Vec F S2048x1024 .bf16 := byBlocks fun j => rwin C (go (b + j))

theorem modL {a b m : ℕ} (h : a + b < m) : a + 1 * b = (a + b) % m := by rw [Nat.mod_eq_of_lt h, Nat.one_mul]

theorem byBlocks_rowAt (B : ℕ → Vec F S64x1024 .bf16) (j : ℕ) (hj : j < 32) (y : S64x1024.Idx) : byBlocks B (rowAt (64 * j) y) = B j y := by
  have hy : (y 0).val < 64 := (y 0).isLt
  have e : (64 * j + (y 0).val) % 2048 = 64 * j + (y 0).val := Nat.mod_eq_of_lt (by omega)
  show B ((64 * j + (y 0).val) % 2048 / 64) (ix2 ⟨((64 * j + (y 0).val) % 2048) % 64, _⟩ (y 1)) = B j y
  have h1 : (64 * j + (y 0).val) % 2048 / 64 = j := by rw [e]; omega
  have h2 : ((64 * j + (y 0).val) % 2048) % 64 = (y 0).val := by rw [e]; omega
  rw [h1]
  congr 1
  funext a
  match a with
  | 0 => exact Fin.ext h2
  | 1 => rfl

/-! ## Rules -/

variable (c : Dev nD)

/-- The run of a piece of device `c`'s program. -/
abbrev W {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The first `n` rows of the scratch buffer are those of `G`. -/
def scr (M : Memref sig .tc .vmem S2048x1024 .bf16) (c : Dev nD) (G : Vec F S2048x1024 .bf16) (n : ℕ) : sProp 𝕄 :=
  iprop(∃ f : Buf (Elt F) (M.view.loc (c : Thread nD τ)), (M.view.loc (c : Thread nD τ) ↦[M.view.set]{fullShare} f) ∗ ⌜∀ x, (x 0).val < n → M.view.read (Elt F) f x = G x⌝)

/-- A whole buffer holding `f`. -/
def hold {s : Shape} {e : EltTy} (M : Memref sig .tc .vmem s e) (c : Dev nD) (G : Vec F s e) : sProp 𝕄 :=
  iprop(∃ f : Buf (Elt F) (M.view.loc (c : Thread nD τ)), (M.view.loc (c : Thread nD τ) ↦[M.view.set]{fullShare} f) ∗ ⌜M.view.read (Elt F) f = G⌝)

variable {c}

theorem scr_mono (M : Memref sig .tc .vmem S2048x1024 .bf16) {G G' : Vec F S2048x1024 .bf16} {n n' : ℕ} (h : ∀ x, (x 0).val < n' → (x 0).val < n ∧ G x = G' x) :
    (scr M c G n : sProp 𝕄) ⊢ scr M c G' n' := by
  unfold scr
  iintro ⟨%f, Hf, %hf⟩
  iexists f
  isplitl [Hf]; · iexact Hf
  ipureintro
  exact fun x hx => by rw [hf x (h x hx).1, (h x hx).2]

theorem scr_zero (M : Memref sig .tc .vmem S2048x1024 .bf16) {G G' : Vec F S2048x1024 .bf16} {n : ℕ} : (scr M c G n : sProp 𝕄) ⊢ scr M c G' 0 :=
  scr_mono M fun x hx => absurd hx (Nat.not_lt_zero _)

/-- A load whose value is not used. -/
theorem wp_dead_load (M : Memref sig .tc .vmem S2048x1024 .bf16) (G : Vec F S2048x1024 .bf16) (n : ℕ) {r : LoadRect S2048x1024} {hl : M.view.LoadsAt r}
    {α : Type} {k : (r.shape.Idx → Elt F .bf16) → Prog (TpuEff nD τ sig (Elt F) Λ₀ .tc) α} {Q : α → sProp 𝕄} :
    (scr M c G n : sProp 𝕄) ⊢ iprop((∀ v, scr M c G n -∗ W c (k v) Q) -∗ W c (.op (.load M r hl) k) Q) := by
  unfold scr
  iintro ⟨%f, Hf, %hf⟩ Hk
  iapply (wp_load 𝒱₀ (c : Thread nD τ) none Set.univ (m := M) (f := f) (View.setOn_subset_set _ _)) $$ Hf
  iintro Hf
  iapply Hk
  iexists f
  isplitl [Hf]; · iexact Hf
  ipureintro; exact hf

/-- A load of rows. -/
theorem wp_row_load (M : Memref sig .tc .vmem S2048x1024 .bf16) (G : Vec F S2048x1024 .bf16) (n o h : ℕ) (hn : o + h ≤ n) (hn2 : n ≤ 2048) {off : Fin 2 → ℕ} (ho : off = ![o, 0])
    {inb : ∀ a, off a + (![h, 1024] : Fin 2 → ℕ) a ≤ S2048x1024.size a} {hl : M.view.LoadsAt (Rect.unit (s := S2048x1024) off ![h, 1024] inb).toLoadRect}
    {α : Type} {k : ((⟨2, ![h, 1024]⟩ : Shape).Idx → Elt F .bf16) → Prog (TpuEff nD τ sig (Elt F) Λ₀ .tc) α} {Q : α → sProp 𝕄} :
    (scr M c G n : sProp 𝕄) ⊢ iprop((scr M c G n -∗ W c (k (rwin G o)) Q) -∗ W c (.op (.load M (Rect.unit (s := S2048x1024) off ![h, 1024] inb).toLoadRect hl) k) Q) := by
  subst ho
  unfold scr
  iintro ⟨%f, Hf, %hf⟩ Hk
  iapply (wp_load 𝒱₀ (c : Thread nD τ) none Set.univ (m := M) (f := f) (View.setOn_subset_set _ _)) $$ Hf
  iintro Hf
  have e : M.view.readAt (Elt F) (Rect.unit (s := S2048x1024) ![o, 0] ![h, 1024] inb).toLoadRect f = rwin G o := by
    funext y
    have hy : (y 0).val < h := (y 0).isLt
    have ey : (Rect.unit (s := S2048x1024) ![o, 0] ![h, 1024] inb).toLoadRect.idx y = rowAt o y := by
      funext a
      apply Fin.ext
      match a with
      | 0 => show o + 1 * (y 0).val = (o + (y 0).val) % 2048; exact modL (by omega)
      | 1 => show 0 + 1 * (y 1).val = (y 1).val; omega
    rw [View.readAt_apply, ey]
    exact hf _ (by show (o + (y 0).val) % 2048 < n; rw [Nat.mod_eq_of_lt (by omega)]; omega)
  rw [e]
  iapply Hk
  iexists f
  isplitl [Hf]; · iexact Hf
  ipureintro; exact hf

/-- What a store leaves: the value stored, and elsewhere what was there. -/
theorem read_store (v : View sig .tc .vmem S2048x1024 .bf16) (r : Rect S2048x1024) (w : r.shape.Idx → Elt F .bf16) (f : v.ty.Contents (Elt F)) (g : Elt F .bf16) (x : S2048x1024.Idx)
    (hin : ∀ y, r.emb y = x → w y = g) (hout : (∀ y, r.emb y ≠ x) → v.read (Elt F) f x = g) :
    v.read (Elt F) ((v.slice r).write (Elt F) f w Finset.univ) x = g := by
  by_cases h : ∃ y, r.emb y = x
  · obtain ⟨y, rfl⟩ := h
    exact (View.read_slice_write_emb (v := v) (Val := Elt F) r f w (Finset.mem_univ y)).trans (hin y rfl)
  · refine (View.read_slice_write_of_not_mem (v := v) (Val := Elt F) r f w Finset.univ ?_).trans (hout fun y hy => h ⟨y, hy⟩)
    intro hmem
    obtain ⟨y, -, hy⟩ := Finset.mem_map.mp hmem
    exact h ⟨y, hy⟩

/-- A store into a scratch buffer. -/
theorem wp_scr_store (M : Memref sig .tc .vmem S2048x1024 .bf16) (G G' : Vec F S2048x1024 .bf16) (n n' : ℕ) {r : Rect S2048x1024} {w : r.shape.Idx → Elt F .bf16}
    (hin : ∀ x y, r.emb y = x → w y = G' x) (hout : ∀ x, (x 0).val < n' → (∀ y, r.emb y ≠ x) → (x 0).val < n ∧ G x = G' x)
    {hx : (M.access r).Stores Finset.univ} {hm : (Finset.univ : Finset r.shape.Idx) = Finset.univ ∨ ∀ a, r.stride a = 1} {α : Type} {k : PUnit → Prog (TpuEff nD τ sig (Elt F) Λ₀ .tc) α} {Q : α → sProp 𝕄} :
    (scr M c G n : sProp 𝕄) ⊢ iprop((scr M c G' n' -∗ W c (k ⟨⟩) Q) -∗ W c (.op (.store M r w Finset.univ hx hm) k) Q) := by
  unfold scr
  iintro ⟨%f, Hf, %hf⟩ Hk
  iapply (wp_store 𝒱₀ (c : Thread nD τ) none Set.univ (m := M) (f := f) (r := r) (w := w) (Mk := Finset.univ) (hx := hx) (hm := hm) (k := k) (Q := Q) (M.view.set_slice_subset r)) $$ Hf
  iintro Hf
  iapply Hk
  iexists (M.access r).write (Elt F) f w Finset.univ
  isplitl [Hf]; · iexact Hf
  ipureintro
  exact fun x hx => read_store M.view r w f (G' x) x (hin x) fun h => (hf x (hout x hx h).1).trans (hout x hx h).2

/-- A store of the next rows. -/
theorem wp_row_store (M : Memref sig .tc .vmem S2048x1024 .bf16) (G : Vec F S2048x1024 .bf16) (o h : ℕ) (hh : o + h ≤ 2048) {off : Fin 2 → ℕ} (ho : off = ![o, 0])
    {inb : ∀ a, off a + (![h, 1024] : Fin 2 → ℕ) a ≤ S2048x1024.size a} {w : Vec F ⟨2, ![h, 1024]⟩ .bf16} (hw : ∀ y, w y = G (rowAt o y))
    {hx : (M.access (Rect.unit (s := S2048x1024) off ![h, 1024] inb)).Stores Finset.univ} {hm}
    {α : Type} {k : PUnit → Prog (TpuEff nD τ sig (Elt F) Λ₀ .tc) α} {Q : α → sProp 𝕄} :
    (scr M c G o : sProp 𝕄) ⊢ iprop((scr M c G (o + h) -∗ W c (k ⟨⟩) Q) -∗ W c (.op (.store M (Rect.unit (s := S2048x1024) off ![h, 1024] inb) w Finset.univ hx hm) k) Q) := by
  subst ho
  refine wp_scr_store M G G o (o + h) (fun x y hy => ?_) (fun x hx h' => ⟨?_, rfl⟩)
  · rw [hw, ← hy]
    congr 1
    have hy0 : (y 0).val < h := (y 0).isLt
    funext a
    apply Fin.ext
    match a with
    | 0 => exact (modL (by omega)).symm
    | 1 => show (y 1).val = 0 + 1 * (y 1).val; omega
  · by_contra hlt
    have hb : (x 0).val < 2048 := (x 0).isLt
    have hlt2 : (x 0).val - o < h := by omega
    refine h' (ix2 ⟨(x 0).val - o, hlt2⟩ (x 1)) ?_
    funext a
    apply Fin.ext
    match a with
    | 0 => show o + 1 * ((x 0).val - o) = (x 0).val; omega
    | 1 => show 0 + 1 * (x 1).val = (x 1).val; omega

/-- A store of block `j`. -/
theorem wp_block_store (M : Memref sig .tc .vmem S2048x1024 .bf16) (B : ℕ → Vec F S64x1024 .bf16) (j : ℕ) (hj : j < 32) {off : Fin 2 → ℕ} (ho : off = ![64 * j, 0])
    {inb : ∀ a, off a + (![64, 1024] : Fin 2 → ℕ) a ≤ S2048x1024.size a} {w : Vec F S64x1024 .bf16} (hw : w = B j)
    {hx : (M.access (Rect.unit (s := S2048x1024) off ![64, 1024] inb)).Stores Finset.univ} {hm}
    {α : Type} {k : PUnit → Prog (TpuEff nD τ sig (Elt F) Λ₀ .tc) α} {Q : α → sProp 𝕄} :
    (scr M c (byBlocks B) (64 * j) : sProp 𝕄) ⊢ iprop((scr M c (byBlocks B) (64 * (j + 1)) -∗ W c (k ⟨⟩) Q) -∗ W c (.op (.store M (Rect.unit (s := S2048x1024) off ![64, 1024] inb) w Finset.univ hx hm) k) Q) :=
  wp_row_store M (byBlocks B) (64 * j) 64 (by omega) ho (fun y => by rw [hw]; exact (byBlocks_rowAt B j hj y).symm)

/-- A load of a tile. -/
theorem wp_tile_load (M : Memref sig .tc .vmem S2048x1024 .bf16) (G : Vec F S2048x1024 .bf16) (t : ℕ) (ht : t < 32) {off : Fin 2 → ℕ} (ho : off = ![512 * (t / 8), 128 * (t % 8)])
    {inb : ∀ a, off a + (![512, 128] : Fin 2 → ℕ) a ≤ S2048x1024.size a} {hl : M.view.LoadsAt (Rect.unit (s := S2048x1024) off ![512, 128] inb).toLoadRect}
    {α : Type} {k : (S512x128.Idx → Elt F .bf16) → Prog (TpuEff nD τ sig (Elt F) Λ₀ .tc) α} {Q : α → sProp 𝕄} :
    (scr M c G 2048 : sProp 𝕄) ⊢ iprop((scr M c G 2048 -∗ W c (k (tile G t)) Q) -∗ W c (.op (.load M (Rect.unit (s := S2048x1024) off ![512, 128] inb).toLoadRect hl) k) Q) := by
  subst ho
  unfold scr
  iintro ⟨%f, Hf, %hf⟩ Hk
  iapply (wp_load 𝒱₀ (c : Thread nD τ) none Set.univ (m := M) (f := f) (View.setOn_subset_set _ _)) $$ Hf
  iintro Hf
  have e : M.view.readAt (Elt F) (Rect.unit (s := S2048x1024) ![512 * (t / 8), 128 * (t % 8)] ![512, 128] inb).toLoadRect f = tile G t := by
    funext y
    have hy : (y 0).val < 512 := (y 0).isLt
    have hy1 : (y 1).val < 128 := (y 1).isLt
    have ey : (Rect.unit (s := S2048x1024) ![512 * (t / 8), 128 * (t % 8)] ![512, 128] inb).toLoadRect.idx y
        = ix2 ⟨(512 * (t / 8) + (y 0).val) % 2048, Nat.mod_lt _ (by decide)⟩ ⟨(128 * (t % 8) + (y 1).val) % 1024, Nat.mod_lt _ (by decide)⟩ := by
      funext a
      apply Fin.ext
      match a with
      | 0 => show 512 * (t / 8) + 1 * (y 0).val = (512 * (t / 8) + (y 0).val) % 2048; exact modL (by omega)
      | 1 => show 128 * (t % 8) + 1 * (y 1).val = (128 * (t % 8) + (y 1).val) % 1024; exact modL (by omega)
    rw [View.readAt_apply, ey]
    exact hf _ (Nat.mod_lt _ (by decide))
  rw [e]
  iapply Hk
  iexists f
  isplitl [Hf]; · iexact Hf
  ipureintro; exact hf

/-- A store of a tile: the buffer holds `G'`, which is the tile's contents there and what it held elsewhere. -/
theorem wp_tile_store (M : Memref sig .tc .vmem S2048x1024 .bf16) (G G' : Vec F S2048x1024 .bf16) (t : ℕ) (ht : t < 32) {off : Fin 2 → ℕ} (ho : off = ![512 * (t / 8), 128 * (t % 8)])
    {inb : ∀ a, off a + (![512, 128] : Fin 2 → ℕ) a ≤ S2048x1024.size a} {w : Vec F S512x128 .bf16}
    (hin : ∀ x, tileOf x = t → G' x = w (ix2 ⟨(x 0).val % 512, Nat.mod_lt _ (by decide)⟩ ⟨(x 1).val % 128, Nat.mod_lt _ (by decide)⟩)) (hout : ∀ x, tileOf x ≠ t → G' x = G x)
    {hx : (M.access (Rect.unit (s := S2048x1024) off ![512, 128] inb)).Stores Finset.univ} {hm}
    {α : Type} {k : PUnit → Prog (TpuEff nD τ sig (Elt F) Λ₀ .tc) α} {Q : α → sProp 𝕄} :
    (scr M c G 2048 : sProp 𝕄) ⊢ iprop((scr M c G' 2048 -∗ W c (k ⟨⟩) Q) -∗ W c (.op (.store M (Rect.unit (s := S2048x1024) off ![512, 128] inb) w Finset.univ hx hm) k) Q) := by
  subst ho
  refine wp_scr_store M G G' 2048 2048 (fun x y hy => ?_) (fun x hx h' => ⟨hx, (hout x fun hlt => ?_).symm⟩)
  · have b0 : (y 0).val < 512 := (y 0).isLt
    have b1 : (y 1).val < 128 := (y 1).isLt
    have e0 : 512 * (t / 8) + 1 * (y 0).val = (x 0).val := congrArg (fun z : S2048x1024.Idx => (z 0).val) hy
    have e1 : 128 * (t % 8) + 1 * (y 1).val = (x 1).val := congrArg (fun z : S2048x1024.Idx => (z 1).val) hy
    rw [hin x (by unfold tileOf; omega)]
    congr 1
    funext a
    apply Fin.ext
    match a with
    | 0 => show (y 0).val = (x 0).val % 512; omega
    | 1 => show (y 1).val = (x 1).val % 128; omega
  · have hb1 : (x 1).val < 1024 := (x 1).isLt
    unfold tileOf at hlt
    refine h' (ix2 ⟨(x 0).val % 512, Nat.mod_lt _ (by decide)⟩ ⟨(x 1).val % 128, Nat.mod_lt _ (by decide)⟩) ?_
    funext a
    apply Fin.ext
    match a with
    | 0 => show 512 * (t / 8) + 1 * ((x 0).val % 512) = (x 0).val; omega
    | 1 => show 128 * (t % 8) + 1 * ((x 1).val % 128) = (x 1).val; omega

/-- A load of sixty-four rows of the activations. -/
theorem wp_x_load (f : Vec F S1x2048x1024 .f32) (o : ℕ) (hn : o + 64 ≤ 2048) {off : Fin 3 → ℕ} (ho : off = ![0, o, 0])
    {inb : ∀ a, off a + (![1, 64, 1024] : Fin 3 → ℕ) a ≤ S1x2048x1024.size a} {hl : xM.view.LoadsAt (Rect.unit (s := S1x2048x1024) off ![1, 64, 1024] inb).toLoadRect}
    {α : Type} {k : (S1x64x1024.Idx → Elt F .f32) → Prog (TpuEff nD τ sig (Elt F) Λ₀ .tc) α} {Q : α → sProp 𝕄} :
    (hold xM c f : sProp 𝕄) ⊢ iprop((hold xM c f -∗ W c (k (xwin f o)) Q) -∗ W c (.op (.load xM (Rect.unit (s := S1x2048x1024) off ![1, 64, 1024] inb).toLoadRect hl) k) Q) := by
  subst ho
  unfold hold
  iintro ⟨%g, Hf, %hf⟩ Hk
  iapply (wp_load 𝒱₀ (c : Thread nD τ) none Set.univ (m := xM) (f := g) (View.setOn_subset_set _ _)) $$ Hf
  iintro Hf
  have e : xM.view.readAt (Elt F) (Rect.unit (s := S1x2048x1024) ![0, o, 0] ![1, 64, 1024] inb).toLoadRect g = xwin f o := by
    funext y
    have hy : (y 1).val < 64 := (y 1).isLt
    have hy0 : (y 0).val < 1 := (y 0).isLt
    have ey : (Rect.unit (s := S1x2048x1024) ![0, o, 0] ![1, 64, 1024] inb).toLoadRect.idx y = ix3 0 ⟨(o + (y 1).val) % 2048, Nat.mod_lt _ (by decide)⟩ (y 2) := by
      funext a
      apply Fin.ext
      match a with
      | 0 => show 0 + 1 * (y 0).val = 0; omega
      | 1 => show o + 1 * (y 1).val = (o + (y 1).val) % 2048; exact modL (by omega)
      | 2 => show 0 + 1 * (y 2).val = (y 2).val; omega
    rw [View.readAt_apply, ey, hf]; rfl
  rw [e]
  iapply Hk
  iexists g
  isplitl [Hf]; · iexact Hf
  ipureintro; exact hf

/-- A load of sixty-four rows of the keys' or values' heads. -/
theorem wp_kv_load (f : Vec F S2048x8x128 .f32) (o : ℕ) (hn : o + 64 ≤ 2048) {off : Fin 3 → ℕ} (ho : off = ![o, 0, 0])
    {inb : ∀ a, off a + (![64, 8, 128] : Fin 3 → ℕ) a ≤ S2048x8x128.size a} {hl : kvM.view.LoadsAt (Rect.unit (s := S2048x8x128) off ![64, 8, 128] inb).toLoadRect}
    {α : Type} {k : (S64x8x128.Idx → Elt F .f32) → Prog (TpuEff nD τ sig (Elt F) Λ₀ .tc) α} {Q : α → sProp 𝕄} :
    (kvPts c f : sProp 𝕄) ⊢ iprop((kvPts c f -∗ W c (k (kvwin f o)) Q) -∗ W c (.op (.load kvM (Rect.unit (s := S2048x8x128) off ![64, 8, 128] inb).toLoadRect hl) k) Q) := by
  subst ho
  unfold kvPts
  iintro Hf Hk
  iapply (wp_load 𝒱₀ (c : Thread nD τ) none Set.univ (m := kvM) (f := f) (Finset.subset_univ _)) $$ Hf
  iintro Hf
  have e : kvM.view.readAt (Elt F) (Rect.unit (s := S2048x8x128) ![o, 0, 0] ![64, 8, 128] inb).toLoadRect f = kvwin f o := by
    funext y
    have hy : (y 0).val < 64 := (y 0).isLt
    have ey : (Rect.unit (s := S2048x8x128) ![o, 0, 0] ![64, 8, 128] inb).toLoadRect.idx y = ix3 ⟨(o + (y 0).val) % 2048, Nat.mod_lt _ (by decide)⟩ (y 1) (y 2) := by
      funext a
      apply Fin.ext
      match a with
      | 0 => show o + 1 * (y 0).val = (o + (y 0).val) % 2048; exact modL (by omega)
      | 1 => show 0 + 1 * (y 1).val = (y 1).val; omega
      | 2 => show 0 + 1 * (y 2).val = (y 2).val; omega
    rw [View.readAt_apply, ey]; rfl
  rw [e]
  iapply Hk
  iexact Hf

/-- A load of a whole weight matrix. -/
theorem wp_w_load (M : Memref sig .tc .vmem S1024x1024 .f32) (f : Vec F S1024x1024 .f32) {off : Fin 2 → ℕ} (ho : off = ![0, 0])
    {inb : ∀ a, off a + (![1024, 1024] : Fin 2 → ℕ) a ≤ S1024x1024.size a} {hl : M.view.LoadsAt (Rect.unit (s := S1024x1024) off ![1024, 1024] inb).toLoadRect}
    {α : Type} {k : (S1024x1024.Idx → Elt F .f32) → Prog (TpuEff nD τ sig (Elt F) Λ₀ .tc) α} {Q : α → sProp 𝕄} :
    (hold M c f : sProp 𝕄) ⊢ iprop((hold M c f -∗ W c (k f) Q) -∗ W c (.op (.load M (Rect.unit (s := S1024x1024) off ![1024, 1024] inb).toLoadRect hl) k) Q) := by
  subst ho
  unfold hold
  iintro ⟨%g, Hf, %hf⟩ Hk
  iapply (wp_load 𝒱₀ (c : Thread nD τ) none Set.univ (m := M) (f := g) (View.setOn_subset_set _ _)) $$ Hf
  iintro Hf
  have e : M.view.readAt (Elt F) (Rect.unit (s := S1024x1024) ![0, 0] ![1024, 1024] inb).toLoadRect g = f := by
    funext y
    have ey : (Rect.unit (s := S1024x1024) ![0, 0] ![1024, 1024] inb).toLoadRect.idx y = y := by
      funext a
      apply Fin.ext
      match a with
      | 0 => show 0 + 1 * (y 0).val = (y 0).val; omega
      | 1 => show 0 + 1 * (y 1).val = (y 1).val; omega
    rw [View.readAt_apply, ey, hf]
  rw [e]
  iapply Hk
  iexists g
  isplitl [Hf]; · iexact Hf
  ipureintro; exact hf

end Cert.Proto

end
-- ==== Proof.Moves.lean ====
/-
# The steps on the result and on the landing buffers

Loads and stores of rows of the result buffer, loads of what has landed, the copies of the keys and the values into
vector memory, and how the rows held by a device split and join from stage to stage.
-/
module

public import proofs.«01_k».proof.Proof.Comm
public import proofs.«01_k».proof.Proof.Steps

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

/-! ## Rows of the result -/

theorem of_eq {A B : sProp 𝕄} (h : A = B) : A ⊢ B := by rw [h]

theorem swap (A B : sProp 𝕄) : iprop(A ∗ B) ⊢ iprop(B ∗ A) := by
  iintro ⟨H1, H2⟩
  isplitl [H2]; · iexact H2
  iexact H1

/-- A load of rows of the result. -/
theorem wp_o_load (o n : ℕ) (f : Vec F S2048x1024 .bf16) {off : Fin 2 → ℕ} (ho : off = ![o, 0]) {inb : ∀ a, off a + (![n, 1024] : Fin 2 → ℕ) a ≤ S2048x1024.size a}
    {hl : oM.view.LoadsAt (Rect.unit (s := S2048x1024) off ![n, 1024] inb).toLoadRect} {α : Type} {Q : α → sProp 𝕄}
    {k : ((⟨2, ![n, 1024]⟩ : Shape).Idx → Elt F .bf16) → Prog (TpuEff nD τ sig (Elt F) Λ₀ .tc) α} :
    (oPts c o n f : sProp 𝕄) ⊢ iprop((oPts c o n f -∗ W c (k (rwin f o)) Q) -∗ W c (.op (.load oM (Rect.unit (s := S2048x1024) off ![n, 1024] inb).toLoadRect hl) k) Q) := by
  have hS := oSl_set o n ho inb
  iintro Hf Hk
  ihave Hf := (of_eq (oPts_slice c o n ho inb f).symm) $$ Hf
  iapply (wp_load_rect 𝒱₀ (c : Thread nD τ) none Set.univ (m := oM) (r := Rect.unit (s := S2048x1024) off ![n, 1024] inb) (hl := hl) (k := k) (Q := Q) (f := f) (q := fullShare) (Finset.Subset.refl _)) $$ Hf
  iintro Hf
  ihave Hf := (of_eq (oPts_slice c o n ho inb f)) $$ Hf
  have e : (oM.access (Rect.unit (s := S2048x1024) off ![n, 1024] inb)).read (Elt F) f = rwin f o := oSl_read o n ho inb f
  rw [e]
  iapply Hk
  iexact Hf

/-- A store of rows of the result. -/
theorem wp_o_store (o n : ℕ) (f g : Vec F S2048x1024 .bf16) {off : Fin 2 → ℕ} (ho : off = ![o, 0]) {inb : ∀ a, off a + (![n, 1024] : Fin 2 → ℕ) a ≤ S2048x1024.size a}
    {w : Vec F ⟨2, ![n, 1024]⟩ .bf16} (hg : ∀ y, g (rowAt o y) = w y)
    {hx : (oM.access (Rect.unit (s := S2048x1024) off ![n, 1024] inb)).Stores Finset.univ}
    {hm : (Finset.univ : Finset (⟨2, ![n, 1024]⟩ : Shape).Idx) = Finset.univ ∨ ∀ a, (Rect.unit (s := S2048x1024) off ![n, 1024] inb).stride a = 1}
    {α : Type} {Q : α → sProp 𝕄} {k : PUnit → Prog (TpuEff nD τ sig (Elt F) Λ₀ .tc) α} :
    (oPts c o n f : sProp 𝕄) ⊢ iprop((oPts c o n g -∗ W c (k ⟨⟩) Q) -∗ W c (.op (.store oM (Rect.unit (s := S2048x1024) off ![n, 1024] inb) w Finset.univ hx hm) k) Q) := by
  iintro Hf Hk
  ihave Hf := (of_eq (oPts_slice c o n ho inb f).symm) $$ Hf
  iapply (wp_store 𝒱₀ (c : Thread nD τ) none Set.univ (m := oM) (r := Rect.unit (s := S2048x1024) off ![n, 1024] inb) (w := w) (Mk := Finset.univ) (hx := hx) (hm := hm) (k := k) (Q := Q) (f := f) (S := (oSl off n inb).view.set) (Finset.Subset.refl _)) $$ Hf
  iintro Hf
  ihave Hf := (of_eq (oPts_written c o n ho inb f w g hg)) $$ Hf
  iapply Hk
  iexact Hf

/-- A load of all that has landed in a buffer. -/
theorem wp_rb_load (k : Fin 9) (X : Vec F ⟨2, ![hs k, 1024]⟩ .bf16) {off : Fin 2 → ℕ} (ho : off = ![0, 0]) {inb : ∀ a, off a + (![hs k, 1024] : Fin 2 → ℕ) a ≤ (⟨2, ![hs k, 1024]⟩ : Shape).size a}
    {hl : (rbM k).view.LoadsAt (Rect.unit (s := ⟨2, ![hs k, 1024]⟩) off ![hs k, 1024] inb).toLoadRect} {α : Type} {Q : α → sProp 𝕄}
    {kk : ((⟨2, ![hs k, 1024]⟩ : Shape).Idx → Elt F .bf16) → Prog (TpuEff nD τ sig (Elt F) Λ₀ .tc) α} :
    (rbAt k c X : sProp 𝕄) ⊢ iprop((rbAt k c X -∗ W c (kk X) Q) -∗ W c (.op (.load (rbM k) (Rect.unit (s := ⟨2, ![hs k, 1024]⟩) off ![hs k, 1024] inb).toLoadRect hl) kk) Q) := by
  subst ho
  unfold rbAt rbPts
  iintro ⟨%f, Hf, %hf⟩ Hk
  iapply (wp_load 𝒱₀ (c : Thread nD τ) none Set.univ (m := rbM k) (f := f) (View.setOn_subset_set _ _)) $$ Hf
  iintro Hf
  have e : (rbM k).view.readAt (Elt F) (Rect.unit (s := ⟨2, ![hs k, 1024]⟩) ![0, 0] ![hs k, 1024] inb).toLoadRect f = X := by
    funext y
    have ey : (Rect.unit (s := ⟨2, ![hs k, 1024]⟩) ![0, 0] ![hs k, 1024] inb).toLoadRect.idx y = y := by
      funext a
      apply Fin.ext
      match a with
      | 0 => show 0 + 1 * (y 0).val = (y 0).val; omega
      | 1 => show 0 + 1 * (y 1).val = (y 1).val; omega
    rw [View.readAt_apply, ey, hf]
  rw [e]
  iapply Hk
  iexists f
  isplitl [Hf]; · iexact Hf
  ipureintro; exact hf

/-! ## The copies of the keys and the values -/

theorem kvPts_view (f : Vec F S2048x8x128 .f32) : ((kvM.view.loc (c : Thread nD τ) ↦[kvM.view.set]{fullShare} f) : sProp 𝕄) = kvPts c f := by
  have h : kvM.view.set = (Finset.univ : Finset S2048x8x128.Idx) := View.set_whole _
  rw [h]; rfl
theorem kvPts_written (f w : Vec F S2048x8x128 .f32) :
    ((kvM.view.loc (c : Thread nD τ) ↦[kvM.view.set]{fullShare} (kvM.view.write (Elt F) f w Finset.univ)) : sProp 𝕄) = kvPts c w := by
  have h : kvM.view.write (Elt F) f w Finset.univ = w := View.write_whole_univ (Val := Elt F) (cc0_scratch4 : Ref sig .tc) f w
  rw [h, kvPts_view]

theorem dmaPay_k : dmaPay P m 40 c = kPay m c := rfl
theorem dmaPay_v : dmaPay P m 41 c = vPay m c := rfl

theorem wp_k_copy (f : Vec F S2048x8x128 .f32) {hsrc hdst hsem} {α : Type} {Q : α → sProp 𝕄} {kk : PUnit → Prog (TpuEff nD τ sig (Elt F) Λ₀ .tc) α} :
    iprop(records P m ∗ kArg m c ∗ kvPts c f ∗ dutyTok ER (dmaC kS c) 0 0)
      ⊢ iprop((cred (tallyAt (dmaC kS c) 0 (dmaAmt kS.val)) -∗ W c (kk ⟨⟩) Q) -∗ W c (.op (.enqueueDma (kSl c) (.here kvM) (.dma kS) hsrc hdst hsem) kk) Q) := by
  unfold kArg
  iintro ⟨#HR, Hsrc, Hdst, Ht⟩ Hk
  ihave Hb := (records_dma P m kS c (by decide)) $$ HR
  icases Hb with ⟨⟨%κ, #HI⟩, #Hr⟩
  iapply (Rounds.wp_copy_pointsTo 𝒱₀ ER (Rd P m) (c : Thread nD τ) none (κ := κ) (src := kSl c) (dst := kvM) (sem := .dma kS) (hsrc := hsrc) (hdst := hdst) (hsem := hsem) (k := kk) (Q := Q)
      (r := 0) (d := 0) (fd := f) (fs := m ((c : Thread nD τ).loc main_arg2)) (q := fullShare)
      (by rw [duties_dma P m _ _ (by decide)]; exact Finset.mem_singleton_self _) 0 nkv rfl (by rw [amount_dma]; rfl)
      (by
        rw [payload_dma]
        show _ ⊢ kPay m c
        rw [kvPts_written]; unfold kPay kArg kVal
        iintro ⟨Hd, Hs⟩
        isplitl [Hd]
        · iexact Hd
        iexact Hs)) $$ [Hsrc Hdst Ht]
  · isplitr; · iexact HI
    isplitl [Hsrc]; · iexact Hsrc
    isplitl [Hdst]; · rw [kvPts_view]; iexact Hdst
    isplitl [Ht]; · iexact Ht
    iexact Hr
  iintro Hc
  iapply Hk
  iexact Hc

theorem wp_v_copy (f : Vec F S2048x8x128 .f32) {hsrc hdst hsem} {α : Type} {Q : α → sProp 𝕄} {kk : PUnit → Prog (TpuEff nD τ sig (Elt F) Λ₀ .tc) α} :
    iprop(records P m ∗ vArg m c ∗ kvPts c f ∗ dutyTok ER (dmaC vS c) 0 0)
      ⊢ iprop((cred (tallyAt (dmaC vS c) 0 (dmaAmt vS.val)) -∗ W c (kk ⟨⟩) Q) -∗ W c (.op (.enqueueDma (vSl c) (.here kvM) (.dma vS) hsrc hdst hsem) kk) Q) := by
  unfold vArg
  iintro ⟨#HR, Hsrc, Hdst, Ht⟩ Hk
  ihave Hb := (records_dma P m vS c (by decide)) $$ HR
  icases Hb with ⟨⟨%κ, #HI⟩, #Hr⟩
  iapply (Rounds.wp_copy_pointsTo 𝒱₀ ER (Rd P m) (c : Thread nD τ) none (κ := κ) (src := vSl c) (dst := kvM) (sem := .dma vS) (hsrc := hsrc) (hdst := hdst) (hsem := hsem) (k := kk) (Q := Q)
      (r := 0) (d := 0) (fd := f) (fs := m ((c : Thread nD τ).loc main_arg3)) (q := fullShare)
      (by rw [duties_dma P m _ _ (by decide)]; exact Finset.mem_singleton_self _) 0 nkv rfl (by rw [amount_dma]; rfl)
      (by
        rw [payload_dma]
        show _ ⊢ vPay m c
        rw [kvPts_written]; unfold vPay vArg vVal
        iintro ⟨Hd, Hs⟩
        isplitl [Hd]
        · iexact Hd
        iexact Hs)) $$ [Hsrc Hdst Ht]
  · isplitr; · iexact HI
    isplitl [Hsrc]; · iexact Hsrc
    isplitl [Hdst]; · rw [kvPts_view]; iexact Hdst
    isplitl [Ht]; · iexact Ht
    iexact Hr
  iintro Hc
  iapply Hk
  iexact Hc

/-! ## From stage to stage -/

/-- What a device held before stage `k` is what it keeps and what it sends. -/
theorem oPts_split (k : Fin 9) (f : Vec F S2048x1024 .bf16) :
    (oPts c (bOff k c) (hs k + hs k) f : sProp 𝕄) = iprop(oPts c (kOff k c) (hs k) f ∗ oPts c (sOff k c) (hs k) f) := by
  rw [oPts_append]
  rcases halves k c with ⟨h1, h2⟩ | ⟨h1, h2⟩
  · rw [h1, h2]
  · rw [h1, h2]
    exact BI.Entails.antisymm (swap _ _) (swap _ _)

/-- What the addition of stage `k` leaves on the rows kept. -/
theorem acc_succ (k : Fin 9) (y : (⟨2, ![hs k, 1024]⟩ : Shape).Idx) :
    acc P (k.val % 3 + 1) c (rowAt (kOff k c) y) = addB (acc P (k.val % 3) c (rowAt (kOff k c) y)) (landed P k c y) := by
  have hy : (y 0).val < hs k := (y 0).isLt
  have hl := kOff_le k c
  have hr : ((rowAt (kOff k c) y) 0).val = kOff k c + (y 0).val := by
    show (kOff k c + (y 0).val) % 2048 = _
    exact Nat.mod_eq_of_lt (by omega)
  have hst : stg (k.val % 3) (rowAt (kOff k c) y) = k := by
    apply Fin.ext
    show (3 * inst ((rowAt (kOff k c) y) 0).val + k.val % 3 % 3) % 9 = k.val
    rw [hr, inst_kept k c _ (by omega) (by omega)]
    have := k.isLt
    omega
  show addB _ (acc P (k.val % 3) (par (stg (k.val % 3) (rowAt (kOff k c) y)) c) _) = _
  rw [hst]
  rfl

theorem owner_kept : ∀ (c : Dev nD) (r : Fin 2048), keeps c r.val = true → owner r.val = c := by decide +kernel

/-- After the last round the rows kept are finished. -/
theorem oPts_res (k : Fin 9) (hk : k.val % 3 = 2) : (oPts c (kOff k c) (hs k) (acc P 3 c) : sProp 𝕄) = oPts c (kOff k c) (hs k) (res P) := by
  refine oPts_congr c _ _ _ _ fun x h1 h2 => ?_
  have hx : keeps c (x 0).val = true := by
    unfold keeps
    have hk9 := k.isLt
    have : k = 2 ∨ k = 5 ∨ k = 8 := by
      rcases k with ⟨k, hk'⟩
      simp only [Fin.ext_iff] at *
      show k = 2 ∨ k = 5 ∨ k = 8
      have hk2 : k % 3 = 2 := hk
      omega
    rcases this with rfl | rfl | rfl
    · have h3 : (x 0).val < kOff 2 c + 96 := h2
      simp [h1, h3]
    · have h3 : (x 0).val < kOff 5 c + 96 := h2
      simp [h1, h3]
    · have h3 : (x 0).val < kOff 8 c + 64 := h2
      simp [h1, h3]
  unfold res
  rw [owner_kept c (x 0) hx]

end Cert.Proto

end
-- ==== Proof.Stages.lean ====
/-
# The stages

What a device holds of a stage's counters, from before its transfer to after both of its waits, for the reduction and for
the spreading, with the rules that lead from one to the next.
-/
module

public import proofs.«01_k».proof.Proof.Moves

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

/-- The levels of the counters that a stage's transfers land on. -/
def rsL (k : Fin 9) : ℕ := 2 + k.val % 3
def agL (k : Fin 9) : ℕ := 7 - k.val % 3

abbrev fresh (q : DmaSem sig) (c : Dev nD) : sProp 𝕄 := atPos ER (dmaC q c) 0 ∅ 0
abbrev done (q : DmaSem sig) (c : Dev nD) : sProp 𝕄 := atPos ER (dmaC q c) 1 ∅ 0

/-- The reduction's stage `k` before its transfer, without the partner's landing buffer; with it; transfer under way; own
    transfer waited for; both waited for. -/
def R0 (k : Fin 9) (c : Dev nD) : sProp 𝕄 :=
  iprop(dutyTok ER (dmaC (rsS k) c) 0 0 ∗ dutyTok ER (dmaC (rsR k) (par k c)) 0 0 ∗ fresh (rsS k) c ∗ fresh (rsR k) c ∗ cred (tallyAt (dmaC (rsR k) c) (rsL k) (dmaAmt (rsR k).val)))
def R1 (k : Fin 9) (c : Dev nD) : sProp 𝕄 :=
  iprop(cred (tallyAt (dmaC (rsS k) c) 0 (dmaAmt (rsS k).val)) ∗ fresh (rsS k) c ∗ fresh (rsR k) c ∗ cred (tallyAt (dmaC (rsR k) c) (rsL k) (dmaAmt (rsR k).val)))
def R2 (k : Fin 9) (c : Dev nD) : sProp 𝕄 :=
  iprop(done (rsS k) c ∗ fresh (rsR k) c ∗ cred (tallyAt (dmaC (rsR k) c) (rsL k) (dmaAmt (rsR k).val)))
def R3 (k : Fin 9) (c : Dev nD) : sProp 𝕄 := iprop(done (rsS k) c ∗ done (rsR k) c)

/-- The same for the spreading. -/
def A0 (k : Fin 9) (c : Dev nD) : sProp 𝕄 :=
  iprop(dutyTok ER (dmaC (agS k) c) 0 0 ∗ dutyTok ER (dmaC (agR k) (par k c)) 0 0 ∗ fresh (agS k) c ∗ fresh (agR k) c ∗ cred (tallyAt (dmaC (agR k) c) (agL k) (dmaAmt (agR k).val)))
def A1 (k : Fin 9) (c : Dev nD) : sProp 𝕄 :=
  iprop(cred (tallyAt (dmaC (agS k) c) 0 (dmaAmt (agS k).val)) ∗ fresh (agS k) c ∗ fresh (agR k) c ∗ cred (tallyAt (dmaC (agR k) c) (agL k) (dmaAmt (agR k).val)))
def A2 (k : Fin 9) (c : Dev nD) : sProp 𝕄 :=
  iprop(done (agS k) c ∗ fresh (agR k) c ∗ cred (tallyAt (dmaC (agR k) c) (agL k) (dmaAmt (agR k).val)))
def A3 (k : Fin 9) (c : Dev nD) : sProp 𝕄 := iprop(done (agS k) c ∗ done (agR k) c)

/-- What may be used at any time. -/
def std : sProp 𝕄 := iprop(records P m ∗ lev)
instance std_persistent : BI.Persistent (std P m) := by unfold std; infer_instance

/-- A stage's transfer of the reduction. -/
theorem rs_send (k : Fin 9) (n : ℕ) (hd : (due c).drop n = payRS k (rsL k) c :: (due c).drop (n + 1))
    {e : Dev nD} (he : e = par k c) {off : Fin 2 → ℕ} (ho : off = ![sOff k c, 0]) {inb}
    {hsc : (rbM k).view.ref.isScScratch = false}
    {hsrc : (oSl off (hs k) inb).view.WordExact} {hdst : (rbM k).view.WordExact}
    {hsem : DmaTarget.Typed .vmem (.dma (rsR k)) (.remote (Dev.tc e : Thread nD τ) (rbM k) (.dma (rsS k)) hsc)}
    {α : Type} {Q : α → sProp 𝕄} {kk : PUnit → Prog (TpuEff nD τ sig (Elt F) Λ₀ .tc) α} :
    iprop(std P m ∗ oweN c n ∗ R0 k c ∗ rbAny k (par k c) ∗ oPts c (sOff k c) (hs k) (acc P (k.val % 3) c))
      ⊢ iprop((oweN c (n + 1) ∗ R1 k c -∗ W c (kk ⟨⟩) Q)
          -∗ W c (.op (.enqueueDma (oSl off (hs k) inb) (.remote (Dev.tc e : Thread nD τ) (rbM k) (.dma (rsS k)) hsc) (.dma (rsR k)) hsrc hdst hsem) kk) Q) := by
  unfold std R0 R1
  iintro ⟨⟨#HR, #Hlev⟩, HO, ⟨Ht1, Ht2, Hf1, Hf2, Hc2⟩, Hrb, Hs⟩ Hk
  iapply (wp_rs_send P m k (rsL k) n hd he ho) $$ [HO Hs Hrb Ht1 Ht2]
  · isplitr; · iexact HR
    isplitl [HO]; · iexact HO
    isplitl [Hs]; · iexact Hs
    isplitl [Hrb]; · iexact Hrb
    isplitl [Ht1]; · iexact Ht1
    iexact Ht2
  iintro ⟨HO, Hc1⟩
  iapply Hk
  isplitl [HO]; · iexact HO
  isplitl [Hc1]; · iexact Hc1
  isplitl [Hf1]; · iexact Hf1
  isplitl [Hf2]; · iexact Hf2
  iexact Hc2

/-- The wait on a stage's own transfer of the reduction. -/
theorem rs_wait (k : Fin 9) (n : ℕ) (hl : ∀ j ∈ lvls.drop n, 0 < j ∧ j < 9)
    {sp sp' : Space} {s s' : Shape} {e e' : EltTy} {src : Memref sig .tc sp' s' e'} {dst : Memref sig .tc sp s e}
    {hsrc : src.view.WordExact} {hdst : dst.view.WordExact} (hN : dst.view.dmaCredit = dmaAmt (rsS k).val)
    {α : Type} {Q : α → sProp 𝕄} {kk : PUnit → Prog (TpuEff nD τ sig (Elt F) Λ₀ .tc) α} :
    iprop(std P m ∗ oweN c n ∗ R1 k c) ⊢ iprop((oweN c n ∗ R2 k c -∗ W c (kk ⟨⟩) Q) -∗ W c (.op (.waitDma2 (rsS k) src dst hsrc hdst) kk) Q) := by
  unfold std R1 R2
  iintro ⟨⟨#HR, #Hlev⟩, HO, ⟨Hc1, Hf1, Hf2, Hc2⟩⟩ Hk
  iapply (wp_dma_wait P m (rsS k) (by show 4 ≤ 4 + k.val; omega) 0 (by decide) n hl hN) $$ [HO Hc1 Hf1]
  · isplitr; · iexact HR
    isplitr; · iexact Hlev
    isplitl [HO]; · iexact HO
    isplitl [Hc1]; · iexact Hc1
    iexact Hf1
  iintro ⟨HO, Hd, -⟩
  iapply Hk
  isplitl [HO]; · iexact HO
  isplitl [Hd]; · iexact Hd
  isplitl [Hf2]; · iexact Hf2
  iexact Hc2

/-- The wait on what a stage of the reduction lands here. -/
theorem rs_recv (k : Fin 9) (n : ℕ) (hl : ∀ j ∈ lvls.drop n, rsL k < j ∧ j < 9)
    {sp sp' : Space} {s s' : Shape} {e e' : EltTy} {src : Memref sig .tc sp' s' e'} {dst : Memref sig .tc sp s e}
    {hsrc : src.view.WordExact} {hdst : dst.view.WordExact} (hN : dst.view.dmaCredit = dmaAmt (rsR k).val)
    {α : Type} {Q : α → sProp 𝕄} {kk : PUnit → Prog (TpuEff nD τ sig (Elt F) Λ₀ .tc) α} :
    iprop(std P m ∗ oweN c n ∗ R2 k c)
      ⊢ iprop((oweN c n ∗ R3 k c ∗ rbAt k c (landed P k c) ∗ oPts (par k c) (kOff k c) (hs k) (acc P (k.val % 3) (par k c)) -∗ W c (kk ⟨⟩) Q)
          -∗ W c (.op (.waitDma2 (rsR k) src dst hsrc hdst) kk) Q) := by
  unfold std R2 R3
  iintro ⟨⟨#HR, #Hlev⟩, HO, ⟨Hd1, Hf2, Hc2⟩⟩ Hk
  iapply (wp_dma_wait P m (rsR k) (by show 4 ≤ 13 + k.val; omega) (rsL k) (by unfold rsL; omega) n hl hN) $$ [HO Hc2 Hf2]
  · isplitr; · iexact HR
    isplitr; · iexact Hlev
    isplitl [HO]; · iexact HO
    isplitl [Hc2]; · iexact Hc2
    iexact Hf2
  rw [dmaPay_rsR]
  unfold rsPay
  iintro ⟨HO, Hd2, Hrb, Hs⟩
  iapply Hk
  isplitl [HO]; · iexact HO
  isplitl [Hd1 Hd2]
  · isplitl [Hd1]; · iexact Hd1
    iexact Hd2
  isplitl [Hrb]; · iexact Hrb
  iexact Hs

/-- A stage's transfer of the spreading. -/
theorem ag_send (k : Fin 9) (n : ℕ) (hd : (due c).drop n = payAG k (agL k) c :: (due c).drop (n + 1))
    {e : Dev nD} (he : e = par k c) {off : Fin 2 → ℕ} (ho : off = ![kOff k c, 0]) {inb} (hcr : (oSl off (hs k) inb).view.dmaCredit = ncr k)
    (g : Vec F S2048x1024 .bf16)
    {hsc : (oSl off (hs k) inb).view.ref.isScScratch = false}
    {hsrc : (oSl off (hs k) inb).view.WordExact} {hdst : (oSl off (hs k) inb).view.WordExact}
    {hsem : DmaTarget.Typed .vmem (.dma (agR k)) (.remote (Dev.tc e : Thread nD τ) (oSl off (hs k) inb) (.dma (agS k)) hsc)}
    {α : Type} {Q : α → sProp 𝕄} {kk : PUnit → Prog (TpuEff nD τ sig (Elt F) Λ₀ .tc) α} :
    iprop(std P m ∗ oweN c n ∗ A0 k c ∗ oPts c (kOff k c) (hs k) (res P) ∗ oPts (par k c) (kOff k c) (hs k) g)
      ⊢ iprop((oweN c (n + 1) ∗ A1 k c -∗ W c (kk ⟨⟩) Q)
          -∗ W c (.op (.enqueueDma (oSl off (hs k) inb) (.remote (Dev.tc e : Thread nD τ) (oSl off (hs k) inb) (.dma (agS k)) hsc) (.dma (agR k)) hsrc hdst hsem) kk) Q) := by
  unfold std A0 A1
  iintro ⟨⟨#HR, #Hlev⟩, HO, ⟨Ht1, Ht2, Hf1, Hf2, Hc2⟩, Hs, Hp⟩ Hk
  iapply (wp_ag_send P m k (agL k) n hd he ho (by exact hcr) g) $$ [HO Hs Hp Ht1 Ht2]
  · isplitr; · iexact HR
    isplitl [HO]; · iexact HO
    isplitl [Hs]; · iexact Hs
    isplitl [Hp]; · iexact Hp
    isplitl [Ht1]; · iexact Ht1
    iexact Ht2
  iintro ⟨HO, Hc1⟩
  iapply Hk
  isplitl [HO]; · iexact HO
  isplitl [Hc1]; · iexact Hc1
  isplitl [Hf1]; · iexact Hf1
  isplitl [Hf2]; · iexact Hf2
  iexact Hc2

/-- The wait on a stage's own transfer of the spreading. -/
theorem ag_wait (k : Fin 9) (n : ℕ) (hl : ∀ j ∈ lvls.drop n, 0 < j ∧ j < 9)
    {sp sp' : Space} {s s' : Shape} {e e' : EltTy} {src : Memref sig .tc sp' s' e'} {dst : Memref sig .tc sp s e}
    {hsrc : src.view.WordExact} {hdst : dst.view.WordExact} (hN : dst.view.dmaCredit = dmaAmt (agS k).val)
    {α : Type} {Q : α → sProp 𝕄} {kk : PUnit → Prog (TpuEff nD τ sig (Elt F) Λ₀ .tc) α} :
    iprop(std P m ∗ oweN c n ∗ A1 k c)
      ⊢ iprop((oweN c n ∗ A2 k c ∗ oPts c (kOff k c) (hs k) (res P) -∗ W c (kk ⟨⟩) Q) -∗ W c (.op (.waitDma2 (agS k) src dst hsrc hdst) kk) Q) := by
  unfold std A1 A2
  iintro ⟨⟨#HR, #Hlev⟩, HO, ⟨Hc1, Hf1, Hf2, Hc2⟩⟩ Hk
  iapply (wp_dma_wait P m (agS k) (by show 4 ≤ 22 + k.val; omega) 0 (by decide) n hl hN) $$ [HO Hc1 Hf1]
  · isplitr; · iexact HR
    isplitr; · iexact Hlev
    isplitl [HO]; · iexact HO
    isplitl [Hc1]; · iexact Hc1
    iexact Hf1
  rw [dmaPay_agS]
  unfold agSPay
  iintro ⟨HO, Hd, Hp⟩
  iapply Hk
  isplitl [HO]; · iexact HO
  isplitl [Hd Hf2 Hc2]
  · isplitl [Hd]; · iexact Hd
    isplitl [Hf2]; · iexact Hf2
    iexact Hc2
  iexact Hp

/-- The wait on what a stage of the spreading lands here. -/
theorem ag_recv (k : Fin 9) (n : ℕ) (hl : ∀ j ∈ lvls.drop n, agL k < j ∧ j < 9)
    {sp sp' : Space} {s s' : Shape} {e e' : EltTy} {src : Memref sig .tc sp' s' e'} {dst : Memref sig .tc sp s e}
    {hsrc : src.view.WordExact} {hdst : dst.view.WordExact} (hN : dst.view.dmaCredit = dmaAmt (agR k).val)
    {α : Type} {Q : α → sProp 𝕄} {kk : PUnit → Prog (TpuEff nD τ sig (Elt F) Λ₀ .tc) α} :
    iprop(std P m ∗ oweN c n ∗ A2 k c)
      ⊢ iprop((oweN c n ∗ A3 k c ∗ oPts c (sOff k c) (hs k) (res P) -∗ W c (kk ⟨⟩) Q) -∗ W c (.op (.waitDma2 (agR k) src dst hsrc hdst) kk) Q) := by
  unfold std A2 A3
  iintro ⟨⟨#HR, #Hlev⟩, HO, ⟨Hd1, Hf2, Hc2⟩⟩ Hk
  iapply (wp_dma_wait P m (agR k) (by show 4 ≤ 31 + k.val; omega) (agL k) (by unfold agL; omega) n hl hN) $$ [HO Hc2 Hf2]
  · isplitr; · iexact HR
    isplitr; · iexact Hlev
    isplitl [HO]; · iexact HO
    isplitl [Hc2]; · iexact Hc2
    iexact Hf2
  rw [dmaPay_agR]
  unfold agRPay
  iintro ⟨HO, Hd2, Hp⟩
  iapply Hk
  isplitl [HO]; · iexact HO
  isplitl [Hd1 Hd2]
  · isplitl [Hd1]; · iexact Hd1
    iexact Hd2
  iexact Hp

/-- The copy of the keys waited for; of the values. -/
theorem k_wait (n : ℕ) (hl : ∀ j ∈ lvls.drop n, 0 < j ∧ j < 9)
    {sp' : Space} {s' : Shape} {e' : EltTy} {src : Memref sig .tc sp' s' e'} {hsrc : src.view.WordExact} {hdst : kvM.view.WordExact}
    {α : Type} {Q : α → sProp 𝕄} {kk : PUnit → Prog (TpuEff nD τ sig (Elt F) Λ₀ .tc) α} :
    iprop(std P m ∗ oweN c n ∗ cred (tallyAt (dmaC kS c) 0 (dmaAmt kS.val)) ∗ fresh kS c)
      ⊢ iprop((oweN c n ∗ done kS c ∗ kvPts c (kVal m c) ∗ kArg m c -∗ W c (kk ⟨⟩) Q) -∗ W c (.op (.waitDma2 kS src kvM hsrc hdst) kk) Q) := by
  unfold std
  iintro ⟨⟨#HR, #Hlev⟩, HO, Hc, Hf⟩ Hk
  iapply (wp_dma_wait P m kS (by decide) 0 (by decide) n hl rfl) $$ [HO Hc Hf]
  · isplitr; · iexact HR
    isplitr; · iexact Hlev
    isplitl [HO]; · iexact HO
    isplitl [Hc]; · iexact Hc
    iexact Hf
  rw [show dmaPay P m kS.val c = iprop(kvPts c (kVal m c) ∗ kArg m c) from rfl]
  iintro ⟨HO, Hd, Hp, Ha⟩
  iapply Hk
  isplitl [HO]; · iexact HO
  isplitl [Hd]; · iexact Hd
  isplitl [Hp]; · iexact Hp
  iexact Ha

theorem v_wait (n : ℕ) (hl : ∀ j ∈ lvls.drop n, 0 < j ∧ j < 9)
    {sp' : Space} {s' : Shape} {e' : EltTy} {src : Memref sig .tc sp' s' e'} {hsrc : src.view.WordExact} {hdst : kvM.view.WordExact}
    {α : Type} {Q : α → sProp 𝕄} {kk : PUnit → Prog (TpuEff nD τ sig (Elt F) Λ₀ .tc) α} :
    iprop(std P m ∗ oweN c n ∗ cred (tallyAt (dmaC vS c) 0 (dmaAmt vS.val)) ∗ fresh vS c)
      ⊢ iprop((oweN c n ∗ done vS c ∗ kvPts c (vVal m c) ∗ vArg m c -∗ W c (kk ⟨⟩) Q) -∗ W c (.op (.waitDma2 vS src kvM hsrc hdst) kk) Q) := by
  unfold std
  iintro ⟨⟨#HR, #Hlev⟩, HO, Hc, Hf⟩ Hk
  iapply (wp_dma_wait P m vS (by decide) 0 (by decide) n hl rfl) $$ [HO Hc Hf]
  · isplitr; · iexact HR
    isplitr; · iexact Hlev
    isplitl [HO]; · iexact HO
    isplitl [Hc]; · iexact Hc
    iexact Hf
  rw [show dmaPay P m vS.val c = iprop(kvPts c (vVal m c) ∗ vArg m c) from rfl]
  iintro ⟨HO, Hd, Hp, Ha⟩
  iapply Hk
  isplitl [HO]; · iexact HO
  isplitl [Hd]; · iexact Hd
  isplitl [Hp]; · iexact Hp
  iexact Ha

/-- Two partial results added row by row leave the next. -/
theorem acc_store (k : Fin 9) (w : Vec F ⟨2, ![hs k, 1024]⟩ .bf16)
    (hw : w = truncf .bf16 (addf (extf .f32 (rwin (acc P (k.val % 3) c) (kOff k c) : Vec F ⟨2, ![hs k, 1024]⟩ .bf16) bitsLt_bf16_f32) (extf .f32 (landed P k c) bitsLt_bf16_f32)) bitsLt_bf16_f32) :
    ∀ y, acc P (k.val % 3 + 1) c (rowAt (kOff k c) y) = w y := fun y => by
  rw [hw, acc_succ]; rfl

/-- A band after the products: the first round's two halves. -/
theorem oPts_first (k : Fin 9) (hk : k.val % 3 = 0) :
    (oPts c (bOff k c) (hs k + hs k) (P c) : sProp 𝕄) ⊢ iprop(oPts c (kOff k c) (hs k) (acc P (k.val % 3) c) ∗ oPts c (sOff k c) (hs k) (acc P (k.val % 3) c)) := by
  rw [hk]; exact of_eq (oPts_split k (P c))

theorem hs_next : ∀ k k' : Fin 9, k'.val = k.val + 1 → k.val % 3 < 2 → hs k' + hs k' = hs k := by decide +kernel
theorem bOff_next (k k' : Fin 9) (h : k'.val = k.val + 1) (hm : k.val % 3 < 2) : bOff k' c = kOff k c := by
  revert h hm; revert k k' c; decide +kernel

/-- The rows kept in one round: the next round's two halves. -/
theorem oPts_next (k k' : Fin 9) (h : k'.val = k.val + 1) (hm : k.val % 3 < 2) :
    (oPts c (kOff k c) (hs k) (acc P (k.val % 3 + 1) c) : sProp 𝕄)
      ⊢ iprop(oPts c (kOff k' c) (hs k') (acc P (k'.val % 3) c) ∗ oPts c (sOff k' c) (hs k') (acc P (k'.val % 3) c)) := by
  have e : k'.val % 3 = k.val % 3 + 1 := by omega
  rw [e, ← bOff_next k k' h hm, ← hs_next k k' h hm]; exact of_eq (oPts_split k' _)

/-- Put together again. -/
theorem oPts_back (k k' : Fin 9) (h : k'.val = k.val + 1) (hm : k.val % 3 < 2) (f : Vec F S2048x1024 .bf16) :
    (iprop(oPts c (kOff k' c) (hs k') f ∗ oPts c (sOff k' c) (hs k') f) : sProp 𝕄) ⊢ oPts c (kOff k c) (hs k) f := by
  rw [← bOff_next k k' h hm, ← hs_next k k' h hm]; exact of_eq (oPts_split k' _).symm
theorem oPts_band (k : Fin 9) (f : Vec F S2048x1024 .bf16) :
    (iprop(oPts c (kOff k c) (hs k) f ∗ oPts c (sOff k c) (hs k) f) : sProp 𝕄) ⊢ oPts c (bOff k c) (hs k + hs k) f := of_eq (oPts_split k _).symm

theorem oPts_last (k : Fin 9) (hk : k.val % 3 = 2) : (oPts c (kOff k c) (hs k) (acc P (k.val % 3 + 1) c) : sProp 𝕄) ⊢ oPts c (kOff k c) (hs k) (res P) := by
  rw [hk]; exact of_eq (oPts_res P k hk)

/-- The signal to a partner. -/
theorem bar_signal (d : Fin 3) {e : Dev nD} (he : e = par (bk d) c) {amt : ℕ} (hamt : 1 = amt) (n : ℕ)
    (hd : (due c).drop n = payBar (bk d) c :: (due c).drop (n + 1))
    {α : Type} {Q : α → sProp 𝕄} {k : PUnit → Prog (TpuEff nD τ sig (Elt F) Λ₀ .tc) α} :
    iprop(std P m ∗ oweN c n ∗ dutyTok ER (barC (par (bk d) c)) 0 d ∗ barPay d (par (bk d) c))
      ⊢ iprop((oweN c (n + 1) -∗ W c (k ⟨⟩) Q) -∗ W c (.op (.semSignal (e, Proc.tc) barS amt) k) Q) := by
  unfold std
  iintro ⟨⟨#HR, #Hlev⟩, HO, Ht, Hp⟩ Hk
  iapply (wp_bar_signal P m d he hamt n hd) $$ [HO Ht Hp]
  · isplitr; · iexact HR
    isplitl [HO]; · iexact HO
    isplitl [Ht]; · iexact Ht
    iexact Hp
  iexact Hk

/-- The wait for the three partners, and what they hand over. -/
theorem bar_wait {amt : ℕ} (hamt : 3 = amt) {α : Type} {Q : α → sProp 𝕄} {k : PUnit → Prog (TpuEff nD τ sig (Elt F) Λ₀ .tc) α} :
    iprop(std P m ∗ oweN c 3 ∗ cred (tallyAt (barC c) 1 3) ∗ atPos ER (barC c) 0 ∅ 0)
      ⊢ iprop((oweN c 3 ∗ atPos ER (barC c) 1 ∅ 0 ∗ (rbAny 0 (par 0 c) ∗ rbAny 5 (par 5 c) ∗ rbAny 7 (par 7 c)) ∗ (rbAny 1 (par 1 c) ∗ rbAny 3 (par 3 c) ∗ rbAny 8 (par 8 c))
            ∗ (rbAny 2 (par 2 c) ∗ rbAny 4 (par 4 c) ∗ rbAny 6 (par 6 c)) -∗ W c (k ⟨⟩) Q)
          -∗ W c (.op (.semWait barS amt) k) Q) := by
  unfold std
  iintro ⟨⟨#HR, #Hlev⟩, HO, Hc, Hf⟩ Hk
  iapply (wp_bar_wait P m hamt) $$ [HO Hc Hf]
  · isplitr; · iexact HR
    isplitr; · iexact Hlev
    isplitl [HO]; · iexact HO
    isplitl [Hc]; · iexact Hc
    iexact Hf
  iexact Hk

/-- The copies of the keys and of the values. -/
theorem k_copy (f : Vec F S2048x8x128 .f32) {hsrc hdst hsem} {α : Type} {Q : α → sProp 𝕄} {kk : PUnit → Prog (TpuEff nD τ sig (Elt F) Λ₀ .tc) α} :
    iprop(std P m ∗ kArg m c ∗ kvPts c f ∗ dutyTok ER (dmaC kS c) 0 0)
      ⊢ iprop((cred (tallyAt (dmaC kS c) 0 (dmaAmt kS.val)) -∗ W c (kk ⟨⟩) Q) -∗ W c (.op (.enqueueDma (kSl c) (.here kvM) (.dma kS) hsrc hdst hsem) kk) Q) := by
  unfold std
  iintro ⟨⟨#HR, -⟩, H1, H2, H3⟩ Hk
  iapply (wp_k_copy P m f) $$ [H1 H2 H3]
  · isplitr; · iexact HR
    isplitl [H1]; · iexact H1
    isplitl [H2]; · iexact H2
    iexact H3
  iexact Hk
theorem v_copy (f : Vec F S2048x8x128 .f32) {hsrc hdst hsem} {α : Type} {Q : α → sProp 𝕄} {kk : PUnit → Prog (TpuEff nD τ sig (Elt F) Λ₀ .tc) α} :
    iprop(std P m ∗ vArg m c ∗ kvPts c f ∗ dutyTok ER (dmaC vS c) 0 0)
      ⊢ iprop((cred (tallyAt (dmaC vS c) 0 (dmaAmt vS.val)) -∗ W c (kk ⟨⟩) Q) -∗ W c (.op (.enqueueDma (vSl c) (.here kvM) (.dma vS) hsrc hdst hsem) kk) Q) := by
  unfold std
  iintro ⟨⟨#HR, -⟩, H1, H2, H3⟩ Hk
  iapply (wp_v_copy P m f) $$ [H1 H2 H3]
  · isplitr; · iexact HR
    isplitl [H1]; · iexact H1
    isplitl [H2]; · iexact H2
    iexact H3
  iexact Hk

end Cert.Proto

end
-- ==== Proof.Heads.lean ====
/-
# The heads

What the kernel computes on one device, and the loop over the row groups and heads.
-/
module

public import proofs.«01_k».proof.Proof.Stages
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

/-- The regrouped queries. -/
def QP (xf : Vec F S1x2048x1024 .f32) (wq : Vec F S1024x1024 .f32) : Vec F S2048x1024 .bf16 := k0_pay75 (rwin (XP xf) 0) wq
/-- Attention of device `c`'s heads, in the regrouped order. -/
def CT (c : Dev nD) (xf : Vec F S1x2048x1024 .f32) (wq : Vec F S1024x1024 .f32) : Vec F S2048x1024 .bf16 :=
  ctxG (QP xf wq) (KP (kVal m c)) (KP (vVal m c)) 32
/-- The partial result: attention in the original order times the device's rows of the output projection, in three bands. -/
def P0 (C : Vec F S2048x1024 .bf16) (wo : Vec F S1024x1024 .f32) : Vec F S2048x1024 .bf16 := fun x =>
  if (x 0).val < 768 then k0_pay128 (k0_pay115 wo) (rwin (gath C 0) 0) (ix2 ⟨(x 0).val % 768, Nat.mod_lt _ (by decide)⟩ (x 1))
  else if (x 0).val < 1536 then k0_pay141 (k0_pay115 wo) (rwin (gath C 12) 0) (ix2 ⟨((x 0).val - 768) % 768, Nat.mod_lt _ (by decide)⟩ (x 1))
  else k0_pay150 (k0_pay115 wo) (rwin (gath C 24) 0) (ix2 ⟨((x 0).val - 1536) % 512, Nat.mod_lt _ (by decide)⟩ (x 1))

omit [FloatOps F] in
theorem ix2_eta {a b : ℕ} (y : (⟨2, ![a, b]⟩ : Shape).Idx) (h : (y 0).val < a) : (ix2 ⟨(y 0).val, h⟩ (y 1) : (⟨2, ![a, b]⟩ : Shape).Idx) = y := by
  funext i; fin_cases i <;> rfl

theorem P0_a (C : Vec F S2048x1024 .bf16) (wo : Vec F S1024x1024 .f32) (y : S768x1024.Idx) : P0 C wo (rowAt 0 y) = k0_pay128 (k0_pay115 wo) (rwin (gath C 0) 0) y := by
  have hy : (y 0).val < 768 := (y 0).isLt
  have e : ((rowAt 0 y) 0).val = (y 0).val := by show (0 + (y 0).val) % 2048 = _; omega
  have e1 : (rowAt 0 y) 1 = y 1 := rfl
  unfold P0
  simp only [e, e1]
  rw [if_pos hy]
  congr 1
  funext i; fin_cases i
  · exact Fin.ext (Nat.mod_eq_of_lt hy)
  · rfl
theorem P0_b (C : Vec F S2048x1024 .bf16) (wo : Vec F S1024x1024 .f32) (y : S768x1024.Idx) : P0 C wo (rowAt 768 y) = k0_pay141 (k0_pay115 wo) (rwin (gath C 12) 0) y := by
  have hy : (y 0).val < 768 := (y 0).isLt
  have e : ((rowAt 768 y) 0).val = 768 + (y 0).val := by show (768 + (y 0).val) % 2048 = _; omega
  have e1 : (rowAt 768 y) 1 = y 1 := rfl
  unfold P0
  simp only [e, e1]
  rw [if_neg (by omega), if_pos (by omega)]
  congr 1
  funext i; fin_cases i
  · exact Fin.ext (by show (768 + (y 0).val - 768) % 768 = (y 0).val; omega)
  · rfl
theorem P0_c (C : Vec F S2048x1024 .bf16) (wo : Vec F S1024x1024 .f32) (y : S512x1024.Idx) : P0 C wo (rowAt 1536 y) = k0_pay150 (k0_pay115 wo) (rwin (gath C 24) 0) y := by
  have hy : (y 0).val < 512 := (y 0).isLt
  have e : ((rowAt 1536 y) 0).val = 1536 + (y 0).val := by show (1536 + (y 0).val) % 2048 = _; omega
  have e1 : (rowAt 1536 y) 1 = y 1 := rfl
  unfold P0
  simp only [e, e1]
  rw [if_neg (by omega), if_neg (by omega)]
  congr 1
  funext i; fin_cases i
  · exact Fin.ext (by show (1536 + (y 0).val - 1536) % 512 = (y 0).val; omega)
  · rfl

theorem tile_off : ∀ t : Fin k0_t1_loop.trips, k0_off2 t = ![512 * (t.val / 8), 128 * (t.val % 8)] := by decide +kernel
theorem trips_32 : k0_t1_loop.trips = 32 := by decide +kernel

theorem tile_ctxG (q k v : Vec F S2048x1024 .bf16) (t : ℕ) (ht : t < 32) : tile (ctxG q k v t) t = tile q t := by
  funext y
  have h0 : (y 0).val < 512 := (y 0).isLt
  have h1 : (y 1).val < 128 := (y 1).isLt
  show (if tileOf (ix2 ⟨(512 * (t / 8) + (y 0).val) % 2048, _⟩ ⟨(128 * (t % 8) + (y 1).val) % 1024, _⟩) < t then _ else _) = _
  rw [if_neg]
  · rfl
  · show ¬ (8 * ((512 * (t / 8) + (y 0).val) % 2048 / 512) + (128 * (t % 8) + (y 1).val) % 1024 / 128 < t)
    omega

theorem W_ret {α : Type} {a : α} {Q : α → sProp 𝕄} : Q a ⊢ W c (.ret a) Q := by
  show Q a ⊢ wp frame (wpE (defs₀ (F := F)) 𝒱₀ (c : Thread nD τ) none) Set.univ (.ret a) Q
  rw [wp_ret]
  iintro H
  imodintro
  iexact H

theorem rowAt_zero (y : S2048x1024.Idx) : rowAt (n := 2048) 0 y = y := by
  funext i; fin_cases i
  · exact Fin.ext (by show (0 + (y 0).val) % 2048 = (y 0).val; have : (y 0).val < 2048 := (y 0).isLt; omega)
  · rfl

/-- A store of block `j`, in a buffer filled block by block. -/
theorem wp_fill (M : Memref sig .tc .vmem S2048x1024 .bf16) (G : Vec F S2048x1024 .bf16) (B : ℕ → Vec F S64x1024 .bf16) (hG : G = byBlocks B) (j n n' : ℕ) (hj : j < 32) (hn : n = 64 * j) (hn' : n' = 64 * (j + 1))
    (off : Fin 2 → ℕ) (ho : off = ![n, 0]) (w : Vec F S64x1024 .bf16) (hw : w = B j)
    {inb : ∀ a, off a + (![64, 1024] : Fin 2 → ℕ) a ≤ S2048x1024.size a}
    {hx : (M.access (Rect.unit (s := S2048x1024) off ![64, 1024] inb)).Stores Finset.univ} {hm}
    {α : Type} {k : PUnit → Prog (TpuEff nD τ sig (Elt F) Λ₀ .tc) α} {Q : α → sProp 𝕄} :
    (scr M c G n : sProp 𝕄) ⊢ iprop((scr M c G n' -∗ W c (k ⟨⟩) Q) -∗ W c (.op (.store M (Rect.unit (s := S2048x1024) off ![64, 1024] inb) w Finset.univ hx hm) k) Q) := by
  subst hG hn hn'
  exact wp_block_store M B j hj ho hw

/-- One trip of the loop. -/
theorem wp_trip (q k v : Vec F S2048x1024 .bf16) (w : FVec F S64x1024 .f32) (t : Fin k0_t1_loop.trips) {Q : PUnit.{1} → sProp 𝕄} :
    iprop(scr qpM c (ctxG q k v t.val) 2048 ∗ scr kpM c k 2048 ∗ scr vpM c v 2048)
      ⊢ iprop((scr qpM c (ctxG q k v (t.val + 1)) 2048 ∗ scr kpM c k 2048 ∗ scr vpM c v 2048 -∗ Q ⟨⟩)
          -∗ W c (k0_t1_body (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 w t ⟨⟩) Q) := by
  have ht : t.val < 32 := lt_of_lt_of_eq t.isLt trips_32
  unfold k0_t1_body
  simp only [k0_part1_eq_skeleton]
  unfold k0_part1_skel
  simp only [Prog.lift, Prog.bind_op, Prog.bind_ret, Prog.pure_eq_ret]
  iintro ⟨HQ, HK, HV⟩ Hk
  iapply (wp_tile_load qpM _ t.val ht (tile_off t)) $$ HQ
  iintro HQ
  iapply (wp_tile_load kpM _ t.val ht (tile_off t)) $$ HK
  iintro HK
  iapply (wp_tile_load vpM _ t.val ht (tile_off t)) $$ HV
  iintro HV
  iapply (wp_tile_load qpM _ t.val ht (tile_off t)) $$ HQ
  iintro HQ
  iapply (wp_tile_store qpM _ (ctxG q k v (t.val + 1)) t.val ht (tile_off t)
    (fun x hx => by
      rw [tile_ctxG q k v t.val ht]
      unfold ctxG
      rw [if_pos (by omega), hx]
      rfl)
    (fun x hx => by
      unfold ctxG
      by_cases h : tileOf x < t.val
      · rw [if_pos h, if_pos (by omega)]
      · rw [if_neg h, if_neg (by omega)])) $$ HQ
  iintro HQ
  iapply W_ret
  iapply Hk
  isplitl [HQ]; · iexact HQ
  isplitl [HK]; · iexact HK
  iexact HV

/-- The loop. -/
theorem wp_heads (q k v : Vec F S2048x1024 .bf16) (w : FVec F S64x1024 .f32) {α : Type} {Q : α → sProp 𝕄} {kk : PUnit → Prog (TpuEff nD τ sig (Elt F) Λ₀ .tc) α} :
    iprop(scr qpM c q 2048 ∗ scr kpM c k 2048 ∗ scr vpM c v 2048)
      ⊢ iprop((scr qpM c (ctxG q k v 32) 2048 ∗ scr kpM c k 2048 ∗ scr vpM c v 2048 -∗ W c (kk ⟨⟩) Q)
          -∗ W c (Scf.Loop.for k0_t1_loop k0_t1_ok ⟨⟩ (k0_t1_body (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 w) >>= kk) Q) := by
  iintro H Hk
  ihave H0 := (show iprop(scr qpM c q 2048 ∗ scr kpM c k 2048 ∗ scr vpM c v 2048) ⊢ (fun (n : ℕ) (_ : PUnit.{1}) => (iprop(scr qpM c (ctxG q k v n) 2048 ∗ scr kpM c k 2048 ∗ scr vpM c v 2048) : sProp 𝕄)) 0 PUnit.unit from by
    iintro ⟨HQ, HK, HV⟩
    isplitl [HQ]
    · iapply (scr_mono qpM (n := 2048) (G := q) (fun x hx => ⟨hx, by unfold ctxG; rw [if_neg (Nat.not_lt_zero _)]⟩)) $$ HQ
    isplitl [HK]; · iexact HK
    iexact HV) $$ H
  iapply (Scf.wp_for_bind _ (wpE (defs₀ (F := F)) 𝒱₀ (c : Thread nD τ) none) Set.univ k0_t1_loop.lb k0_t1_loop.ub k0_t1_loop.st k0_t1_ok ⟨⟩ _
    (fun (n : ℕ) (_ : PUnit.{1}) => (iprop(scr qpM c (ctxG q k v n) 2048 ∗ scr kpM c k 2048 ∗ scr vpM c v 2048) : sProp 𝕄))
    (fun t _ => by
      iintro H
      iapply (wp_trip q k v w t) $$ H
      iintro H
      iexact H)) $$ H0
  iintro %acc H
  iapply Hk
  ihave H := (of_eq (show (fun (n : ℕ) (_ : PUnit.{1}) => (iprop(scr qpM c (ctxG q k v n) 2048 ∗ scr kpM c k 2048 ∗ scr vpM c v 2048) : sProp 𝕄)) k0_t1_loop.trips acc = iprop(scr qpM c (ctxG q k v 32) 2048 ∗ scr kpM c k 2048 ∗ scr vpM c v 2048) from by rw [trips_32])) $$ H
  iexact H

end Cert.Proto

end
-- ==== Proof.PartsA.lean ====
/-
# The activations

Parts 2 to 8 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part2_ok (P : Dev nD → Vec F S2048x1024 .bf16) (m : (ℓ : Loc nD τ sig) → Buf (Elt F) ℓ) (xf : Vec F S1x2048x1024 .f32) (kv0 : Vec F S2048x8x128 .f32) {Q : (Σ' (d0 : Dev nD) (v2 : BitVec 32), FVec F S64x1024 .bf16) → sProp 𝕄} :
    iprop(std P m ∗ oweN c 0 ∗ dutyTok ER (barC (par (bk 0) c)) 0 0 ∗ barPay 0 (par (bk 0) c) ∗ dutyTok ER (barC (par (bk 1) c)) 0 1 ∗ barPay 1 (par (bk 1) c) ∗ dutyTok ER (barC (par (bk 2) c)) 0 2 ∗ barPay 2 (par (bk 2) c) ∗ cred (tallyAt (barC c) 1 3) ∗ atPos ER (barC c) 0 ∅ 0 ∗ kArg m c ∗ kvPts c kv0 ∗ dutyTok ER (dmaC kS c) 0 0 ∗ hold xM c xf ∗ scr xpM c (XP xf) 0)
      ⊢ iprop((∀ v2 : BitVec 32, oweN c 3 ∗ atPos ER (barC c) 1 ∅ 0 ∗ hold xM c xf ∗ scr xpM c (XP xf) 64 ∗ rbAny 0 (par 0 c) ∗ rbAny 1 (par 1 c) ∗ rbAny 2 (par 2 c) ∗ rbAny 3 (par 3 c) ∗ rbAny 4 (par 4 c) ∗ rbAny 5 (par 5 c) ∗ rbAny 6 (par 6 c) ∗ rbAny 7 (par 7 c) ∗ rbAny 8 (par 8 c) ∗ cred (tallyAt (dmaC kS c) 0 (dmaAmt kS.val)) -∗ Q ⟨c, v2, (k0_pay5 (xwin xf 256))⟩)
          -∗ W c (k0_part2 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part2_eq_skeleton]
  unfold k0_part2_skel
  simp only [semSignalWord, semWaitWord, Prog.lift, Prog.bind_op, Prog.bind_ret, Prog.pure_eq_ret, wp_deviceId]
  iintro ⟨#Hstd, HO, HBT0, HBP0, HBT1, HBP1, HBT2, HBP2, HBC, HBF, HKA, HKV, HKD, HX, HXP⟩ Hk
  iapply (bar_signal P m 0 (e := ⟨k0_dev1 c, k0_dev1_lt c⟩) (dev1 c) rfl 0 rfl) $$ [HO HBT0 HBP0]
  · isplitr; · iexact Hstd
    isplitl [HO]; · iexact HO
    isplitl [HBT0]; · iexact HBT0
    iexact HBP0
  iintro HO
  iapply (bar_signal P m 1 (e := ⟨k0_dev2 c, k0_dev2_lt c⟩) (dev2 c) rfl 1 rfl) $$ [HO HBT1 HBP1]
  · isplitr; · iexact Hstd
    isplitl [HO]; · iexact HO
    isplitl [HBT1]; · iexact HBT1
    iexact HBP1
  iintro HO
  iapply (bar_signal P m 2 (e := ⟨k0_dev3 c, k0_dev3_lt c⟩) (dev3 c) rfl 2 rfl) $$ [HO HBT2 HBP2]
  · isplitr; · iexact Hstd
    isplitl [HO]; · iexact HO
    isplitl [HBT2]; · iexact HBT2
    iexact HBP2
  iintro HO
  iapply (bar_wait P m rfl) $$ [HO HBC HBF]
  · isplitr; · iexact Hstd
    isplitl [HO]; · iexact HO
    isplitl [HBC]; · iexact HBC
    iexact HBF
  iintro ⟨HO, HBF, ⟨HL0, HL5, HL7⟩, ⟨HL1, HL3, HL8⟩, ⟨HL2, HL4, HL6⟩⟩
  iapply (k_copy P m kv0) $$ [HKA HKV HKD]
  · isplitr; · iexact Hstd
    isplitl [HKA]; · iexact HKA
    isplitl [HKV]; · iexact HKV
    iexact HKD
  iintro HKC
  iapply (wp_x_load xf 0 (by decide) rfl) $$ HX
  iintro HX
  iapply (wp_dead_load xpM _ _) $$ HXP
  iintro %v19 HXP
  iapply (wp_fill xpM (XP xf) (fun j => k0_pay4 (xwin xf (xo j))) rfl 0 0 64 (by decide) rfl rfl ![0, 0] rfl (k0_pay4 (xwin xf 0)) rfl) $$ HXP
  iintro HXP
  iapply (wp_x_load xf 256 (by decide) rfl) $$ HX
  iintro HX
  iapply W_ret
  iapply Hk
  isplitl [HO]; · iexact HO
  isplitl [HBF]; · iexact HBF
  isplitl [HX]; · iexact HX
  isplitl [HXP]; · iexact HXP
  isplitl [HL0]; · iexact HL0
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [HL8]; · iexact HL8
  iexact HKC

theorem part3_ok (xf : Vec F S1x2048x1024 .f32) {Q : (FVec F S64x1024 .bf16) → sProp 𝕄} :
    iprop(scr xpM c (XP xf) 64 ∗ hold xM c xf)
      ⊢ iprop((scr xpM c (XP xf) 384 ∗ hold xM c xf -∗ Q (k0_pay11 (xwin xf 1536)))
          -∗ W c (k0_part3 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay5 (xwin xf 256))) Q) := by
  simp only [k0_part3_eq_skeleton]
  unfold k0_part3_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v25 HXP
  iapply (wp_fill xpM (XP xf) (fun j => k0_pay4 (xwin xf (xo j))) rfl 1 64 128 (by decide) rfl rfl ![64, 0] rfl (k0_pay6 (k0_pay5 (xwin xf 256))) rfl) $$ HXP
  iintro HXP
  iapply (wp_x_load xf 512 (by decide) rfl) $$ HX
  iintro HX
  iapply (wp_dead_load xpM _ _) $$ HXP
  iintro %v31 HXP
  iapply (wp_fill xpM (XP xf) (fun j => k0_pay4 (xwin xf (xo j))) rfl 2 128 192 (by decide) rfl rfl ![128, 0] rfl (k0_pay7 (xwin xf 512)) rfl) $$ HXP
  iintro HXP
  iapply (wp_x_load xf 768 (by decide) rfl) $$ HX
  iintro HX
  iapply (wp_dead_load xpM _ _) $$ HXP
  iintro %v37 HXP
  iapply (wp_fill xpM (XP xf) (fun j => k0_pay4 (xwin xf (xo j))) rfl 3 192 256 (by decide) rfl rfl ![192, 0] rfl (k0_pay8 (xwin xf 768)) rfl) $$ HXP
  iintro HXP
  iapply (wp_x_load xf 1024 (by decide) rfl) $$ HX
  iintro HX
  iapply (wp_dead_load xpM _ _) $$ HXP
  iintro %v43 HXP
  iapply (wp_fill xpM (XP xf) (fun j => k0_pay4 (xwin xf (xo j))) rfl 4 256 320 (by decide) rfl rfl ![256, 0] rfl (k0_pay9 (xwin xf 1024)) rfl) $$ HXP
  iintro HXP
  iapply (wp_x_load xf 1280 (by decide) rfl) $$ HX
  iintro HX
  iapply (wp_dead_load xpM _ _) $$ HXP
  iintro %v49 HXP
  iapply (wp_fill xpM (XP xf) (fun j => k0_pay4 (xwin xf (xo j))) rfl 5 320 384 (by decide) rfl rfl ![320, 0] rfl (k0_pay10 (xwin xf 1280)) rfl) $$ HXP
  iintro HXP
  iapply (wp_x_load xf 1536 (by decide) rfl) $$ HX
  iintro HX
  iapply W_ret
  iapply Hk
  isplitl [HXP]; · iexact HXP
  iexact HX

theorem part4_ok (xf : Vec F S1x2048x1024 .f32) {Q : (FVec F S64x1024 .bf16) → sProp 𝕄} :
    iprop(scr xpM c (XP xf) 384 ∗ hold xM c xf)
      ⊢ iprop((scr xpM c (XP xf) 704 ∗ hold xM c xf -∗ Q (k0_pay17 (xwin xf 832)))
          -∗ W c (k0_part4 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay11 (xwin xf 1536))) Q) := by
  simp only [k0_part4_eq_skeleton]
  unfold k0_part4_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v55 HXP
  iapply (wp_fill xpM (XP xf) (fun j => k0_pay4 (xwin xf (xo j))) rfl 6 384 448 (by decide) rfl rfl ![384, 0] rfl (k0_pay12 (k0_pay11 (xwin xf 1536))) rfl) $$ HXP
  iintro HXP
  iapply (wp_x_load xf 1792 (by decide) rfl) $$ HX
  iintro HX
  iapply (wp_dead_load xpM _ _) $$ HXP
  iintro %v61 HXP
  iapply (wp_fill xpM (XP xf) (fun j => k0_pay4 (xwin xf (xo j))) rfl 7 448 512 (by decide) rfl rfl ![448, 0] rfl (k0_pay13 (xwin xf 1792)) rfl) $$ HXP
  iintro HXP
  iapply (wp_x_load xf 64 (by decide) rfl) $$ HX
  iintro HX
  iapply (wp_dead_load xpM _ _) $$ HXP
  iintro %v67 HXP
  iapply (wp_fill xpM (XP xf) (fun j => k0_pay4 (xwin xf (xo j))) rfl 8 512 576 (by decide) rfl rfl ![512, 0] rfl (k0_pay14 (xwin xf 64)) rfl) $$ HXP
  iintro HXP
  iapply (wp_x_load xf 320 (by decide) rfl) $$ HX
  iintro HX
  iapply (wp_dead_load xpM _ _) $$ HXP
  iintro %v73 HXP
  iapply (wp_fill xpM (XP xf) (fun j => k0_pay4 (xwin xf (xo j))) rfl 9 576 640 (by decide) rfl rfl ![576, 0] rfl (k0_pay15 (xwin xf 320)) rfl) $$ HXP
  iintro HXP
  iapply (wp_x_load xf 576 (by decide) rfl) $$ HX
  iintro HX
  iapply (wp_dead_load xpM _ _) $$ HXP
  iintro %v79 HXP
  iapply (wp_fill xpM (XP xf) (fun j => k0_pay4 (xwin xf (xo j))) rfl 10 640 704 (by decide) rfl rfl ![640, 0] rfl (k0_pay16 (xwin xf 576)) rfl) $$ HXP
  iintro HXP
  iapply (wp_x_load xf 832 (by decide) rfl) $$ HX
  iintro HX
  iapply W_ret
  iapply Hk
  isplitl [HXP]; · iexact HXP
  iexact HX

theorem part5_ok (xf : Vec F S1x2048x1024 .f32) {Q : (FVec F S64x1024 .bf16) → sProp 𝕄} :
    iprop(scr xpM c (XP xf) 704 ∗ hold xM c xf)
      ⊢ iprop((scr xpM c (XP xf) 1024 ∗ hold xM c xf -∗ Q (k0_pay23 (xwin xf 128)))
          -∗ W c (k0_part5 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay17 (xwin xf 832))) Q) := by
  simp only [k0_part5_eq_skeleton]
  unfold k0_part5_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v85 HXP
  iapply (wp_fill xpM (XP xf) (fun j => k0_pay4 (xwin xf (xo j))) rfl 11 704 768 (by decide) rfl rfl ![704, 0] rfl (k0_pay18 (k0_pay17 (xwin xf 832))) rfl) $$ HXP
  iintro HXP
  iapply (wp_x_load xf 1088 (by decide) rfl) $$ HX
  iintro HX
  iapply (wp_dead_load xpM _ _) $$ HXP
  iintro %v91 HXP
  iapply (wp_fill xpM (XP xf) (fun j => k0_pay4 (xwin xf (xo j))) rfl 12 768 832 (by decide) rfl rfl ![768, 0] rfl (k0_pay19 (xwin xf 1088)) rfl) $$ HXP
  iintro HXP
  iapply (wp_x_load xf 1344 (by decide) rfl) $$ HX
  iintro HX
  iapply (wp_dead_load xpM _ _) $$ HXP
  iintro %v97 HXP
  iapply (wp_fill xpM (XP xf) (fun j => k0_pay4 (xwin xf (xo j))) rfl 13 832 896 (by decide) rfl rfl ![832, 0] rfl (k0_pay20 (xwin xf 1344)) rfl) $$ HXP
  iintro HXP
  iapply (wp_x_load xf 1600 (by decide) rfl) $$ HX
  iintro HX
  iapply (wp_dead_load xpM _ _) $$ HXP
  iintro %v103 HXP
  iapply (wp_fill xpM (XP xf) (fun j => k0_pay4 (xwin xf (xo j))) rfl 14 896 960 (by decide) rfl rfl ![896, 0] rfl (k0_pay21 (xwin xf 1600)) rfl) $$ HXP
  iintro HXP
  iapply (wp_x_load xf 1856 (by decide) rfl) $$ HX
  iintro HX
  iapply (wp_dead_load xpM _ _) $$ HXP
  iintro %v109 HXP
  iapply (wp_fill xpM (XP xf) (fun j => k0_pay4 (xwin xf (xo j))) rfl 15 960 1024 (by decide) rfl rfl ![960, 0] rfl (k0_pay22 (xwin xf 1856)) rfl) $$ HXP
  iintro HXP
  iapply (wp_x_load xf 128 (by decide) rfl) $$ HX
  iintro HX
  iapply W_ret
  iapply Hk
  isplitl [HXP]; · iexact HXP
  iexact HX

theorem part6_ok (xf : Vec F S1x2048x1024 .f32) {Q : (FVec F S64x1024 .bf16) → sProp 𝕄} :
    iprop(scr xpM c (XP xf) 1024 ∗ hold xM c xf)
      ⊢ iprop((scr xpM c (XP xf) 1344 ∗ hold xM c xf -∗ Q (k0_pay29 (xwin xf 1408)))
          -∗ W c (k0_part6 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay23 (xwin xf 128))) Q) := by
  simp only [k0_part6_eq_skeleton]
  unfold k0_part6_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v115 HXP
  iapply (wp_fill xpM (XP xf) (fun j => k0_pay4 (xwin xf (xo j))) rfl 16 1024 1088 (by decide) rfl rfl ![1024, 0] rfl (k0_pay24 (k0_pay23 (xwin xf 128))) rfl) $$ HXP
  iintro HXP
  iapply (wp_x_load xf 384 (by decide) rfl) $$ HX
  iintro HX
  iapply (wp_dead_load xpM _ _) $$ HXP
  iintro %v121 HXP
  iapply (wp_fill xpM (XP xf) (fun j => k0_pay4 (xwin xf (xo j))) rfl 17 1088 1152 (by decide) rfl rfl ![1088, 0] rfl (k0_pay25 (xwin xf 384)) rfl) $$ HXP
  iintro HXP
  iapply (wp_x_load xf 640 (by decide) rfl) $$ HX
  iintro HX
  iapply (wp_dead_load xpM _ _) $$ HXP
  iintro %v127 HXP
  iapply (wp_fill xpM (XP xf) (fun j => k0_pay4 (xwin xf (xo j))) rfl 18 1152 1216 (by decide) rfl rfl ![1152, 0] rfl (k0_pay26 (xwin xf 640)) rfl) $$ HXP
  iintro HXP
  iapply (wp_x_load xf 896 (by decide) rfl) $$ HX
  iintro HX
  iapply (wp_dead_load xpM _ _) $$ HXP
  iintro %v133 HXP
  iapply (wp_fill xpM (XP xf) (fun j => k0_pay4 (xwin xf (xo j))) rfl 19 1216 1280 (by decide) rfl rfl ![1216, 0] rfl (k0_pay27 (xwin xf 896)) rfl) $$ HXP
  iintro HXP
  iapply (wp_x_load xf 1152 (by decide) rfl) $$ HX
  iintro HX
  iapply (wp_dead_load xpM _ _) $$ HXP
  iintro %v139 HXP
  iapply (wp_fill xpM (XP xf) (fun j => k0_pay4 (xwin xf (xo j))) rfl 20 1280 1344 (by decide) rfl rfl ![1280, 0] rfl (k0_pay28 (xwin xf 1152)) rfl) $$ HXP
  iintro HXP
  iapply (wp_x_load xf 1408 (by decide) rfl) $$ HX
  iintro HX
  iapply W_ret
  iapply Hk
  isplitl [HXP]; · iexact HXP
  iexact HX

theorem part7_ok (xf : Vec F S1x2048x1024 .f32) {Q : (FVec F S64x1024 .bf16) → sProp 𝕄} :
    iprop(scr xpM c (XP xf) 1344 ∗ hold xM c xf)
      ⊢ iprop((scr xpM c (XP xf) 1664 ∗ hold xM c xf -∗ Q (k0_pay35 (xwin xf 704)))
          -∗ W c (k0_part7 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay29 (xwin xf 1408))) Q) := by
  simp only [k0_part7_eq_skeleton]
  unfold k0_part7_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v145 HXP
  iapply (wp_fill xpM (XP xf) (fun j => k0_pay4 (xwin xf (xo j))) rfl 21 1344 1408 (by decide) rfl rfl ![1344, 0] rfl (k0_pay30 (k0_pay29 (xwin xf 1408))) rfl) $$ HXP
  iintro HXP
  iapply (wp_x_load xf 1664 (by decide) rfl) $$ HX
  iintro HX
  iapply (wp_dead_load xpM _ _) $$ HXP
  iintro %v151 HXP
  iapply (wp_fill xpM (XP xf) (fun j => k0_pay4 (xwin xf (xo j))) rfl 22 1408 1472 (by decide) rfl rfl ![1408, 0] rfl (k0_pay31 (xwin xf 1664)) rfl) $$ HXP
  iintro HXP
  iapply (wp_x_load xf 1920 (by decide) rfl) $$ HX
  iintro HX
  iapply (wp_dead_load xpM _ _) $$ HXP
  iintro %v157 HXP
  iapply (wp_fill xpM (XP xf) (fun j => k0_pay4 (xwin xf (xo j))) rfl 23 1472 1536 (by decide) rfl rfl ![1472, 0] rfl (k0_pay32 (xwin xf 1920)) rfl) $$ HXP
  iintro HXP
  iapply (wp_x_load xf 192 (by decide) rfl) $$ HX
  iintro HX
  iapply (wp_dead_load xpM _ _) $$ HXP
  iintro %v163 HXP
  iapply (wp_fill xpM (XP xf) (fun j => k0_pay4 (xwin xf (xo j))) rfl 24 1536 1600 (by decide) rfl rfl ![1536, 0] rfl (k0_pay33 (xwin xf 192)) rfl) $$ HXP
  iintro HXP
  iapply (wp_x_load xf 448 (by decide) rfl) $$ HX
  iintro HX
  iapply (wp_dead_load xpM _ _) $$ HXP
  iintro %v169 HXP
  iapply (wp_fill xpM (XP xf) (fun j => k0_pay4 (xwin xf (xo j))) rfl 25 1600 1664 (by decide) rfl rfl ![1600, 0] rfl (k0_pay34 (xwin xf 448)) rfl) $$ HXP
  iintro HXP
  iapply (wp_x_load xf 704 (by decide) rfl) $$ HX
  iintro HX
  iapply W_ret
  iapply Hk
  isplitl [HXP]; · iexact HXP
  iexact HX

theorem part8_ok (xf : Vec F S1x2048x1024 .f32) {Q : (FVec F S64x1024 .bf16) → sProp 𝕄} :
    iprop(scr xpM c (XP xf) 1664 ∗ hold xM c xf)
      ⊢ iprop((scr xpM c (XP xf) 1984 ∗ hold xM c xf -∗ Q (k0_pay41 (xwin xf 1984)))
          -∗ W c (k0_part8 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay35 (xwin xf 704))) Q) := by
  simp only [k0_part8_eq_skeleton]
  unfold k0_part8_skel
  simp only [semSignalWord, semWaitWord, Prog.lift, Prog.bind_op, Prog.bind_ret, Prog.pure_eq_ret, wp_deviceId]
  iintro ⟨HXP, HX⟩ Hk
  iapply (wp_dead_load xpM _ _) $$ HXP
  iintro %v175 HXP
  iapply (wp_fill xpM (XP xf) (fun j => k0_pay4 (xwin xf (xo j))) rfl 26 1664 1728 (by decide) rfl rfl ![1664, 0] rfl (k0_pay36 (k0_pay35 (xwin xf 704))) rfl) $$ HXP
  iintro HXP
  iapply (wp_x_load xf 960 (by decide) rfl) $$ HX
  iintro HX
  iapply (wp_dead_load xpM _ _) $$ HXP
  iintro %v181 HXP
  iapply (wp_fill xpM (XP xf) (fun j => k0_pay4 (xwin xf (xo j))) rfl 27 1728 1792 (by decide) rfl rfl ![1728, 0] rfl (k0_pay37 (xwin xf 960)) rfl) $$ HXP
  iintro HXP
  iapply (wp_x_load xf 1216 (by decide) rfl) $$ HX
  iintro HX
  iapply (wp_dead_load xpM _ _) $$ HXP
  iintro %v187 HXP
  iapply (wp_fill xpM (XP xf) (fun j => k0_pay4 (xwin xf (xo j))) rfl 28 1792 1856 (by decide) rfl rfl ![1792, 0] rfl (k0_pay38 (xwin xf 1216)) rfl) $$ HXP
  iintro HXP
  iapply (wp_x_load xf 1472 (by decide) rfl) $$ HX
  iintro HX
  iapply (wp_dead_load xpM _ _) $$ HXP
  iintro %v193 HXP
  iapply (wp_fill xpM (XP xf) (fun j => k0_pay4 (xwin xf (xo j))) rfl 29 1856 1920 (by decide) rfl rfl ![1856, 0] rfl (k0_pay39 (xwin xf 1472)) rfl) $$ HXP
  iintro HXP
  iapply (wp_x_load xf 1728 (by decide) rfl) $$ HX
  iintro HX
  iapply (wp_dead_load xpM _ _) $$ HXP
  iintro %v199 HXP
  iapply (wp_fill xpM (XP xf) (fun j => k0_pay4 (xwin xf (xo j))) rfl 30 1920 1984 (by decide) rfl rfl ![1920, 0] rfl (k0_pay40 (xwin xf 1728)) rfl) $$ HXP
  iintro HXP
  iapply (wp_x_load xf 1984 (by decide) rfl) $$ HX
  iintro HX
  iapply W_ret
  iapply Hk
  isplitl [HXP]; · iexact HXP
  iexact HX

end Cert.Proto

end
-- ==== Proof.PartsB.lean ====
/-
# The keys

Parts 9 to 15 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part9_ok (P : Dev nD → Vec F S2048x1024 .bf16) (m : (ℓ : Loc nD τ sig) → Buf (Elt F) ℓ) (xf : Vec F S1x2048x1024 .f32) {Q : (PUnit) → sProp 𝕄} :
    iprop(std P m ∗ scr xpM c (XP xf) 1984 ∗ oweN c 3 ∗ cred (tallyAt (dmaC kS c) 0 (dmaAmt kS.val)) ∗ fresh kS c ∗ scr kpM c (KP (kVal m c)) 0)
      ⊢ iprop((scr xpM c (XP xf) 2048 ∗ oweN c 3 ∗ done kS c ∗ scr kpM c (KP (kVal m c)) 256 ∗ kvPts c (kVal m c) ∗ kArg m c -∗ Q ⟨⟩)
          -∗ W c (k0_part9 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c (k0_pay41 (xwin xf 1984))) Q) := by
  simp only [k0_part9_eq_skeleton]
  unfold k0_part9_skel
  simp only [semSignalWord, semWaitWord, Prog.lift, Prog.bind_op, Prog.bind_ret, Prog.pure_eq_ret, wp_deviceId]
  iintro ⟨#Hstd, HXP, HO, HKC, HKF, HKP⟩ Hk
  iapply (wp_dead_load xpM _ _) $$ HXP
  iintro %v205 HXP
  iapply (wp_fill xpM (XP xf) (fun j => k0_pay4 (xwin xf (xo j))) rfl 31 1984 2048 (by decide) rfl rfl ![1984, 0] rfl (k0_pay42 (k0_pay41 (xwin xf 1984))) rfl) $$ HXP
  iintro HXP
  iapply (k_wait P m 3 (by decide)) $$ [HO HKC HKF]
  · isplitr; · iexact Hstd
    isplitl [HO]; · iexact HO
    isplitl [HKC]; · iexact HKC
    iexact HKF
  iintro ⟨HO, HKF, HKV, HKA⟩
  iapply (wp_kv_load (kVal m c) 0 (by decide) rfl) $$ HKV
  iintro HKV
  iapply (wp_dead_load kpM _ _) $$ HKP
  iintro %v213 HKP
  iapply (wp_fill kpM (KP (kVal m c)) (fun j => k0_pay43 (kvwin (kVal m c) (xo j))) rfl 0 0 64 (by decide) rfl rfl ![0, 0] rfl (k0_pay43 (kvwin (kVal m c) 0)) rfl) $$ HKP
  iintro HKP
  iapply (wp_kv_load (kVal m c) 256 (by decide) rfl) $$ HKV
  iintro HKV
  iapply (wp_dead_load kpM _ _) $$ HKP
  iintro %v219 HKP
  iapply (wp_fill kpM (KP (kVal m c)) (fun j => k0_pay43 (kvwin (kVal m c) (xo j))) rfl 1 64 128 (by decide) rfl rfl ![64, 0] rfl (k0_pay44 (kvwin (kVal m c) 256)) rfl) $$ HKP
  iintro HKP
  iapply (wp_kv_load (kVal m c) 512 (by decide) rfl) $$ HKV
  iintro HKV
  iapply (wp_dead_load kpM _ _) $$ HKP
  iintro %v225 HKP
  iapply (wp_fill kpM (KP (kVal m c)) (fun j => k0_pay43 (kvwin (kVal m c) (xo j))) rfl 2 128 192 (by decide) rfl rfl ![128, 0] rfl (k0_pay45 (kvwin (kVal m c) 512)) rfl) $$ HKP
  iintro HKP
  iapply (wp_kv_load (kVal m c) 768 (by decide) rfl) $$ HKV
  iintro HKV
  iapply (wp_dead_load kpM _ _) $$ HKP
  iintro %v231 HKP
  iapply (wp_fill kpM (KP (kVal m c)) (fun j => k0_pay43 (kvwin (kVal m c) (xo j))) rfl 3 192 256 (by decide) rfl rfl ![192, 0] rfl (k0_pay46 (kvwin (kVal m c) 768)) rfl) $$ HKP
  iintro HKP
  iapply W_ret
  iapply Hk
  isplitl [HXP]; · iexact HXP
  isplitl [HO]; · iexact HO
  isplitl [HKF]; · iexact HKF
  isplitl [HKP]; · iexact HKP
  isplitl [HKV]; · iexact HKV
  iexact HKA

theorem part10_ok (m : (ℓ : Loc nD τ sig) → Buf (Elt F) ℓ) {Q : (PUnit) → sProp 𝕄} :
    iprop(kvPts c (kVal m c) ∗ scr kpM c (KP (kVal m c)) 256)
      ⊢ iprop((kvPts c (kVal m c) ∗ scr kpM c (KP (kVal m c)) 576 -∗ Q ⟨⟩)
          -∗ W c (k0_part10 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part10_eq_skeleton]
  unfold k0_part10_skel
  simp only [semSignalWord, semWaitWord, Prog.lift, Prog.bind_op, Prog.bind_ret, Prog.pure_eq_ret, wp_deviceId]
  iintro ⟨HKV, HKP⟩ Hk
  iapply (wp_kv_load (kVal m c) 1024 (by decide) rfl) $$ HKV
  iintro HKV
  iapply (wp_dead_load kpM _ _) $$ HKP
  iintro %v237 HKP
  iapply (wp_fill kpM (KP (kVal m c)) (fun j => k0_pay43 (kvwin (kVal m c) (xo j))) rfl 4 256 320 (by decide) rfl rfl ![256, 0] rfl (k0_pay47 (kvwin (kVal m c) 1024)) rfl) $$ HKP
  iintro HKP
  iapply (wp_kv_load (kVal m c) 1280 (by decide) rfl) $$ HKV
  iintro HKV
  iapply (wp_dead_load kpM _ _) $$ HKP
  iintro %v243 HKP
  iapply (wp_fill kpM (KP (kVal m c)) (fun j => k0_pay43 (kvwin (kVal m c) (xo j))) rfl 5 320 384 (by decide) rfl rfl ![320, 0] rfl (k0_pay48 (kvwin (kVal m c) 1280)) rfl) $$ HKP
  iintro HKP
  iapply (wp_kv_load (kVal m c) 1536 (by decide) rfl) $$ HKV
  iintro HKV
  iapply (wp_dead_load kpM _ _) $$ HKP
  iintro %v249 HKP
  iapply (wp_fill kpM (KP (kVal m c)) (fun j => k0_pay43 (kvwin (kVal m c) (xo j))) rfl 6 384 448 (by decide) rfl rfl ![384, 0] rfl (k0_pay49 (kvwin (kVal m c) 1536)) rfl) $$ HKP
  iintro HKP
  iapply (wp_kv_load (kVal m c) 1792 (by decide) rfl) $$ HKV
  iintro HKV
  iapply (wp_dead_load kpM _ _) $$ HKP
  iintro %v255 HKP
  iapply (wp_fill kpM (KP (kVal m c)) (fun j => k0_pay43 (kvwin (kVal m c) (xo j))) rfl 7 448 512 (by decide) rfl rfl ![448, 0] rfl (k0_pay50 (kvwin (kVal m c) 1792)) rfl) $$ HKP
  iintro HKP
  iapply (wp_kv_load (kVal m c) 64 (by decide) rfl) $$ HKV
  iintro HKV
  iapply (wp_dead_load kpM _ _) $$ HKP
  iintro %v261 HKP
  iapply (wp_fill kpM (KP (kVal m c)) (fun j => k0_pay43 (kvwin (kVal m c) (xo j))) rfl 8 512 576 (by decide) rfl rfl ![512, 0] rfl (k0_pay51 (kvwin (kVal m c) 64)) rfl) $$ HKP
  iintro HKP
  iapply W_ret
  iapply Hk
  isplitl [HKV]; · iexact HKV
  iexact HKP

theorem part11_ok (m : (ℓ : Loc nD τ sig) → Buf (Elt F) ℓ) {Q : (PUnit) → sProp 𝕄} :
    iprop(kvPts c (kVal m c) ∗ scr kpM c (KP (kVal m c)) 576)
      ⊢ iprop((kvPts c (kVal m c) ∗ scr kpM c (KP (kVal m c)) 896 -∗ Q ⟨⟩)
          -∗ W c (k0_part11 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part11_eq_skeleton]
  unfold k0_part11_skel
  simp only [semSignalWord, semWaitWord, Prog.lift, Prog.bind_op, Prog.bind_ret, Prog.pure_eq_ret, wp_deviceId]
  iintro ⟨HKV, HKP⟩ Hk
  iapply (wp_kv_load (kVal m c) 320 (by decide) rfl) $$ HKV
  iintro HKV
  iapply (wp_dead_load kpM _ _) $$ HKP
  iintro %v267 HKP
  iapply (wp_fill kpM (KP (kVal m c)) (fun j => k0_pay43 (kvwin (kVal m c) (xo j))) rfl 9 576 640 (by decide) rfl rfl ![576, 0] rfl (k0_pay52 (kvwin (kVal m c) 320)) rfl) $$ HKP
  iintro HKP
  iapply (wp_kv_load (kVal m c) 576 (by decide) rfl) $$ HKV
  iintro HKV
  iapply (wp_dead_load kpM _ _) $$ HKP
  iintro %v273 HKP
  iapply (wp_fill kpM (KP (kVal m c)) (fun j => k0_pay43 (kvwin (kVal m c) (xo j))) rfl 10 640 704 (by decide) rfl rfl ![640, 0] rfl (k0_pay53 (kvwin (kVal m c) 576)) rfl) $$ HKP
  iintro HKP
  iapply (wp_kv_load (kVal m c) 832 (by decide) rfl) $$ HKV
  iintro HKV
  iapply (wp_dead_load kpM _ _) $$ HKP
  iintro %v279 HKP
  iapply (wp_fill kpM (KP (kVal m c)) (fun j => k0_pay43 (kvwin (kVal m c) (xo j))) rfl 11 704 768 (by decide) rfl rfl ![704, 0] rfl (k0_pay54 (kvwin (kVal m c) 832)) rfl) $$ HKP
  iintro HKP
  iapply (wp_kv_load (kVal m c) 1088 (by decide) rfl) $$ HKV
  iintro HKV
  iapply (wp_dead_load kpM _ _) $$ HKP
  iintro %v285 HKP
  iapply (wp_fill kpM (KP (kVal m c)) (fun j => k0_pay43 (kvwin (kVal m c) (xo j))) rfl 12 768 832 (by decide) rfl rfl ![768, 0] rfl (k0_pay55 (kvwin (kVal m c) 1088)) rfl) $$ HKP
  iintro HKP
  iapply (wp_kv_load (kVal m c) 1344 (by decide) rfl) $$ HKV
  iintro HKV
  iapply (wp_dead_load kpM _ _) $$ HKP
  iintro %v291 HKP
  iapply (wp_fill kpM (KP (kVal m c)) (fun j => k0_pay43 (kvwin (kVal m c) (xo j))) rfl 13 832 896 (by decide) rfl rfl ![832, 0] rfl (k0_pay56 (kvwin (kVal m c) 1344)) rfl) $$ HKP
  iintro HKP
  iapply W_ret
  iapply Hk
  isplitl [HKV]; · iexact HKV
  iexact HKP

theorem part12_ok (m : (ℓ : Loc nD τ sig) → Buf (Elt F) ℓ) {Q : (PUnit) → sProp 𝕄} :
    iprop(kvPts c (kVal m c) ∗ scr kpM c (KP (kVal m c)) 896)
      ⊢ iprop((kvPts c (kVal m c) ∗ scr kpM c (KP (kVal m c)) 1216 -∗ Q ⟨⟩)
          -∗ W c (k0_part12 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part12_eq_skeleton]
  unfold k0_part12_skel
  simp only [semSignalWord, semWaitWord, Prog.lift, Prog.bind_op, Prog.bind_ret, Prog.pure_eq_ret, wp_deviceId]
  iintro ⟨HKV, HKP⟩ Hk
  iapply (wp_kv_load (kVal m c) 1600 (by decide) rfl) $$ HKV
  iintro HKV
  iapply (wp_dead_load kpM _ _) $$ HKP
  iintro %v297 HKP
  iapply (wp_fill kpM (KP (kVal m c)) (fun j => k0_pay43 (kvwin (kVal m c) (xo j))) rfl 14 896 960 (by decide) rfl rfl ![896, 0] rfl (k0_pay57 (kvwin (kVal m c) 1600)) rfl) $$ HKP
  iintro HKP
  iapply (wp_kv_load (kVal m c) 1856 (by decide) rfl) $$ HKV
  iintro HKV
  iapply (wp_dead_load kpM _ _) $$ HKP
  iintro %v303 HKP
  iapply (wp_fill kpM (KP (kVal m c)) (fun j => k0_pay43 (kvwin (kVal m c) (xo j))) rfl 15 960 1024 (by decide) rfl rfl ![960, 0] rfl (k0_pay58 (kvwin (kVal m c) 1856)) rfl) $$ HKP
  iintro HKP
  iapply (wp_kv_load (kVal m c) 128 (by decide) rfl) $$ HKV
  iintro HKV
  iapply (wp_dead_load kpM _ _) $$ HKP
  iintro %v309 HKP
  iapply (wp_fill kpM (KP (kVal m c)) (fun j => k0_pay43 (kvwin (kVal m c) (xo j))) rfl 16 1024 1088 (by decide) rfl rfl ![1024, 0] rfl (k0_pay59 (kvwin (kVal m c) 128)) rfl) $$ HKP
  iintro HKP
  iapply (wp_kv_load (kVal m c) 384 (by decide) rfl) $$ HKV
  iintro HKV
  iapply (wp_dead_load kpM _ _) $$ HKP
  iintro %v315 HKP
  iapply (wp_fill kpM (KP (kVal m c)) (fun j => k0_pay43 (kvwin (kVal m c) (xo j))) rfl 17 1088 1152 (by decide) rfl rfl ![1088, 0] rfl (k0_pay60 (kvwin (kVal m c) 384)) rfl) $$ HKP
  iintro HKP
  iapply (wp_kv_load (kVal m c) 640 (by decide) rfl) $$ HKV
  iintro HKV
  iapply (wp_dead_load kpM _ _) $$ HKP
  iintro %v321 HKP
  iapply (wp_fill kpM (KP (kVal m c)) (fun j => k0_pay43 (kvwin (kVal m c) (xo j))) rfl 18 1152 1216 (by decide) rfl rfl ![1152, 0] rfl (k0_pay61 (kvwin (kVal m c) 640)) rfl) $$ HKP
  iintro HKP
  iapply W_ret
  iapply Hk
  isplitl [HKV]; · iexact HKV
  iexact HKP

theorem part13_ok (m : (ℓ : Loc nD τ sig) → Buf (Elt F) ℓ) {Q : (PUnit) → sProp 𝕄} :
    iprop(kvPts c (kVal m c) ∗ scr kpM c (KP (kVal m c)) 1216)
      ⊢ iprop((kvPts c (kVal m c) ∗ scr kpM c (KP (kVal m c)) 1536 -∗ Q ⟨⟩)
          -∗ W c (k0_part13 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part13_eq_skeleton]
  unfold k0_part13_skel
  simp only [semSignalWord, semWaitWord, Prog.lift, Prog.bind_op, Prog.bind_ret, Prog.pure_eq_ret, wp_deviceId]
  iintro ⟨HKV, HKP⟩ Hk
  iapply (wp_kv_load (kVal m c) 896 (by decide) rfl) $$ HKV
  iintro HKV
  iapply (wp_dead_load kpM _ _) $$ HKP
  iintro %v327 HKP
  iapply (wp_fill kpM (KP (kVal m c)) (fun j => k0_pay43 (kvwin (kVal m c) (xo j))) rfl 19 1216 1280 (by decide) rfl rfl ![1216, 0] rfl (k0_pay62 (kvwin (kVal m c) 896)) rfl) $$ HKP
  iintro HKP
  iapply (wp_kv_load (kVal m c) 1152 (by decide) rfl) $$ HKV
  iintro HKV
  iapply (wp_dead_load kpM _ _) $$ HKP
  iintro %v333 HKP
  iapply (wp_fill kpM (KP (kVal m c)) (fun j => k0_pay43 (kvwin (kVal m c) (xo j))) rfl 20 1280 1344 (by decide) rfl rfl ![1280, 0] rfl (k0_pay63 (kvwin (kVal m c) 1152)) rfl) $$ HKP
  iintro HKP
  iapply (wp_kv_load (kVal m c) 1408 (by decide) rfl) $$ HKV
  iintro HKV
  iapply (wp_dead_load kpM _ _) $$ HKP
  iintro %v339 HKP
  iapply (wp_fill kpM (KP (kVal m c)) (fun j => k0_pay43 (kvwin (kVal m c) (xo j))) rfl 21 1344 1408 (by decide) rfl rfl ![1344, 0] rfl (k0_pay64 (kvwin (kVal m c) 1408)) rfl) $$ HKP
  iintro HKP
  iapply (wp_kv_load (kVal m c) 1664 (by decide) rfl) $$ HKV
  iintro HKV
  iapply (wp_dead_load kpM _ _) $$ HKP
  iintro %v345 HKP
  iapply (wp_fill kpM (KP (kVal m c)) (fun j => k0_pay43 (kvwin (kVal m c) (xo j))) rfl 22 1408 1472 (by decide) rfl rfl ![1408, 0] rfl (k0_pay65 (kvwin (kVal m c) 1664)) rfl) $$ HKP
  iintro HKP
  iapply (wp_kv_load (kVal m c) 1920 (by decide) rfl) $$ HKV
  iintro HKV
  iapply (wp_dead_load kpM _ _) $$ HKP
  iintro %v351 HKP
  iapply (wp_fill kpM (KP (kVal m c)) (fun j => k0_pay43 (kvwin (kVal m c) (xo j))) rfl 23 1472 1536 (by decide) rfl rfl ![1472, 0] rfl (k0_pay66 (kvwin (kVal m c) 1920)) rfl) $$ HKP
  iintro HKP
  iapply W_ret
  iapply Hk
  isplitl [HKV]; · iexact HKV
  iexact HKP

theorem part14_ok (m : (ℓ : Loc nD τ sig) → Buf (Elt F) ℓ) {Q : (PUnit) → sProp 𝕄} :
    iprop(kvPts c (kVal m c) ∗ scr kpM c (KP (kVal m c)) 1536)
      ⊢ iprop((kvPts c (kVal m c) ∗ scr kpM c (KP (kVal m c)) 1856 -∗ Q ⟨⟩)
          -∗ W c (k0_part14 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part14_eq_skeleton]
  unfold k0_part14_skel
  simp only [semSignalWord, semWaitWord, Prog.lift, Prog.bind_op, Prog.bind_ret, Prog.pure_eq_ret, wp_deviceId]
  iintro ⟨HKV, HKP⟩ Hk
  iapply (wp_kv_load (kVal m c) 192 (by decide) rfl) $$ HKV
  iintro HKV
  iapply (wp_dead_load kpM _ _) $$ HKP
  iintro %v357 HKP
  iapply (wp_fill kpM (KP (kVal m c)) (fun j => k0_pay43 (kvwin (kVal m c) (xo j))) rfl 24 1536 1600 (by decide) rfl rfl ![1536, 0] rfl (k0_pay67 (kvwin (kVal m c) 192)) rfl) $$ HKP
  iintro HKP
  iapply (wp_kv_load (kVal m c) 448 (by decide) rfl) $$ HKV
  iintro HKV
  iapply (wp_dead_load kpM _ _) $$ HKP
  iintro %v363 HKP
  iapply (wp_fill kpM (KP (kVal m c)) (fun j => k0_pay43 (kvwin (kVal m c) (xo j))) rfl 25 1600 1664 (by decide) rfl rfl ![1600, 0] rfl (k0_pay68 (kvwin (kVal m c) 448)) rfl) $$ HKP
  iintro HKP
  iapply (wp_kv_load (kVal m c) 704 (by decide) rfl) $$ HKV
  iintro HKV
  iapply (wp_dead_load kpM _ _) $$ HKP
  iintro %v369 HKP
  iapply (wp_fill kpM (KP (kVal m c)) (fun j => k0_pay43 (kvwin (kVal m c) (xo j))) rfl 26 1664 1728 (by decide) rfl rfl ![1664, 0] rfl (k0_pay69 (kvwin (kVal m c) 704)) rfl) $$ HKP
  iintro HKP
  iapply (wp_kv_load (kVal m c) 960 (by decide) rfl) $$ HKV
  iintro HKV
  iapply (wp_dead_load kpM _ _) $$ HKP
  iintro %v375 HKP
  iapply (wp_fill kpM (KP (kVal m c)) (fun j => k0_pay43 (kvwin (kVal m c) (xo j))) rfl 27 1728 1792 (by decide) rfl rfl ![1728, 0] rfl (k0_pay70 (kvwin (kVal m c) 960)) rfl) $$ HKP
  iintro HKP
  iapply (wp_kv_load (kVal m c) 1216 (by decide) rfl) $$ HKV
  iintro HKV
  iapply (wp_dead_load kpM _ _) $$ HKP
  iintro %v381 HKP
  iapply (wp_fill kpM (KP (kVal m c)) (fun j => k0_pay43 (kvwin (kVal m c) (xo j))) rfl 28 1792 1856 (by decide) rfl rfl ![1792, 0] rfl (k0_pay71 (kvwin (kVal m c) 1216)) rfl) $$ HKP
  iintro HKP
  iapply W_ret
  iapply Hk
  isplitl [HKV]; · iexact HKV
  iexact HKP

theorem part15_ok (P : Dev nD → Vec F S2048x1024 .bf16) (m : (ℓ : Loc nD τ sig) → Buf (Elt F) ℓ) (xf : Vec F S1x2048x1024 .f32) (wq : Vec F S1024x1024 .f32) (v2 : BitVec 32) {Q : (FVec F S2048x1024 .bf16) → sProp 𝕄} :
    iprop(std P m ∗ kvPts c (kVal m c) ∗ scr kpM c (KP (kVal m c)) 1856 ∗ vArg m c ∗ dutyTok ER (dmaC vS c) 0 0 ∗ scr xpM c (XP xf) 2048 ∗ hold wqM c wq ∗ scr qpM c (QP xf wq) 0)
      ⊢ iprop((scr kpM c (KP (kVal m c)) 2048 ∗ scr xpM c (XP xf) 2048 ∗ hold wqM c wq ∗ scr qpM c (QP xf wq) 0 ∗ cred (tallyAt (dmaC vS c) 0 (dmaAmt vS.val)) -∗ Q (k0_pay75 (rwin (XP xf) 0) wq))
          -∗ W c (k0_part15 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2) Q) := by
  simp only [k0_part15_eq_skeleton]
  unfold k0_part15_skel
  simp only [semSignalWord, semWaitWord, Prog.lift, Prog.bind_op, Prog.bind_ret, Prog.pure_eq_ret, wp_deviceId]
  iintro ⟨#Hstd, HKV, HKP, HVA, HVD, HXP, HWQ, HQP⟩ Hk
  iapply (wp_kv_load (kVal m c) 1472 (by decide) rfl) $$ HKV
  iintro HKV
  iapply (wp_dead_load kpM _ _) $$ HKP
  iintro %v387 HKP
  iapply (wp_fill kpM (KP (kVal m c)) (fun j => k0_pay43 (kvwin (kVal m c) (xo j))) rfl 29 1856 1920 (by decide) rfl rfl ![1856, 0] rfl (k0_pay72 (kvwin (kVal m c) 1472)) rfl) $$ HKP
  iintro HKP
  iapply (wp_kv_load (kVal m c) 1728 (by decide) rfl) $$ HKV
  iintro HKV
  iapply (wp_dead_load kpM _ _) $$ HKP
  iintro %v393 HKP
  iapply (wp_fill kpM (KP (kVal m c)) (fun j => k0_pay43 (kvwin (kVal m c) (xo j))) rfl 30 1920 1984 (by decide) rfl rfl ![1920, 0] rfl (k0_pay73 (kvwin (kVal m c) 1728)) rfl) $$ HKP
  iintro HKP
  iapply (wp_kv_load (kVal m c) 1984 (by decide) rfl) $$ HKV
  iintro HKV
  iapply (wp_dead_load kpM _ _) $$ HKP
  iintro %v399 HKP
  iapply (wp_fill kpM (KP (kVal m c)) (fun j => k0_pay43 (kvwin (kVal m c) (xo j))) rfl 31 1984 2048 (by decide) rfl rfl ![1984, 0] rfl (k0_pay74 (kvwin (kVal m c) 1984)) rfl) $$ HKP
  iintro HKP
  iapply (v_copy P m (kVal m c)) $$ [HVA HKV HVD]
  · isplitr; · iexact Hstd
    isplitl [HVA]; · iexact HVA
    isplitl [HKV]; · iexact HKV
    iexact HVD
  iintro HVC
  iapply (wp_row_load xpM (XP xf) 2048 0 2048 (by decide) (by decide) rfl) $$ HXP
  iintro HXP
  iapply (wp_w_load wqM wq rfl) $$ HWQ
  iintro HWQ
  iapply (wp_dead_load qpM _ _) $$ HQP
  iintro %v411 HQP
  iapply W_ret
  iapply Hk
  isplitl [HKP]; · iexact HKP
  isplitl [HXP]; · iexact HXP
  isplitl [HWQ]; · iexact HWQ
  isplitl [HQP]; · iexact HQP
  iexact HVC

end Cert.Proto

end
-- ==== Proof.PartsC.lean ====
/-
# The values and the heads

Parts 16 to 22 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part16_ok (P : Dev nD → Vec F S2048x1024 .bf16) (m : (ℓ : Loc nD τ sig) → Buf (Elt F) ℓ) (xf : Vec F S1x2048x1024 .f32) (wq : Vec F S1024x1024 .f32) {Q : (FVec F S64x1024 .f32) → sProp 𝕄} :
    iprop(std P m ∗ scr qpM c (QP xf wq) 0 ∗ oweN c 3 ∗ cred (tallyAt (dmaC vS c) 0 (dmaAmt vS.val)) ∗ fresh vS c ∗ scr vpM c (KP (vVal m c)) 0)
      ⊢ iprop((scr qpM c (QP xf wq) 2048 ∗ oweN c 3 ∗ done vS c ∗ scr vpM c (KP (vVal m c)) 256 ∗ kvPts c (vVal m c) ∗ vArg m c -∗ Q (k0_pay80 (kvwin (vVal m c) 1024)))
          -∗ W c (k0_part16 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c (k0_pay75 (rwin (XP xf) 0) wq)) Q) := by
  simp only [k0_part16_eq_skeleton]
  unfold k0_part16_skel
  simp only [semSignalWord, semWaitWord, Prog.lift, Prog.bind_op, Prog.bind_ret, Prog.pure_eq_ret, wp_deviceId]
  iintro ⟨#Hstd, HQP, HO, HVC, HVF, HVP⟩ Hk
  iapply (wp_row_store qpM (QP xf wq) 0 2048 (by decide) rfl (fun y => by rw [rowAt_zero]; rfl)) $$ HQP
  iintro HQP
  iapply (v_wait P m 3 (by decide)) $$ [HO HVC HVF]
  · isplitr; · iexact Hstd
    isplitl [HO]; · iexact HO
    isplitl [HVC]; · iexact HVC
    iexact HVF
  iintro ⟨HO, HVF, HKV, HVA⟩
  iapply (wp_kv_load (vVal m c) 0 (by decide) rfl) $$ HKV
  iintro HKV
  iapply (wp_dead_load vpM _ _) $$ HVP
  iintro %v419 HVP
  iapply (wp_fill vpM (KP (vVal m c)) (fun j => k0_pay43 (kvwin (vVal m c) (xo j))) rfl 0 0 64 (by decide) rfl rfl ![0, 0] rfl (k0_pay76 (kvwin (vVal m c) 0)) rfl) $$ HVP
  iintro HVP
  iapply (wp_kv_load (vVal m c) 256 (by decide) rfl) $$ HKV
  iintro HKV
  iapply (wp_dead_load vpM _ _) $$ HVP
  iintro %v425 HVP
  iapply (wp_fill vpM (KP (vVal m c)) (fun j => k0_pay43 (kvwin (vVal m c) (xo j))) rfl 1 64 128 (by decide) rfl rfl ![64, 0] rfl (k0_pay77 (kvwin (vVal m c) 256)) rfl) $$ HVP
  iintro HVP
  iapply (wp_kv_load (vVal m c) 512 (by decide) rfl) $$ HKV
  iintro HKV
  iapply (wp_dead_load vpM _ _) $$ HVP
  iintro %v431 HVP
  iapply (wp_fill vpM (KP (vVal m c)) (fun j => k0_pay43 (kvwin (vVal m c) (xo j))) rfl 2 128 192 (by decide) rfl rfl ![128, 0] rfl (k0_pay78 (kvwin (vVal m c) 512)) rfl) $$ HVP
  iintro HVP
  iapply (wp_kv_load (vVal m c) 768 (by decide) rfl) $$ HKV
  iintro HKV
  iapply (wp_dead_load vpM _ _) $$ HVP
  iintro %v437 HVP
  iapply (wp_fill vpM (KP (vVal m c)) (fun j => k0_pay43 (kvwin (vVal m c) (xo j))) rfl 3 192 256 (by decide) rfl rfl ![192, 0] rfl (k0_pay79 (kvwin (vVal m c) 768)) rfl) $$ HVP
  iintro HVP
  iapply (wp_kv_load (vVal m c) 1024 (by decide) rfl) $$ HKV
  iintro HKV
  iapply W_ret
  iapply Hk
  isplitl [HQP]; · iexact HQP
  isplitl [HO]; · iexact HO
  isplitl [HVF]; · iexact HVF
  isplitl [HVP]; · iexact HVP
  isplitl [HKV]; · iexact HKV
  iexact HVA

theorem part17_ok (m : (ℓ : Loc nD τ sig) → Buf (Elt F) ℓ) {Q : (FVec F S64x1024 .f32) → sProp 𝕄} :
    iprop(scr vpM c (KP (vVal m c)) 256 ∗ kvPts c (vVal m c))
      ⊢ iprop((scr vpM c (KP (vVal m c)) 576 ∗ kvPts c (vVal m c) -∗ Q (k0_pay86 (kvwin (vVal m c) 320)))
          -∗ W c (k0_part17 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay80 (kvwin (vVal m c) 1024))) Q) := by
  simp only [k0_part17_eq_skeleton]
  unfold k0_part17_skel
  simp only [semSignalWord, semWaitWord, Prog.lift, Prog.bind_op, Prog.bind_ret, Prog.pure_eq_ret, wp_deviceId]
  iintro ⟨HVP, HKV⟩ Hk
  iapply (wp_dead_load vpM _ _) $$ HVP
  iintro %v443 HVP
  iapply (wp_fill vpM (KP (vVal m c)) (fun j => k0_pay43 (kvwin (vVal m c) (xo j))) rfl 4 256 320 (by decide) rfl rfl ![256, 0] rfl (k0_pay81 (k0_pay80 (kvwin (vVal m c) 1024))) rfl) $$ HVP
  iintro HVP
  iapply (wp_kv_load (vVal m c) 1280 (by decide) rfl) $$ HKV
  iintro HKV
  iapply (wp_dead_load vpM _ _) $$ HVP
  iintro %v449 HVP
  iapply (wp_fill vpM (KP (vVal m c)) (fun j => k0_pay43 (kvwin (vVal m c) (xo j))) rfl 5 320 384 (by decide) rfl rfl ![320, 0] rfl (k0_pay82 (kvwin (vVal m c) 1280)) rfl) $$ HVP
  iintro HVP
  iapply (wp_kv_load (vVal m c) 1536 (by decide) rfl) $$ HKV
  iintro HKV
  iapply (wp_dead_load vpM _ _) $$ HVP
  iintro %v455 HVP
  iapply (wp_fill vpM (KP (vVal m c)) (fun j => k0_pay43 (kvwin (vVal m c) (xo j))) rfl 6 384 448 (by decide) rfl rfl ![384, 0] rfl (k0_pay83 (kvwin (vVal m c) 1536)) rfl) $$ HVP
  iintro HVP
  iapply (wp_kv_load (vVal m c) 1792 (by decide) rfl) $$ HKV
  iintro HKV
  iapply (wp_dead_load vpM _ _) $$ HVP
  iintro %v461 HVP
  iapply (wp_fill vpM (KP (vVal m c)) (fun j => k0_pay43 (kvwin (vVal m c) (xo j))) rfl 7 448 512 (by decide) rfl rfl ![448, 0] rfl (k0_pay84 (kvwin (vVal m c) 1792)) rfl) $$ HVP
  iintro HVP
  iapply (wp_kv_load (vVal m c) 64 (by decide) rfl) $$ HKV
  iintro HKV
  iapply (wp_dead_load vpM _ _) $$ HVP
  iintro %v467 HVP
  iapply (wp_fill vpM (KP (vVal m c)) (fun j => k0_pay43 (kvwin (vVal m c) (xo j))) rfl 8 512 576 (by decide) rfl rfl ![512, 0] rfl (k0_pay85 (kvwin (vVal m c) 64)) rfl) $$ HVP
  iintro HVP
  iapply (wp_kv_load (vVal m c) 320 (by decide) rfl) $$ HKV
  iintro HKV
  iapply W_ret
  iapply Hk
  isplitl [HVP]; · iexact HVP
  iexact HKV

theorem part18_ok (m : (ℓ : Loc nD τ sig) → Buf (Elt F) ℓ) {Q : (FVec F S64x1024 .f32) → sProp 𝕄} :
    iprop(scr vpM c (KP (vVal m c)) 576 ∗ kvPts c (vVal m c))
      ⊢ iprop((scr vpM c (KP (vVal m c)) 896 ∗ kvPts c (vVal m c) -∗ Q (k0_pay92 (kvwin (vVal m c) 1600)))
          -∗ W c (k0_part18 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay86 (kvwin (vVal m c) 320))) Q) := by
  simp only [k0_part18_eq_skeleton]
  unfold k0_part18_skel
  simp only [semSignalWord, semWaitWord, Prog.lift, Prog.bind_op, Prog.bind_ret, Prog.pure_eq_ret, wp_deviceId]
  iintro ⟨HVP, HKV⟩ Hk
  iapply (wp_dead_load vpM _ _) $$ HVP
  iintro %v473 HVP
  iapply (wp_fill vpM (KP (vVal m c)) (fun j => k0_pay43 (kvwin (vVal m c) (xo j))) rfl 9 576 640 (by decide) rfl rfl ![576, 0] rfl (k0_pay87 (k0_pay86 (kvwin (vVal m c) 320))) rfl) $$ HVP
  iintro HVP
  iapply (wp_kv_load (vVal m c) 576 (by decide) rfl) $$ HKV
  iintro HKV
  iapply (wp_dead_load vpM _ _) $$ HVP
  iintro %v479 HVP
  iapply (wp_fill vpM (KP (vVal m c)) (fun j => k0_pay43 (kvwin (vVal m c) (xo j))) rfl 10 640 704 (by decide) rfl rfl ![640, 0] rfl (k0_pay88 (kvwin (vVal m c) 576)) rfl) $$ HVP
  iintro HVP
  iapply (wp_kv_load (vVal m c) 832 (by decide) rfl) $$ HKV
  iintro HKV
  iapply (wp_dead_load vpM _ _) $$ HVP
  iintro %v485 HVP
  iapply (wp_fill vpM (KP (vVal m c)) (fun j => k0_pay43 (kvwin (vVal m c) (xo j))) rfl 11 704 768 (by decide) rfl rfl ![704, 0] rfl (k0_pay89 (kvwin (vVal m c) 832)) rfl) $$ HVP
  iintro HVP
  iapply (wp_kv_load (vVal m c) 1088 (by decide) rfl) $$ HKV
  iintro HKV
  iapply (wp_dead_load vpM _ _) $$ HVP
  iintro %v491 HVP
  iapply (wp_fill vpM (KP (vVal m c)) (fun j => k0_pay43 (kvwin (vVal m c) (xo j))) rfl 12 768 832 (by decide) rfl rfl ![768, 0] rfl (k0_pay90 (kvwin (vVal m c) 1088)) rfl) $$ HVP
  iintro HVP
  iapply (wp_kv_load (vVal m c) 1344 (by decide) rfl) $$ HKV
  iintro HKV
  iapply (wp_dead_load vpM _ _) $$ HVP
  iintro %v497 HVP
  iapply (wp_fill vpM (KP (vVal m c)) (fun j => k0_pay43 (kvwin (vVal m c) (xo j))) rfl 13 832 896 (by decide) rfl rfl ![832, 0] rfl (k0_pay91 (kvwin (vVal m c) 1344)) rfl) $$ HVP
  iintro HVP
  iapply (wp_kv_load (vVal m c) 1600 (by decide) rfl) $$ HKV
  iintro HKV
  iapply W_ret
  iapply Hk
  isplitl [HVP]; · iexact HVP
  iexact HKV

theorem part19_ok (m : (ℓ : Loc nD τ sig) → Buf (Elt F) ℓ) {Q : (FVec F S64x1024 .f32) → sProp 𝕄} :
    iprop(scr vpM c (KP (vVal m c)) 896 ∗ kvPts c (vVal m c))
      ⊢ iprop((scr vpM c (KP (vVal m c)) 1216 ∗ kvPts c (vVal m c) -∗ Q (k0_pay98 (kvwin (vVal m c) 896)))
          -∗ W c (k0_part19 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay92 (kvwin (vVal m c) 1600))) Q) := by
  simp only [k0_part19_eq_skeleton]
  unfold k0_part19_skel
  simp only [semSignalWord, semWaitWord, Prog.lift, Prog.bind_op, Prog.bind_ret, Prog.pure_eq_ret, wp_deviceId]
  iintro ⟨HVP, HKV⟩ Hk
  iapply (wp_dead_load vpM _ _) $$ HVP
  iintro %v503 HVP
  iapply (wp_fill vpM (KP (vVal m c)) (fun j => k0_pay43 (kvwin (vVal m c) (xo j))) rfl 14 896 960 (by decide) rfl rfl ![896, 0] rfl (k0_pay93 (k0_pay92 (kvwin (vVal m c) 1600))) rfl) $$ HVP
  iintro HVP
  iapply (wp_kv_load (vVal m c) 1856 (by decide) rfl) $$ HKV
  iintro HKV
  iapply (wp_dead_load vpM _ _) $$ HVP
  iintro %v509 HVP
  iapply (wp_fill vpM (KP (vVal m c)) (fun j => k0_pay43 (kvwin (vVal m c) (xo j))) rfl 15 960 1024 (by decide) rfl rfl ![960, 0] rfl (k0_pay94 (kvwin (vVal m c) 1856)) rfl) $$ HVP
  iintro HVP
  iapply (wp_kv_load (vVal m c) 128 (by decide) rfl) $$ HKV
  iintro HKV
  iapply (wp_dead_load vpM _ _) $$ HVP
  iintro %v515 HVP
  iapply (wp_fill vpM (KP (vVal m c)) (fun j => k0_pay43 (kvwin (vVal m c) (xo j))) rfl 16 1024 1088 (by decide) rfl rfl ![1024, 0] rfl (k0_pay95 (kvwin (vVal m c) 128)) rfl) $$ HVP
  iintro HVP
  iapply (wp_kv_load (vVal m c) 384 (by decide) rfl) $$ HKV
  iintro HKV
  iapply (wp_dead_load vpM _ _) $$ HVP
  iintro %v521 HVP
  iapply (wp_fill vpM (KP (vVal m c)) (fun j => k0_pay43 (kvwin (vVal m c) (xo j))) rfl 17 1088 1152 (by decide) rfl rfl ![1088, 0] rfl (k0_pay96 (kvwin (vVal m c) 384)) rfl) $$ HVP
  iintro HVP
  iapply (wp_kv_load (vVal m c) 640 (by decide) rfl) $$ HKV
  iintro HKV
  iapply (wp_dead_load vpM _ _) $$ HVP
  iintro %v527 HVP
  iapply (wp_fill vpM (KP (vVal m c)) (fun j => k0_pay43 (kvwin (vVal m c) (xo j))) rfl 18 1152 1216 (by decide) rfl rfl ![1152, 0] rfl (k0_pay97 (kvwin (vVal m c) 640)) rfl) $$ HVP
  iintro HVP
  iapply (wp_kv_load (vVal m c) 896 (by decide) rfl) $$ HKV
  iintro HKV
  iapply W_ret
  iapply Hk
  isplitl [HVP]; · iexact HVP
  iexact HKV

theorem part20_ok (m : (ℓ : Loc nD τ sig) → Buf (Elt F) ℓ) {Q : (FVec F S64x1024 .f32) → sProp 𝕄} :
    iprop(scr vpM c (KP (vVal m c)) 1216 ∗ kvPts c (vVal m c))
      ⊢ iprop((scr vpM c (KP (vVal m c)) 1536 ∗ kvPts c (vVal m c) -∗ Q (k0_pay104 (kvwin (vVal m c) 192)))
          -∗ W c (k0_part20 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay98 (kvwin (vVal m c) 896))) Q) := by
  simp only [k0_part20_eq_skeleton]
  unfold k0_part20_skel
  simp only [semSignalWord, semWaitWord, Prog.lift, Prog.bind_op, Prog.bind_ret, Prog.pure_eq_ret, wp_deviceId]
  iintro ⟨HVP, HKV⟩ Hk
  iapply (wp_dead_load vpM _ _) $$ HVP
  iintro %v533 HVP
  iapply (wp_fill vpM (KP (vVal m c)) (fun j => k0_pay43 (kvwin (vVal m c) (xo j))) rfl 19 1216 1280 (by decide) rfl rfl ![1216, 0] rfl (k0_pay99 (k0_pay98 (kvwin (vVal m c) 896))) rfl) $$ HVP
  iintro HVP
  iapply (wp_kv_load (vVal m c) 1152 (by decide) rfl) $$ HKV
  iintro HKV
  iapply (wp_dead_load vpM _ _) $$ HVP
  iintro %v539 HVP
  iapply (wp_fill vpM (KP (vVal m c)) (fun j => k0_pay43 (kvwin (vVal m c) (xo j))) rfl 20 1280 1344 (by decide) rfl rfl ![1280, 0] rfl (k0_pay100 (kvwin (vVal m c) 1152)) rfl) $$ HVP
  iintro HVP
  iapply (wp_kv_load (vVal m c) 1408 (by decide) rfl) $$ HKV
  iintro HKV
  iapply (wp_dead_load vpM _ _) $$ HVP
  iintro %v545 HVP
  iapply (wp_fill vpM (KP (vVal m c)) (fun j => k0_pay43 (kvwin (vVal m c) (xo j))) rfl 21 1344 1408 (by decide) rfl rfl ![1344, 0] rfl (k0_pay101 (kvwin (vVal m c) 1408)) rfl) $$ HVP
  iintro HVP
  iapply (wp_kv_load (vVal m c) 1664 (by decide) rfl) $$ HKV
  iintro HKV
  iapply (wp_dead_load vpM _ _) $$ HVP
  iintro %v551 HVP
  iapply (wp_fill vpM (KP (vVal m c)) (fun j => k0_pay43 (kvwin (vVal m c) (xo j))) rfl 22 1408 1472 (by decide) rfl rfl ![1408, 0] rfl (k0_pay102 (kvwin (vVal m c) 1664)) rfl) $$ HVP
  iintro HVP
  iapply (wp_kv_load (vVal m c) 1920 (by decide) rfl) $$ HKV
  iintro HKV
  iapply (wp_dead_load vpM _ _) $$ HVP
  iintro %v557 HVP
  iapply (wp_fill vpM (KP (vVal m c)) (fun j => k0_pay43 (kvwin (vVal m c) (xo j))) rfl 23 1472 1536 (by decide) rfl rfl ![1472, 0] rfl (k0_pay103 (kvwin (vVal m c) 1920)) rfl) $$ HVP
  iintro HVP
  iapply (wp_kv_load (vVal m c) 192 (by decide) rfl) $$ HKV
  iintro HKV
  iapply W_ret
  iapply Hk
  isplitl [HVP]; · iexact HVP
  iexact HKV

theorem part21_ok (m : (ℓ : Loc nD τ sig) → Buf (Elt F) ℓ) {Q : (FVec F S64x1024 .f32) → sProp 𝕄} :
    iprop(scr vpM c (KP (vVal m c)) 1536 ∗ kvPts c (vVal m c))
      ⊢ iprop((scr vpM c (KP (vVal m c)) 1856 ∗ kvPts c (vVal m c) -∗ Q (k0_pay110 (kvwin (vVal m c) 1472)))
          -∗ W c (k0_part21 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay104 (kvwin (vVal m c) 192))) Q) := by
  simp only [k0_part21_eq_skeleton]
  unfold k0_part21_skel
  simp only [semSignalWord, semWaitWord, Prog.lift, Prog.bind_op, Prog.bind_ret, Prog.pure_eq_ret, wp_deviceId]
  iintro ⟨HVP, HKV⟩ Hk
  iapply (wp_dead_load vpM _ _) $$ HVP
  iintro %v563 HVP
  iapply (wp_fill vpM (KP (vVal m c)) (fun j => k0_pay43 (kvwin (vVal m c) (xo j))) rfl 24 1536 1600 (by decide) rfl rfl ![1536, 0] rfl (k0_pay105 (k0_pay104 (kvwin (vVal m c) 192))) rfl) $$ HVP
  iintro HVP
  iapply (wp_kv_load (vVal m c) 448 (by decide) rfl) $$ HKV
  iintro HKV
  iapply (wp_dead_load vpM _ _) $$ HVP
  iintro %v569 HVP
  iapply (wp_fill vpM (KP (vVal m c)) (fun j => k0_pay43 (kvwin (vVal m c) (xo j))) rfl 25 1600 1664 (by decide) rfl rfl ![1600, 0] rfl (k0_pay106 (kvwin (vVal m c) 448)) rfl) $$ HVP
  iintro HVP
  iapply (wp_kv_load (vVal m c) 704 (by decide) rfl) $$ HKV
  iintro HKV
  iapply (wp_dead_load vpM _ _) $$ HVP
  iintro %v575 HVP
  iapply (wp_fill vpM (KP (vVal m c)) (fun j => k0_pay43 (kvwin (vVal m c) (xo j))) rfl 26 1664 1728 (by decide) rfl rfl ![1664, 0] rfl (k0_pay107 (kvwin (vVal m c) 704)) rfl) $$ HVP
  iintro HVP
  iapply (wp_kv_load (vVal m c) 960 (by decide) rfl) $$ HKV
  iintro HKV
  iapply (wp_dead_load vpM _ _) $$ HVP
  iintro %v581 HVP
  iapply (wp_fill vpM (KP (vVal m c)) (fun j => k0_pay43 (kvwin (vVal m c) (xo j))) rfl 27 1728 1792 (by decide) rfl rfl ![1728, 0] rfl (k0_pay108 (kvwin (vVal m c) 960)) rfl) $$ HVP
  iintro HVP
  iapply (wp_kv_load (vVal m c) 1216 (by decide) rfl) $$ HKV
  iintro HKV
  iapply (wp_dead_load vpM _ _) $$ HVP
  iintro %v587 HVP
  iapply (wp_fill vpM (KP (vVal m c)) (fun j => k0_pay43 (kvwin (vVal m c) (xo j))) rfl 28 1792 1856 (by decide) rfl rfl ![1792, 0] rfl (k0_pay109 (kvwin (vVal m c) 1216)) rfl) $$ HVP
  iintro HVP
  iapply (wp_kv_load (vVal m c) 1472 (by decide) rfl) $$ HKV
  iintro HKV
  iapply W_ret
  iapply Hk
  isplitl [HVP]; · iexact HVP
  iexact HKV

theorem part22_ok (m : (ℓ : Loc nD τ sig) → Buf (Elt F) ℓ) (xf : Vec F S1x2048x1024 .f32) (wq : Vec F S1024x1024 .f32) (wo : Vec F S1024x1024 .f32) {Q : (FVec F S1024x1024 .bf16) → sProp 𝕄} :
    iprop(scr vpM c (KP (vVal m c)) 1856 ∗ kvPts c (vVal m c) ∗ scr qpM c (QP xf wq) 2048 ∗ scr kpM c (KP (kVal m c)) 2048 ∗ hold woM c wo ∗ scr xpM c (XP xf) 2048)
      ⊢ iprop((scr vpM c (KP (vVal m c)) 2048 ∗ kvPts c (vVal m c) ∗ scr qpM c (CT m c xf wq) 2048 ∗ scr kpM c (KP (kVal m c)) 2048 ∗ hold woM c wo ∗ scr xpM c (gath (CT m c xf wq) 0) 128 -∗ Q (k0_pay115 wo))
          -∗ W c (k0_part22 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay110 (kvwin (vVal m c) 1472))) Q) := by
  simp only [k0_part22_eq_skeleton]
  unfold k0_part22_skel
  simp only [semSignalWord, semWaitWord, Prog.lift, Prog.bind_op, Prog.bind_ret, Prog.pure_eq_ret, wp_deviceId]
  iintro ⟨HVP, HKV, HQP, HKP, HWO, HXP⟩ Hk
  iapply (wp_dead_load vpM _ _) $$ HVP
  iintro %v593 HVP
  iapply (wp_fill vpM (KP (vVal m c)) (fun j => k0_pay43 (kvwin (vVal m c) (xo j))) rfl 29 1856 1920 (by decide) rfl rfl ![1856, 0] rfl (k0_pay111 (k0_pay110 (kvwin (vVal m c) 1472))) rfl) $$ HVP
  iintro HVP
  iapply (wp_kv_load (vVal m c) 1728 (by decide) rfl) $$ HKV
  iintro HKV
  iapply (wp_dead_load vpM _ _) $$ HVP
  iintro %v599 HVP
  iapply (wp_fill vpM (KP (vVal m c)) (fun j => k0_pay43 (kvwin (vVal m c) (xo j))) rfl 30 1920 1984 (by decide) rfl rfl ![1920, 0] rfl (k0_pay112 (kvwin (vVal m c) 1728)) rfl) $$ HVP
  iintro HVP
  iapply (wp_kv_load (vVal m c) 1984 (by decide) rfl) $$ HKV
  iintro HKV
  iapply (wp_dead_load vpM _ _) $$ HVP
  iintro %v605 HVP
  iapply (wp_fill vpM (KP (vVal m c)) (fun j => k0_pay43 (kvwin (vVal m c) (xo j))) rfl 31 1984 2048 (by decide) rfl rfl ![1984, 0] rfl (k0_pay113 (kvwin (vVal m c) 1984)) rfl) $$ HVP
  iintro HVP
  iapply (wp_heads (QP xf wq) (KP (kVal m c)) (KP (vVal m c)) _) $$ [HQP HKP HVP]
  · isplitl [HQP]; · iexact HQP
    isplitl [HKP]; · iexact HKP
    iexact HVP
  iintro ⟨HQP, HKP, HVP⟩
  ihave HQP := (of_eq (show scr qpM c (ctxG (QP xf wq) (KP (kVal m c)) (KP (vVal m c)) 32) 2048 = scr qpM c (CT m c xf wq) 2048 from rfl)) $$ HQP
  iapply (wp_w_load woM wo rfl) $$ HWO
  iintro HWO
  iapply (wp_row_load qpM (CT m c xf wq) 2048 0 64 (by decide) (by decide) rfl) $$ HQP
  iintro HQP
  iapply (wp_dead_load xpM _ _) $$ HXP
  iintro %v613 HXP
  ihave HXP := (scr_zero xpM (G' := gath (CT m c xf wq) 0)) $$ HXP
  iapply (wp_fill xpM (gath (CT m c xf wq) 0) (fun j => rwin (CT m c xf wq) (go (0 + j))) rfl 0 0 64 (by decide) rfl rfl ![0, 0] rfl (k0_pay116 (rwin (CT m c xf wq) 0)) (by simp only [k0_pay116, shapeCast_self]; rfl)) $$ HXP
  iintro HXP
  iapply (wp_row_load qpM (CT m c xf wq) 2048 512 64 (by decide) (by decide) rfl) $$ HQP
  iintro HQP
  iapply (wp_dead_load xpM _ _) $$ HXP
  iintro %v617 HXP
  iapply (wp_fill xpM (gath (CT m c xf wq) 0) (fun j => rwin (CT m c xf wq) (go (0 + j))) rfl 1 64 128 (by decide) rfl rfl ![64, 0] rfl (k0_pay117 (rwin (CT m c xf wq) 512)) (by simp only [k0_pay117, shapeCast_self]; rfl)) $$ HXP
  iintro HXP
  iapply W_ret
  iapply Hk
  isplitl [HVP]; · iexact HVP
  isplitl [HKV]; · iexact HKV
  isplitl [HQP]; · iexact HQP
  isplitl [HKP]; · iexact HKP
  isplitl [HWO]; · iexact HWO
  iexact HXP

end Cert.Proto

end
-- ==== Proof.PartsD.lean ====
/-
# The products

Parts 23 to 29 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part23_ok (m : (ℓ : Loc nD τ sig) → Buf (Elt F) ℓ) (xf : Vec F S1x2048x1024 .f32) (wq : Vec F S1024x1024 .f32) {Q : (Σ' (v644 : Vec F S64x1024 .bf16), Vec F S64x1024 .bf16) → sProp 𝕄} :
    iprop(scr qpM c (CT m c xf wq) 2048 ∗ scr xpM c (gath (CT m c xf wq) 0) 128)
      ⊢ iprop((∀ v645 : Vec F S64x1024 .bf16, scr qpM c (CT m c xf wq) 2048 ∗ scr xpM c (gath (CT m c xf wq) 0) 512 -∗ Q ⟨(rwin (CT m c xf wq) 128), v645⟩)
          -∗ W c (k0_part23 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 ) Q) := by
  simp only [k0_part23_eq_skeleton]
  unfold k0_part23_skel
  simp only [semSignalWord, semWaitWord, Prog.lift, Prog.bind_op, Prog.bind_ret, Prog.pure_eq_ret, wp_deviceId]
  iintro ⟨HQP, HXP⟩ Hk
  iapply (wp_row_load qpM (CT m c xf wq) 2048 1024 64 (by decide) (by decide) rfl) $$ HQP
  iintro HQP
  iapply (wp_dead_load xpM _ _) $$ HXP
  iintro %v621 HXP
  iapply (wp_fill xpM (gath (CT m c xf wq) 0) (fun j => rwin (CT m c xf wq) (go (0 + j))) rfl 2 128 192 (by decide) rfl rfl ![128, 0] rfl (k0_pay118 (rwin (CT m c xf wq) 1024)) (by simp only [k0_pay118, shapeCast_self]; rfl)) $$ HXP
  iintro HXP
  iapply (wp_row_load qpM (CT m c xf wq) 2048 1536 64 (by decide) (by decide) rfl) $$ HQP
  iintro HQP
  iapply (wp_dead_load xpM _ _) $$ HXP
  iintro %v625 HXP
  iapply (wp_fill xpM (gath (CT m c xf wq) 0) (fun j => rwin (CT m c xf wq) (go (0 + j))) rfl 3 192 256 (by decide) rfl rfl ![192, 0] rfl (k0_pay119 (rwin (CT m c xf wq) 1536)) (by simp only [k0_pay119, shapeCast_self]; rfl)) $$ HXP
  iintro HXP
  iapply (wp_row_load qpM (CT m c xf wq) 2048 64 64 (by decide) (by decide) rfl) $$ HQP
  iintro HQP
  iapply (wp_dead_load xpM _ _) $$ HXP
  iintro %v629 HXP
  iapply (wp_fill xpM (gath (CT m c xf wq) 0) (fun j => rwin (CT m c xf wq) (go (0 + j))) rfl 4 256 320 (by decide) rfl rfl ![256, 0] rfl (k0_pay120 (rwin (CT m c xf wq) 64)) (by simp only [k0_pay120, shapeCast_self]; rfl)) $$ HXP
  iintro HXP
  iapply (wp_row_load qpM (CT m c xf wq) 2048 576 64 (by decide) (by decide) rfl) $$ HQP
  iintro HQP
  iapply (wp_dead_load xpM _ _) $$ HXP
  iintro %v633 HXP
  iapply (wp_fill xpM (gath (CT m c xf wq) 0) (fun j => rwin (CT m c xf wq) (go (0 + j))) rfl 5 320 384 (by decide) rfl rfl ![320, 0] rfl (k0_pay121 (rwin (CT m c xf wq) 576)) (by simp only [k0_pay121, shapeCast_self]; rfl)) $$ HXP
  iintro HXP
  iapply (wp_row_load qpM (CT m c xf wq) 2048 1088 64 (by decide) (by decide) rfl) $$ HQP
  iintro HQP
  iapply (wp_dead_load xpM _ _) $$ HXP
  iintro %v637 HXP
  iapply (wp_fill xpM (gath (CT m c xf wq) 0) (fun j => rwin (CT m c xf wq) (go (0 + j))) rfl 6 384 448 (by decide) rfl rfl ![384, 0] rfl (k0_pay122 (rwin (CT m c xf wq) 1088)) (by simp only [k0_pay122, shapeCast_self]; rfl)) $$ HXP
  iintro HXP
  iapply (wp_row_load qpM (CT m c xf wq) 2048 1600 64 (by decide) (by decide) rfl) $$ HQP
  iintro HQP
  iapply (wp_dead_load xpM _ _) $$ HXP
  iintro %v641 HXP
  iapply (wp_fill xpM (gath (CT m c xf wq) 0) (fun j => rwin (CT m c xf wq) (go (0 + j))) rfl 7 448 512 (by decide) rfl rfl ![448, 0] rfl (k0_pay123 (rwin (CT m c xf wq) 1600)) (by simp only [k0_pay123, shapeCast_self]; rfl)) $$ HXP
  iintro HXP
  iapply (wp_row_load qpM (CT m c xf wq) 2048 128 64 (by decide) (by decide) rfl) $$ HQP
  iintro HQP
  iapply (wp_dead_load xpM _ _) $$ HXP
  iintro %v645 HXP
  iapply W_ret
  iapply Hk
  isplitl [HQP]; · iexact HQP
  iexact HXP

theorem part24_ok (P : Dev nD → Vec F S2048x1024 .bf16) (m : (ℓ : Loc nD τ sig) → Buf (Elt F) ℓ) (xf : Vec F S1x2048x1024 .f32) (wq : Vec F S1024x1024 .f32) (wo : Vec F S1024x1024 .f32) (ob : Vec F S2048x1024 .bf16) (hP : P c = P0 (CT m c xf wq) wo) (v2 : BitVec 32) (v645 : Vec F S64x1024 .bf16) {Q : (Σ' (v664 : BitVec 32) (v665 : BitVec 32) (v676 : BitVec 1), BitVec 32) → sProp 𝕄} :
    iprop(scr xpM c (gath (CT m c xf wq) 0) 512 ∗ scr qpM c (CT m c xf wq) 2048 ∗ oPts c 0 768 ob)
      ⊢ iprop((∀ v664 : BitVec 32, ∀ v665 : BitVec 32, ∀ v676 : BitVec 1, ∀ v677 : BitVec 32, scr xpM c (gath (CT m c xf wq) 0) 768 ∗ scr qpM c (CT m c xf wq) 2048 ∗ oPts c 0 768 (P c) -∗ Q ⟨v664, v665, v676, v677⟩)
          -∗ W c (k0_part24 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 v2 (k0_pay115 wo) (rwin (CT m c xf wq) 128) v645) Q) := by
  simp only [k0_part24_eq_skeleton]
  unfold k0_part24_skel
  simp only [semSignalWord, semWaitWord, Prog.lift, Prog.bind_op, Prog.bind_ret, Prog.pure_eq_ret, wp_deviceId]
  iintro ⟨HXP, HQP, HOB0⟩ Hk
  iapply (wp_fill xpM (gath (CT m c xf wq) 0) (fun j => rwin (CT m c xf wq) (go (0 + j))) rfl 8 512 576 (by decide) rfl rfl ![512, 0] rfl (k0_pay124 (rwin (CT m c xf wq) 128)) (by simp only [k0_pay124, shapeCast_self]; rfl)) $$ HXP
  iintro HXP
  iapply (wp_row_load qpM (CT m c xf wq) 2048 640 64 (by decide) (by decide) rfl) $$ HQP
  iintro HQP
  iapply (wp_dead_load xpM _ _) $$ HXP
  iintro %v649 HXP
  iapply (wp_fill xpM (gath (CT m c xf wq) 0) (fun j => rwin (CT m c xf wq) (go (0 + j))) rfl 9 576 640 (by decide) rfl rfl ![576, 0] rfl (k0_pay125 (rwin (CT m c xf wq) 640)) (by simp only [k0_pay125, shapeCast_self]; rfl)) $$ HXP
  iintro HXP
  iapply (wp_row_load qpM (CT m c xf wq) 2048 1152 64 (by decide) (by decide) rfl) $$ HQP
  iintro HQP
  iapply (wp_dead_load xpM _ _) $$ HXP
  iintro %v653 HXP
  iapply (wp_fill xpM (gath (CT m c xf wq) 0) (fun j => rwin (CT m c xf wq) (go (0 + j))) rfl 10 640 704 (by decide) rfl rfl ![640, 0] rfl (k0_pay126 (rwin (CT m c xf wq) 1152)) (by simp only [k0_pay126, shapeCast_self]; rfl)) $$ HXP
  iintro HXP
  iapply (wp_row_load qpM (CT m c xf wq) 2048 1664 64 (by decide) (by decide) rfl) $$ HQP
  iintro HQP
  iapply (wp_dead_load xpM _ _) $$ HXP
  iintro %v657 HXP
  iapply (wp_fill xpM (gath (CT m c xf wq) 0) (fun j => rwin (CT m c xf wq) (go (0 + j))) rfl 11 704 768 (by decide) rfl rfl ![704, 0] rfl (k0_pay127 (rwin (CT m c xf wq) 1664)) (by simp only [k0_pay127, shapeCast_self]; rfl)) $$ HXP
  iintro HXP
  iapply (wp_row_load xpM (gath (CT m c xf wq) 0) 768 0 768 (by decide) (by decide) rfl) $$ HXP
  iintro HXP
  iapply (wp_o_load 0 768 ob rfl) $$ HOB0
  iintro HOB0
  iapply (wp_o_store 0 768 ob (P c) rfl (fun y => by rw [hP]; exact P0_a _ _ y)) $$ HOB0
  iintro HOB0
  iapply W_ret
  iapply Hk
  isplitl [HXP]; · iexact HXP
  isplitl [HQP]; · iexact HQP
  iexact HOB0

theorem part25_ok (P : Dev nD → Vec F S2048x1024 .bf16) (m : (ℓ : Loc nD τ sig) → Buf (Elt F) ℓ) (xf : Vec F S1x2048x1024 .f32) (wq : Vec F S1024x1024 .f32) (v2 : BitVec 32) (v664 : BitVec 32) (v665 : BitVec 32) (v676 : BitVec 1) (v677 : BitVec 32) {Q : (Σ' (v684 : BitVec 32) (v688 : BitVec 32), FVec F S64x1024 .bf16) → sProp 𝕄} :
    iprop(std P m ∗ oPts c 0 768 (P c) ∗ oweN c 3 ∗ R0 0 c ∗ rbAny 0 (par 0 c) ∗ scr qpM c (CT m c xf wq) 2048 ∗ scr xpM c (gath (CT m c xf wq) 0) 768)
      ⊢ iprop((∀ v684 : BitVec 32, ∀ v688 : BitVec 32, oweN c 4 ∗ R1 0 c ∗ scr qpM c (CT m c xf wq) 2048 ∗ scr xpM c (gath (CT m c xf wq) 12) 128 ∗ oPts c (kOff 0 c) (hs 0) (acc P ((0 : Fin 9).val % 3) c) -∗ Q ⟨v684, v688, (k0_pay131 (rwin (CT m c xf wq) 1216))⟩)
          -∗ W c (k0_part25 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v664 v665 v676 v677) Q) := by
  simp only [k0_part25_eq_skeleton]
  unfold k0_part25_skel
  simp only [semSignalWord, semWaitWord, Prog.lift, Prog.bind_op, Prog.bind_ret, Prog.pure_eq_ret, wp_deviceId]
  iintro ⟨#Hstd, HOB0, HO, HR0, HL0, HQP, HXP⟩ Hk
  ihave HH := (show (oPts c 0 768 (P c) : sProp 𝕄) ⊢ _ from oPts_first P 0 (by decide)) $$ HOB0
  icases HH with ⟨HK0, HS0⟩
  iapply (rs_send P m 0 3 rfl (e := ⟨k0_dev4 c, k0_dev4_lt c⟩) (dev4 c) (off := k0_off3 c) (off3 c)) $$ [HO HR0 HL0 HS0]
  · isplitr; · iexact Hstd
    isplitl [HO]; · iexact HO
    isplitl [HR0]; · iexact HR0
    isplitl [HL0]; · iexact HL0
    iexact HS0
  iintro ⟨HO, HR0⟩
  iapply (wp_row_load qpM (CT m c xf wq) 2048 192 64 (by decide) (by decide) rfl) $$ HQP
  iintro HQP
  iapply (wp_dead_load xpM _ _) $$ HXP
  iintro %v697 HXP
  ihave HXP := (scr_zero xpM (G' := gath (CT m c xf wq) 12)) $$ HXP
  iapply (wp_fill xpM (gath (CT m c xf wq) 12) (fun j => rwin (CT m c xf wq) (go (12 + j))) rfl 0 0 64 (by decide) rfl rfl ![0, 0] rfl (k0_pay129 (rwin (CT m c xf wq) 192)) (by simp only [k0_pay129, shapeCast_self]; rfl)) $$ HXP
  iintro HXP
  iapply (wp_row_load qpM (CT m c xf wq) 2048 704 64 (by decide) (by decide) rfl) $$ HQP
  iintro HQP
  iapply (wp_dead_load xpM _ _) $$ HXP
  iintro %v701 HXP
  iapply (wp_fill xpM (gath (CT m c xf wq) 12) (fun j => rwin (CT m c xf wq) (go (12 + j))) rfl 1 64 128 (by decide) rfl rfl ![64, 0] rfl (k0_pay130 (rwin (CT m c xf wq) 704)) (by simp only [k0_pay130, shapeCast_self]; rfl)) $$ HXP
  iintro HXP
  iapply (wp_row_load qpM (CT m c xf wq) 2048 1216 64 (by decide) (by decide) rfl) $$ HQP
  iintro HQP
  iapply (wp_dead_load xpM _ _) $$ HXP
  iintro %v705 HXP
  iapply W_ret
  iapply Hk
  isplitl [HO]; · iexact HO
  isplitl [HR0]; · iexact HR0
  isplitl [HQP]; · iexact HQP
  isplitl [HXP]; · iexact HXP
  iexact HK0

theorem part26_ok (m : (ℓ : Loc nD τ sig) → Buf (Elt F) ℓ) (xf : Vec F S1x2048x1024 .f32) (wq : Vec F S1024x1024 .f32) {Q : (Vec F S64x1024 .bf16) → sProp 𝕄} :
    iprop(scr xpM c (gath (CT m c xf wq) 12) 128 ∗ scr qpM c (CT m c xf wq) 2048)
      ⊢ iprop((scr xpM c (gath (CT m c xf wq) 12) 576 ∗ scr qpM c (CT m c xf wq) 2048 -∗ Q (rwin (CT m c xf wq) 832))
          -∗ W c (k0_part26 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 (k0_pay131 (rwin (CT m c xf wq) 1216))) Q) := by
  simp only [k0_part26_eq_skeleton]
  unfold k0_part26_skel
  simp only [semSignalWord, semWaitWord, Prog.lift, Prog.bind_op, Prog.bind_ret, Prog.pure_eq_ret, wp_deviceId]
  iintro ⟨HXP, HQP⟩ Hk
  iapply (wp_fill xpM (gath (CT m c xf wq) 12) (fun j => rwin (CT m c xf wq) (go (12 + j))) rfl 2 128 192 (by decide) rfl rfl ![128, 0] rfl (k0_pay131 (rwin (CT m c xf wq) 1216)) (by simp only [k0_pay131, shapeCast_self]; rfl)) $$ HXP
  iintro HXP
  iapply (wp_row_load qpM (CT m c xf wq) 2048 1728 64 (by decide) (by decide) rfl) $$ HQP
  iintro HQP
  iapply (wp_dead_load xpM _ _) $$ HXP
  iintro %v709 HXP
  iapply (wp_fill xpM (gath (CT m c xf wq) 12) (fun j => rwin (CT m c xf wq) (go (12 + j))) rfl 3 192 256 (by decide) rfl rfl ![192, 0] rfl (k0_pay132 (rwin (CT m c xf wq) 1728)) (by simp only [k0_pay132, shapeCast_self]; rfl)) $$ HXP
  iintro HXP
  iapply (wp_row_load qpM (CT m c xf wq) 2048 256 64 (by decide) (by decide) rfl) $$ HQP
  iintro HQP
  iapply (wp_dead_load xpM _ _) $$ HXP
  iintro %v713 HXP
  iapply (wp_fill xpM (gath (CT m c xf wq) 12) (fun j => rwin (CT m c xf wq) (go (12 + j))) rfl 4 256 320 (by decide) rfl rfl ![256, 0] rfl (k0_pay133 (rwin (CT m c xf wq) 256)) (by simp only [k0_pay133, shapeCast_self]; rfl)) $$ HXP
  iintro HXP
  iapply (wp_row_load qpM (CT m c xf wq) 2048 768 64 (by decide) (by decide) rfl) $$ HQP
  iintro HQP
  iapply (wp_dead_load xpM _ _) $$ HXP
  iintro %v717 HXP
  iapply (wp_fill xpM (gath (CT m c xf wq) 12) (fun j => rwin (CT m c xf wq) (go (12 + j))) rfl 5 320 384 (by decide) rfl rfl ![320, 0] rfl (k0_pay134 (rwin (CT m c xf wq) 768)) (by simp only [k0_pay134, shapeCast_self]; rfl)) $$ HXP
  iintro HXP
  iapply (wp_row_load qpM (CT m c xf wq) 2048 1280 64 (by decide) (by decide) rfl) $$ HQP
  iintro HQP
  iapply (wp_dead_load xpM _ _) $$ HXP
  iintro %v721 HXP
  iapply (wp_fill xpM (gath (CT m c xf wq) 12) (fun j => rwin (CT m c xf wq) (go (12 + j))) rfl 6 384 448 (by decide) rfl rfl ![384, 0] rfl (k0_pay135 (rwin (CT m c xf wq) 1280)) (by simp only [k0_pay135, shapeCast_self]; rfl)) $$ HXP
  iintro HXP
  iapply (wp_row_load qpM (CT m c xf wq) 2048 1792 64 (by decide) (by decide) rfl) $$ HQP
  iintro HQP
  iapply (wp_dead_load xpM _ _) $$ HXP
  iintro %v725 HXP
  iapply (wp_fill xpM (gath (CT m c xf wq) 12) (fun j => rwin (CT m c xf wq) (go (12 + j))) rfl 7 448 512 (by decide) rfl rfl ![448, 0] rfl (k0_pay136 (rwin (CT m c xf wq) 1792)) (by simp only [k0_pay136, shapeCast_self]; rfl)) $$ HXP
  iintro HXP
  iapply (wp_row_load qpM (CT m c xf wq) 2048 320 64 (by decide) (by decide) rfl) $$ HQP
  iintro HQP
  iapply (wp_dead_load xpM _ _) $$ HXP
  iintro %v729 HXP
  iapply (wp_fill xpM (gath (CT m c xf wq) 12) (fun j => rwin (CT m c xf wq) (go (12 + j))) rfl 8 512 576 (by decide) rfl rfl ![512, 0] rfl (k0_pay137 (rwin (CT m c xf wq) 320)) (by simp only [k0_pay137, shapeCast_self]; rfl)) $$ HXP
  iintro HXP
  iapply (wp_row_load qpM (CT m c xf wq) 2048 832 64 (by decide) (by decide) rfl) $$ HQP
  iintro HQP
  iapply W_ret
  iapply Hk
  isplitl [HXP]; · iexact HXP
  iexact HQP

theorem part27_ok (P : Dev nD → Vec F S2048x1024 .bf16) (m : (ℓ : Loc nD τ sig) → Buf (Elt F) ℓ) (xf : Vec F S1x2048x1024 .f32) (wq : Vec F S1024x1024 .f32) (wo : Vec F S1024x1024 .f32) (ob : Vec F S2048x1024 .bf16) (hP : P c = P0 (CT m c xf wq) wo) (v2 : BitVec 32) {Q : (Σ' (v765 : BitVec 32), BitVec 32) → sProp 𝕄} :
    iprop(scr xpM c (gath (CT m c xf wq) 12) 576 ∗ scr qpM c (CT m c xf wq) 2048 ∗ oPts c 768 768 ob)
      ⊢ iprop((∀ v765 : BitVec 32, ∀ v766 : BitVec 32, scr xpM c (gath (CT m c xf wq) 12) 768 ∗ scr qpM c (CT m c xf wq) 2048 ∗ oPts c 768 768 (P c) -∗ Q ⟨v765, v766⟩)
          -∗ W c (k0_part27 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 v2 (k0_pay115 wo) (rwin (CT m c xf wq) 832)) Q) := by
  simp only [k0_part27_eq_skeleton]
  unfold k0_part27_skel
  simp only [semSignalWord, semWaitWord, Prog.lift, Prog.bind_op, Prog.bind_ret, Prog.pure_eq_ret, wp_deviceId]
  iintro ⟨HXP, HQP, HOB1⟩ Hk
  iapply (wp_dead_load xpM _ _) $$ HXP
  iintro %v733 HXP
  iapply (wp_fill xpM (gath (CT m c xf wq) 12) (fun j => rwin (CT m c xf wq) (go (12 + j))) rfl 9 576 640 (by decide) rfl rfl ![576, 0] rfl (k0_pay138 (rwin (CT m c xf wq) 832)) (by simp only [k0_pay138, shapeCast_self]; rfl)) $$ HXP
  iintro HXP
  iapply (wp_row_load qpM (CT m c xf wq) 2048 1344 64 (by decide) (by decide) rfl) $$ HQP
  iintro HQP
  iapply (wp_dead_load xpM _ _) $$ HXP
  iintro %v737 HXP
  iapply (wp_fill xpM (gath (CT m c xf wq) 12) (fun j => rwin (CT m c xf wq) (go (12 + j))) rfl 10 640 704 (by decide) rfl rfl ![640, 0] rfl (k0_pay139 (rwin (CT m c xf wq) 1344)) (by simp only [k0_pay139, shapeCast_self]; rfl)) $$ HXP
  iintro HXP
  iapply (wp_row_load qpM (CT m c xf wq) 2048 1856 64 (by decide) (by decide) rfl) $$ HQP
  iintro HQP
  iapply (wp_dead_load xpM _ _) $$ HXP
  iintro %v741 HXP
  iapply (wp_fill xpM (gath (CT m c xf wq) 12) (fun j => rwin (CT m c xf wq) (go (12 + j))) rfl 11 704 768 (by decide) rfl rfl ![704, 0] rfl (k0_pay140 (rwin (CT m c xf wq) 1856)) (by simp only [k0_pay140, shapeCast_self]; rfl)) $$ HXP
  iintro HXP
  iapply (wp_row_load xpM (gath (CT m c xf wq) 12) 768 0 768 (by decide) (by decide) rfl) $$ HXP
  iintro HXP
  iapply (wp_o_load 768 768 ob rfl) $$ HOB1
  iintro HOB1
  iapply (wp_o_store 768 768 ob (P c) rfl (fun y => by rw [hP]; exact P0_b _ _ y)) $$ HOB1
  iintro HOB1
  iapply W_ret
  iapply Hk
  isplitl [HXP]; · iexact HXP
  isplitl [HQP]; · iexact HQP
  iexact HOB1

theorem part28_ok (P : Dev nD → Vec F S2048x1024 .bf16) (m : (ℓ : Loc nD τ sig) → Buf (Elt F) ℓ) (xf : Vec F S1x2048x1024 .f32) (wq : Vec F S1024x1024 .f32) (v2 : BitVec 32) (v766 : BitVec 32) {Q : (Σ' (v769 : BitVec 32), Vec F S64x1024 .bf16) → sProp 𝕄} :
    iprop(std P m ∗ oPts c 768 768 (P c) ∗ oweN c 4 ∗ R0 3 c ∗ rbAny 3 (par 3 c) ∗ scr qpM c (CT m c xf wq) 2048 ∗ scr xpM c (gath (CT m c xf wq) 12) 768)
      ⊢ iprop((∀ v769 : BitVec 32, oweN c 5 ∗ R1 3 c ∗ scr qpM c (CT m c xf wq) 2048 ∗ scr xpM c (gath (CT m c xf wq) 24) 256 ∗ oPts c (kOff 3 c) (hs 3) (acc P ((3 : Fin 9).val % 3) c) -∗ Q ⟨v769, (rwin (CT m c xf wq) 448)⟩)
          -∗ W c (k0_part28 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v766) Q) := by
  simp only [k0_part28_eq_skeleton]
  unfold k0_part28_skel
  simp only [semSignalWord, semWaitWord, Prog.lift, Prog.bind_op, Prog.bind_ret, Prog.pure_eq_ret, wp_deviceId]
  iintro ⟨#Hstd, HOB1, HO, HR3, HL3, HQP, HXP⟩ Hk
  ihave HH := (show (oPts c 768 768 (P c) : sProp 𝕄) ⊢ _ from oPts_first P 3 (by decide)) $$ HOB1
  icases HH with ⟨HK3, HS3⟩
  iapply (rs_send P m 3 4 rfl (e := ⟨k0_dev5 c, k0_dev5_lt c⟩) (dev5 c) (off := k0_off4 c) (off4 c)) $$ [HO HR3 HL3 HS3]
  · isplitr; · iexact Hstd
    isplitl [HO]; · iexact HO
    isplitl [HR3]; · iexact HR3
    isplitl [HL3]; · iexact HL3
    iexact HS3
  iintro ⟨HO, HR3⟩
  iapply (wp_row_load qpM (CT m c xf wq) 2048 384 64 (by decide) (by decide) rfl) $$ HQP
  iintro HQP
  iapply (wp_dead_load xpM _ _) $$ HXP
  iintro %v778 HXP
  ihave HXP := (scr_zero xpM (G' := gath (CT m c xf wq) 24)) $$ HXP
  iapply (wp_fill xpM (gath (CT m c xf wq) 24) (fun j => rwin (CT m c xf wq) (go (24 + j))) rfl 0 0 64 (by decide) rfl rfl ![0, 0] rfl (k0_pay142 (rwin (CT m c xf wq) 384)) (by simp only [k0_pay142, shapeCast_self]; rfl)) $$ HXP
  iintro HXP
  iapply (wp_row_load qpM (CT m c xf wq) 2048 896 64 (by decide) (by decide) rfl) $$ HQP
  iintro HQP
  iapply (wp_dead_load xpM _ _) $$ HXP
  iintro %v782 HXP
  iapply (wp_fill xpM (gath (CT m c xf wq) 24) (fun j => rwin (CT m c xf wq) (go (24 + j))) rfl 1 64 128 (by decide) rfl rfl ![64, 0] rfl (k0_pay143 (rwin (CT m c xf wq) 896)) (by simp only [k0_pay143, shapeCast_self]; rfl)) $$ HXP
  iintro HXP
  iapply (wp_row_load qpM (CT m c xf wq) 2048 1408 64 (by decide) (by decide) rfl) $$ HQP
  iintro HQP
  iapply (wp_dead_load xpM _ _) $$ HXP
  iintro %v786 HXP
  iapply (wp_fill xpM (gath (CT m c xf wq) 24) (fun j => rwin (CT m c xf wq) (go (24 + j))) rfl 2 128 192 (by decide) rfl rfl ![128, 0] rfl (k0_pay144 (rwin (CT m c xf wq) 1408)) (by simp only [k0_pay144, shapeCast_self]; rfl)) $$ HXP
  iintro HXP
  iapply (wp_row_load qpM (CT m c xf wq) 2048 1920 64 (by decide) (by decide) rfl) $$ HQP
  iintro HQP
  iapply (wp_dead_load xpM _ _) $$ HXP
  iintro %v790 HXP
  iapply (wp_fill xpM (gath (CT m c xf wq) 24) (fun j => rwin (CT m c xf wq) (go (24 + j))) rfl 3 192 256 (by decide) rfl rfl ![192, 0] rfl (k0_pay145 (rwin (CT m c xf wq) 1920)) (by simp only [k0_pay145, shapeCast_self]; rfl)) $$ HXP
  iintro HXP
  iapply (wp_row_load qpM (CT m c xf wq) 2048 448 64 (by decide) (by decide) rfl) $$ HQP
  iintro HQP
  iapply W_ret
  iapply Hk
  isplitl [HO]; · iexact HO
  isplitl [HR3]; · iexact HR3
  isplitl [HQP]; · iexact HQP
  isplitl [HXP]; · iexact HXP
  iexact HK3

theorem part29_ok (P : Dev nD → Vec F S2048x1024 .bf16) (m : (ℓ : Loc nD τ sig) → Buf (Elt F) ℓ) (xf : Vec F S1x2048x1024 .f32) (wq : Vec F S1024x1024 .f32) (wo : Vec F S1024x1024 .f32) (ob : Vec F S2048x1024 .bf16) (hP : P c = P0 (CT m c xf wq) wo) (v2 : BitVec 32) {Q : (Σ' (c4_i32_663 : BitVec 32) (v813 : BitVec 32), BitVec 1) → sProp 𝕄} :
    iprop(scr xpM c (gath (CT m c xf wq) 24) 256 ∗ scr qpM c (CT m c xf wq) 2048 ∗ oPts c 1536 512 ob)
      ⊢ iprop((∀ c4_i32_663 : BitVec 32, ∀ v813 : BitVec 32, ∀ v824 : BitVec 1, scr xpM c (gath (CT m c xf wq) 24) 512 ∗ scr qpM c (CT m c xf wq) 2048 ∗ oPts c 1536 512 (P c) -∗ Q ⟨c4_i32_663, v813, v824⟩)
          -∗ W c (k0_part29 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 v2 (k0_pay115 wo) (rwin (CT m c xf wq) 448)) Q) := by
  simp only [k0_part29_eq_skeleton]
  unfold k0_part29_skel
  simp only [semSignalWord, semWaitWord, Prog.lift, Prog.bind_op, Prog.bind_ret, Prog.pure_eq_ret, wp_deviceId]
  iintro ⟨HXP, HQP, HOB2⟩ Hk
  iapply (wp_dead_load xpM _ _) $$ HXP
  iintro %v794 HXP
  iapply (wp_fill xpM (gath (CT m c xf wq) 24) (fun j => rwin (CT m c xf wq) (go (24 + j))) rfl 4 256 320 (by decide) rfl rfl ![256, 0] rfl (k0_pay146 (rwin (CT m c xf wq) 448)) (by simp only [k0_pay146, shapeCast_self]; rfl)) $$ HXP
  iintro HXP
  iapply (wp_row_load qpM (CT m c xf wq) 2048 960 64 (by decide) (by decide) rfl) $$ HQP
  iintro HQP
  iapply (wp_dead_load xpM _ _) $$ HXP
  iintro %v798 HXP
  iapply (wp_fill xpM (gath (CT m c xf wq) 24) (fun j => rwin (CT m c xf wq) (go (24 + j))) rfl 5 320 384 (by decide) rfl rfl ![320, 0] rfl (k0_pay147 (rwin (CT m c xf wq) 960)) (by simp only [k0_pay147, shapeCast_self]; rfl)) $$ HXP
  iintro HXP
  iapply (wp_row_load qpM (CT m c xf wq) 2048 1472 64 (by decide) (by decide) rfl) $$ HQP
  iintro HQP
  iapply (wp_dead_load xpM _ _) $$ HXP
  iintro %v802 HXP
  iapply (wp_fill xpM (gath (CT m c xf wq) 24) (fun j => rwin (CT m c xf wq) (go (24 + j))) rfl 6 384 448 (by decide) rfl rfl ![384, 0] rfl (k0_pay148 (rwin (CT m c xf wq) 1472)) (by simp only [k0_pay148, shapeCast_self]; rfl)) $$ HXP
  iintro HXP
  iapply (wp_row_load qpM (CT m c xf wq) 2048 1984 64 (by decide) (by decide) rfl) $$ HQP
  iintro HQP
  iapply (wp_dead_load xpM _ _) $$ HXP
  iintro %v806 HXP
  iapply (wp_fill xpM (gath (CT m c xf wq) 24) (fun j => rwin (CT m c xf wq) (go (24 + j))) rfl 7 448 512 (by decide) rfl rfl ![448, 0] rfl (k0_pay149 (rwin (CT m c xf wq) 1984)) (by simp only [k0_pay149, shapeCast_self]; rfl)) $$ HXP
  iintro HXP
  iapply (wp_row_load xpM (gath (CT m c xf wq) 24) 512 0 512 (by decide) (by decide) rfl) $$ HXP
  iintro HXP
  iapply (wp_o_load 1536 512 ob rfl) $$ HOB2
  iintro HOB2
  iapply (wp_o_store 1536 512 ob (P c) rfl (fun y => by rw [hP]; exact P0_c _ _ y)) $$ HOB2
  iintro HOB2
  iapply W_ret
  iapply Hk
  isplitl [HXP]; · iexact HXP
  isplitl [HQP]; · iexact HQP
  iexact HOB2

end Cert.Proto

end
-- ==== Proof.PartsE.lean ====
/-
# The reduction

Parts 30 to 36 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part30_ok (P : Dev nD → Vec F S2048x1024 .bf16) (m : (ℓ : Loc nD τ sig) → Buf (Elt F) ℓ) (v2 : BitVec 32) (v684 : BitVec 32) (v688 : BitVec 32) (c4_i32_663 : BitVec 32) (v813 : BitVec 32) (v824 : BitVec 1) {Q : (Σ' (v829 : BitVec 32) (v833 : BitVec 32) (v850 : BitVec 32), Vec F S384x1024 .bf16) → sProp 𝕄} :
    iprop(std P m ∗ oPts c 1536 512 (P c) ∗ oweN c 5 ∗ R0 6 c ∗ rbAny 6 (par 6 c) ∗ R1 0 c ∗ oPts c (kOff 0 c) (hs 0) (acc P ((0 : Fin 9).val % 3) c))
      ⊢ iprop((∀ v829 : BitVec 32, ∀ v833 : BitVec 32, ∀ v850 : BitVec 32, oweN c 6 ∗ R1 6 c ∗ R3 0 c ∗ oPts c (kOff 0 c) (hs 0) (acc P ((0 : Fin 9).val % 3) c) ∗ oPts c (kOff 6 c) (hs 6) (acc P ((6 : Fin 9).val % 3) c) ∗ rbAt 0 c (landed P 0 c) ∗ oPts (par 0 c) (kOff 0 c) (hs 0) (acc P ((0 : Fin 9).val % 3) (par 0 c)) -∗ Q ⟨v829, v833, v850, (rwin (acc P ((0 : Fin 9).val % 3) c) (kOff 0 c))⟩)
          -∗ W c (k0_part30 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v684 v688 c4_i32_663 v813 v824) Q) := by
  simp only [k0_part30_eq_skeleton]
  unfold k0_part30_skel
  simp only [semSignalWord, semWaitWord, Prog.lift, Prog.bind_op, Prog.bind_ret, Prog.pure_eq_ret, wp_deviceId]
  iintro ⟨#Hstd, HOB2, HO, HR6, HL6, HR0, HK0⟩ Hk
  ihave HH := (show (oPts c 1536 512 (P c) : sProp 𝕄) ⊢ _ from oPts_first P 6 (by decide)) $$ HOB2
  icases HH with ⟨HK6, HS6⟩
  iapply (rs_send P m 6 5 rfl (e := ⟨k0_dev6 c, k0_dev6_lt c⟩) (dev6 c) (off := k0_off5 c) (off5 c)) $$ [HO HR6 HL6 HS6]
  · isplitr; · iexact Hstd
    isplitl [HO]; · iexact HO
    isplitl [HR6]; · iexact HR6
    isplitl [HL6]; · iexact HL6
    iexact HS6
  iintro ⟨HO, HR6⟩
  iapply (rs_wait P m 0 6 (by decide) (by exact rfl)) $$ [HO HR0]
  · isplitr; · iexact Hstd
    isplitl [HO]; · iexact HO
    iexact HR0
  iintro ⟨HO, HR0⟩
  iapply (rs_recv P m 0 6 (by decide) (by exact rfl)) $$ [HO HR0]
  · isplitr; · iexact Hstd
    isplitl [HO]; · iexact HO
    iexact HR0
  iintro ⟨HO, HR0, HL0, HP0⟩
  iapply (wp_o_load (kOff 0 c) (hs 0) (acc P ((0 : Fin 9).val % 3) c) (off := k0_off6 c) (off6 c)) $$ HK0
  iintro HK0
  iapply W_ret
  iapply Hk
  isplitl [HO]; · iexact HO
  isplitl [HR6]; · iexact HR6
  isplitl [HR0]; · iexact HR0
  isplitl [HK0]; · iexact HK0
  isplitl [HK6]; · iexact HK6
  isplitl [HL0]; · iexact HL0
  iexact HP0

theorem part31_ok (P : Dev nD → Vec F S2048x1024 .bf16) (m : (ℓ : Loc nD τ sig) → Buf (Elt F) ℓ) (v765 : BitVec 32) (v769 : BitVec 32) (v850 : BitVec 32) {Q : (BitVec 32) → sProp 𝕄} :
    iprop(std P m ∗ rbAt 0 c (landed P 0 c) ∗ oPts c (kOff 0 c) (hs 0) (acc P ((0 : Fin 9).val % 3) c) ∗ oweN c 6 ∗ R1 3 c ∗ oPts c (kOff 3 c) (hs 3) (acc P ((3 : Fin 9).val % 3) c))
      ⊢ iprop((∀ v870 : BitVec 32, rbAt 0 c (landed P 0 c) ∗ oPts c (kOff 0 c) (hs 0) (acc P ((0 : Fin 9).val % 3 + 1) c) ∗ oweN c 6 ∗ R3 3 c ∗ oPts c (kOff 3 c) (hs 3) (acc P ((3 : Fin 9).val % 3 + 1) c) ∗ rbAt 3 c (landed P 3 c) ∗ oPts (par 3 c) (kOff 3 c) (hs 3) (acc P ((3 : Fin 9).val % 3) (par 3 c)) -∗ Q v870)
          -∗ W c (k0_part31 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v765 v769 v850 (rwin (acc P ((0 : Fin 9).val % 3) c) (kOff 0 c))) Q) := by
  simp only [k0_part31_eq_skeleton]
  unfold k0_part31_skel
  simp only [semSignalWord, semWaitWord, Prog.lift, Prog.bind_op, Prog.bind_ret, Prog.pure_eq_ret, wp_deviceId]
  iintro ⟨#Hstd, HL0, HK0, HO, HR3, HK3⟩ Hk
  iapply (wp_rb_load 0 (landed P 0 c) rfl) $$ HL0
  iintro HL0
  iapply (wp_o_load (kOff 0 c) (hs 0) (acc P ((0 : Fin 9).val % 3) c) (off := k0_off6 c) (off6 c)) $$ HK0
  iintro HK0
  iapply (wp_o_store (kOff 0 c) (hs 0) (acc P ((0 : Fin 9).val % 3) c) (acc P ((0 : Fin 9).val % 3 + 1) c) (off := k0_off6 c) (off6 c) (acc_store P 0 _ (by simp only [k0_pay151, shapeCast_self]))) $$ HK0
  iintro HK0
  iapply (rs_wait P m 3 6 (by decide) (by exact rfl)) $$ [HO HR3]
  · isplitr; · iexact Hstd
    isplitl [HO]; · iexact HO
    iexact HR3
  iintro ⟨HO, HR3⟩
  iapply (rs_recv P m 3 6 (by decide) (by exact rfl)) $$ [HO HR3]
  · isplitr; · iexact Hstd
    isplitl [HO]; · iexact HO
    iexact HR3
  iintro ⟨HO, HR3, HL3, HP3⟩
  iapply (wp_o_load (kOff 3 c) (hs 3) (acc P ((3 : Fin 9).val % 3) c) (off := k0_off7 c) (off7 c)) $$ HK3
  iintro HK3
  iapply (wp_rb_load 3 (landed P 3 c) rfl) $$ HL3
  iintro HL3
  iapply (wp_o_load (kOff 3 c) (hs 3) (acc P ((3 : Fin 9).val % 3) c) (off := k0_off7 c) (off7 c)) $$ HK3
  iintro HK3
  iapply (wp_o_store (kOff 3 c) (hs 3) (acc P ((3 : Fin 9).val % 3) c) (acc P ((3 : Fin 9).val % 3 + 1) c) (off := k0_off7 c) (off7 c) (acc_store P 3 _ (by simp only [k0_pay152, shapeCast_self]))) $$ HK3
  iintro HK3
  iapply W_ret
  iapply Hk
  isplitl [HL0]; · iexact HL0
  isplitl [HK0]; · iexact HK0
  isplitl [HO]; · iexact HO
  isplitl [HR3]; · iexact HR3
  isplitl [HK3]; · iexact HK3
  isplitl [HL3]; · iexact HL3
  iexact HP3

theorem part32_ok (P : Dev nD → Vec F S2048x1024 .bf16) (m : (ℓ : Loc nD τ sig) → Buf (Elt F) ℓ) (v2 : BitVec 32) (v829 : BitVec 32) (v833 : BitVec 32) {Q : (Σ' (v890 : BitVec 32), BitVec 32) → sProp 𝕄} :
    iprop(std P m ∗ oweN c 6 ∗ R1 6 c ∗ oPts c (kOff 6 c) (hs 6) (acc P ((6 : Fin 9).val % 3) c))
      ⊢ iprop((∀ v890 : BitVec 32, ∀ v917 : BitVec 32, oweN c 6 ∗ R3 6 c ∗ oPts c (kOff 6 c) (hs 6) (acc P ((6 : Fin 9).val % 3 + 1) c) ∗ rbAt 6 c (landed P 6 c) ∗ oPts (par 6 c) (kOff 6 c) (hs 6) (acc P ((6 : Fin 9).val % 3) (par 6 c)) -∗ Q ⟨v890, v917⟩)
          -∗ W c (k0_part32 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v829 v833) Q) := by
  simp only [k0_part32_eq_skeleton]
  unfold k0_part32_skel
  simp only [semSignalWord, semWaitWord, Prog.lift, Prog.bind_op, Prog.bind_ret, Prog.pure_eq_ret, wp_deviceId]
  iintro ⟨#Hstd, HO, HR6, HK6⟩ Hk
  iapply (rs_wait P m 6 6 (by decide) (by exact rfl)) $$ [HO HR6]
  · isplitr; · iexact Hstd
    isplitl [HO]; · iexact HO
    iexact HR6
  iintro ⟨HO, HR6⟩
  iapply (rs_recv P m 6 6 (by decide) (by exact rfl)) $$ [HO HR6]
  · isplitr; · iexact Hstd
    isplitl [HO]; · iexact HO
    iexact HR6
  iintro ⟨HO, HR6, HL6, HP6⟩
  iapply (wp_o_load (kOff 6 c) (hs 6) (acc P ((6 : Fin 9).val % 3) c) (off := k0_off8 c) (off8 c)) $$ HK6
  iintro HK6
  iapply (wp_rb_load 6 (landed P 6 c) rfl) $$ HL6
  iintro HL6
  iapply (wp_o_load (kOff 6 c) (hs 6) (acc P ((6 : Fin 9).val % 3) c) (off := k0_off8 c) (off8 c)) $$ HK6
  iintro HK6
  iapply (wp_o_store (kOff 6 c) (hs 6) (acc P ((6 : Fin 9).val % 3) c) (acc P ((6 : Fin 9).val % 3 + 1) c) (off := k0_off8 c) (off8 c) (acc_store P 6 _ (by simp only [k0_pay153, shapeCast_self]))) $$ HK6
  iintro HK6
  iapply W_ret
  iapply Hk
  isplitl [HO]; · iexact HO
  isplitl [HR6]; · iexact HR6
  isplitl [HK6]; · iexact HK6
  isplitl [HL6]; · iexact HL6
  iexact HP6

theorem part33_ok (P : Dev nD → Vec F S2048x1024 .bf16) (m : (ℓ : Loc nD τ sig) → Buf (Elt F) ℓ) (v2 : BitVec 32) (v850 : BitVec 32) (v870 : BitVec 32) (v917 : BitVec 32) {Q : (Σ' (v918 : BitVec 32) (v919 : BitVec 32) (v946 : BitVec 32) (v947 : BitVec 32), BitVec 32) → sProp 𝕄} :
    iprop(std P m ∗ oPts c (kOff 0 c) (hs 0) (acc P ((0 : Fin 9).val % 3 + 1) c) ∗ oweN c 6 ∗ R0 1 c ∗ rbAny 1 (par 1 c))
      ⊢ iprop((∀ v918 : BitVec 32, ∀ v919 : BitVec 32, ∀ v946 : BitVec 32, ∀ v947 : BitVec 32, ∀ c1_i32_767 : BitVec 32, oweN c 7 ∗ R1 1 c ∗ oPts c (kOff 1 c) (hs 1) (acc P ((1 : Fin 9).val % 3) c) -∗ Q ⟨v918, v919, v946, v947, c1_i32_767⟩)
          -∗ W c (k0_part33 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v850 v870 v917) Q) := by
  simp only [k0_part33_eq_skeleton]
  unfold k0_part33_skel
  simp only [semSignalWord, semWaitWord, Prog.lift, Prog.bind_op, Prog.bind_ret, Prog.pure_eq_ret, wp_deviceId]
  iintro ⟨#Hstd, HK0, HO, HR1, HL1⟩ Hk
  ihave HH := (oPts_next P 0 1 (by decide) (by decide)) $$ HK0
  icases HH with ⟨HK1, HS1⟩
  iapply (rs_send P m 1 6 rfl (e := ⟨k0_dev7 c, k0_dev7_lt c⟩) (dev7 c) (off := k0_off9 c) (off9 c)) $$ [HO HR1 HL1 HS1]
  · isplitr; · iexact Hstd
    isplitl [HO]; · iexact HO
    isplitl [HR1]; · iexact HR1
    isplitl [HL1]; · iexact HL1
    iexact HS1
  iintro ⟨HO, HR1⟩
  iapply W_ret
  iapply Hk
  isplitl [HO]; · iexact HO
  isplitl [HR1]; · iexact HR1
  iexact HK1

theorem part34_ok (P : Dev nD → Vec F S2048x1024 .bf16) (m : (ℓ : Loc nD τ sig) → Buf (Elt F) ℓ) (v2 : BitVec 32) (v890 : BitVec 32) (v947 : BitVec 32) (c1_i32_767 : BitVec 32) {Q : (Σ' (v978 : BitVec 32), BitVec 32) → sProp 𝕄} :
    iprop(std P m ∗ oPts c (kOff 3 c) (hs 3) (acc P ((3 : Fin 9).val % 3 + 1) c) ∗ oweN c 7 ∗ R0 4 c ∗ rbAny 4 (par 4 c))
      ⊢ iprop((∀ v978 : BitVec 32, ∀ v979 : BitVec 32, oweN c 8 ∗ R1 4 c ∗ oPts c (kOff 4 c) (hs 4) (acc P ((4 : Fin 9).val % 3) c) -∗ Q ⟨v978, v979⟩)
          -∗ W c (k0_part34 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v890 v947 c1_i32_767) Q) := by
  simp only [k0_part34_eq_skeleton]
  unfold k0_part34_skel
  simp only [semSignalWord, semWaitWord, Prog.lift, Prog.bind_op, Prog.bind_ret, Prog.pure_eq_ret, wp_deviceId]
  iintro ⟨#Hstd, HK3, HO, HR4, HL4⟩ Hk
  ihave HH := (oPts_next P 3 4 (by decide) (by decide)) $$ HK3
  icases HH with ⟨HK4, HS4⟩
  iapply (rs_send P m 4 7 rfl (e := ⟨k0_dev8 c, k0_dev8_lt c⟩) (dev8 c) (off := k0_off10 c) (off10 c)) $$ [HO HR4 HL4 HS4]
  · isplitr; · iexact Hstd
    isplitl [HO]; · iexact HO
    isplitl [HR4]; · iexact HR4
    isplitl [HL4]; · iexact HL4
    iexact HS4
  iintro ⟨HO, HR4⟩
  iapply W_ret
  iapply Hk
  isplitl [HO]; · iexact HO
  isplitl [HR4]; · iexact HR4
  iexact HK4

theorem part35_ok (P : Dev nD → Vec F S2048x1024 .bf16) (m : (ℓ : Loc nD τ sig) → Buf (Elt F) ℓ) (v850 : BitVec 32) (v918 : BitVec 32) (v919 : BitVec 32) (v947 : BitVec 32) {Q : (Σ' (v999 : BitVec 32), BitVec 32) → sProp 𝕄} :
    iprop(std P m ∗ oPts c (kOff 6 c) (hs 6) (acc P ((6 : Fin 9).val % 3 + 1) c) ∗ oweN c 8 ∗ R0 7 c ∗ rbAny 7 (par 7 c) ∗ R1 1 c ∗ oPts c (kOff 1 c) (hs 1) (acc P ((1 : Fin 9).val % 3) c) ∗ R1 4 c)
      ⊢ iprop((∀ v999 : BitVec 32, ∀ v1013 : BitVec 32, oweN c 9 ∗ R1 7 c ∗ R3 1 c ∗ oPts c (kOff 1 c) (hs 1) (acc P ((1 : Fin 9).val % 3 + 1) c) ∗ R2 4 c ∗ oPts c (kOff 7 c) (hs 7) (acc P ((7 : Fin 9).val % 3) c) ∗ rbAt 1 c (landed P 1 c) ∗ oPts (par 1 c) (kOff 1 c) (hs 1) (acc P ((1 : Fin 9).val % 3) (par 1 c)) -∗ Q ⟨v999, v1013⟩)
          -∗ W c (k0_part35 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v850 v918 v919 v947) Q) := by
  simp only [k0_part35_eq_skeleton]
  unfold k0_part35_skel
  simp only [semSignalWord, semWaitWord, Prog.lift, Prog.bind_op, Prog.bind_ret, Prog.pure_eq_ret, wp_deviceId]
  iintro ⟨#Hstd, HK6, HO, HR7, HL7, HR1, HK1, HR4⟩ Hk
  ihave HH := (oPts_next P 6 7 (by decide) (by decide)) $$ HK6
  icases HH with ⟨HK7, HS7⟩
  iapply (rs_send P m 7 8 rfl (e := ⟨k0_dev9 c, k0_dev9_lt c⟩) (dev9 c) (off := k0_off11 c) (off11 c)) $$ [HO HR7 HL7 HS7]
  · isplitr; · iexact Hstd
    isplitl [HO]; · iexact HO
    isplitl [HR7]; · iexact HR7
    isplitl [HL7]; · iexact HL7
    iexact HS7
  iintro ⟨HO, HR7⟩
  iapply (rs_wait P m 1 9 (by decide) (by exact rfl)) $$ [HO HR1]
  · isplitr; · iexact Hstd
    isplitl [HO]; · iexact HO
    iexact HR1
  iintro ⟨HO, HR1⟩
  iapply (rs_recv P m 1 9 (by decide) (by exact rfl)) $$ [HO HR1]
  · isplitr; · iexact Hstd
    isplitl [HO]; · iexact HO
    iexact HR1
  iintro ⟨HO, HR1, HL1, HP1⟩
  iapply (wp_o_load (kOff 1 c) (hs 1) (acc P ((1 : Fin 9).val % 3) c) (off := k0_off12 c) (off12 c)) $$ HK1
  iintro HK1
  iapply (wp_rb_load 1 (landed P 1 c) rfl) $$ HL1
  iintro HL1
  iapply (wp_o_load (kOff 1 c) (hs 1) (acc P ((1 : Fin 9).val % 3) c) (off := k0_off12 c) (off12 c)) $$ HK1
  iintro HK1
  iapply (wp_o_store (kOff 1 c) (hs 1) (acc P ((1 : Fin 9).val % 3) c) (acc P ((1 : Fin 9).val % 3 + 1) c) (off := k0_off12 c) (off12 c) (acc_store P 1 _ (by simp only [k0_pay154, shapeCast_self]))) $$ HK1
  iintro HK1
  iapply (rs_wait P m 4 9 (by decide) (by exact rfl)) $$ [HO HR4]
  · isplitr; · iexact Hstd
    isplitl [HO]; · iexact HO
    iexact HR4
  iintro ⟨HO, HR4⟩
  iapply W_ret
  iapply Hk
  isplitl [HO]; · iexact HO
  isplitl [HR7]; · iexact HR7
  isplitl [HR1]; · iexact HR1
  isplitl [HK1]; · iexact HK1
  isplitl [HR4]; · iexact HR4
  isplitl [HK7]; · iexact HK7
  isplitl [HL1]; · iexact HL1
  iexact HP1

theorem part36_ok (P : Dev nD → Vec F S2048x1024 .bf16) (m : (ℓ : Loc nD τ sig) → Buf (Elt F) ℓ) (v870 : BitVec 32) (v890 : BitVec 32) (v946 : BitVec 32) (v978 : BitVec 32) (v979 : BitVec 32) (v1013 : BitVec 32) {Q : (Σ' (v1019 : BitVec 32) (v1039 : BitVec 32) (v1043 : FVec F S128x1024 .f32), FVec F S128x1024 .f32) → sProp 𝕄} :
    iprop(std P m ∗ oweN c 9 ∗ R2 4 c ∗ oPts c (kOff 4 c) (hs 4) (acc P ((4 : Fin 9).val % 3) c) ∗ R1 7 c ∗ oPts c (kOff 7 c) (hs 7) (acc P ((7 : Fin 9).val % 3) c))
      ⊢ iprop((∀ v1019 : BitVec 32, ∀ v1039 : BitVec 32, oweN c 9 ∗ R3 4 c ∗ oPts c (kOff 4 c) (hs 4) (acc P ((4 : Fin 9).val % 3 + 1) c) ∗ R3 7 c ∗ oPts c (kOff 7 c) (hs 7) (acc P ((7 : Fin 9).val % 3) c) ∗ rbAt 4 c (landed P 4 c) ∗ oPts (par 4 c) (kOff 4 c) (hs 4) (acc P ((4 : Fin 9).val % 3) (par 4 c)) ∗ rbAt 7 c (landed P 7 c) ∗ oPts (par 7 c) (kOff 7 c) (hs 7) (acc P ((7 : Fin 9).val % 3) (par 7 c)) -∗ Q ⟨v1019, v1039, (k0_pay156 (rwin (acc P ((7 : Fin 9).val % 3) c) (kOff 7 c))), (k0_pay157 (landed P 7 c))⟩)
          -∗ W c (k0_part36 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v870 v890 v946 v978 v979 v1013) Q) := by
  simp only [k0_part36_eq_skeleton]
  unfold k0_part36_skel
  simp only [semSignalWord, semWaitWord, Prog.lift, Prog.bind_op, Prog.bind_ret, Prog.pure_eq_ret, wp_deviceId]
  iintro ⟨#Hstd, HO, HR4, HK4, HR7, HK7⟩ Hk
  iapply (rs_recv P m 4 9 (by decide) (by exact rfl)) $$ [HO HR4]
  · isplitr; · iexact Hstd
    isplitl [HO]; · iexact HO
    iexact HR4
  iintro ⟨HO, HR4, HL4, HP4⟩
  iapply (wp_o_load (kOff 4 c) (hs 4) (acc P ((4 : Fin 9).val % 3) c) (off := k0_off13 c) (off13 c)) $$ HK4
  iintro HK4
  iapply (wp_rb_load 4 (landed P 4 c) rfl) $$ HL4
  iintro HL4
  iapply (wp_o_load (kOff 4 c) (hs 4) (acc P ((4 : Fin 9).val % 3) c) (off := k0_off13 c) (off13 c)) $$ HK4
  iintro HK4
  iapply (wp_o_store (kOff 4 c) (hs 4) (acc P ((4 : Fin 9).val % 3) c) (acc P ((4 : Fin 9).val % 3 + 1) c) (off := k0_off13 c) (off13 c) (acc_store P 4 _ (by simp only [k0_pay155, shapeCast_self]))) $$ HK4
  iintro HK4
  iapply (rs_wait P m 7 9 (by decide) (by exact rfl)) $$ [HO HR7]
  · isplitr; · iexact Hstd
    isplitl [HO]; · iexact HO
    iexact HR7
  iintro ⟨HO, HR7⟩
  iapply (rs_recv P m 7 9 (by decide) (by exact rfl)) $$ [HO HR7]
  · isplitr; · iexact Hstd
    isplitl [HO]; · iexact HO
    iexact HR7
  iintro ⟨HO, HR7, HL7, HP7⟩
  iapply (wp_o_load (kOff 7 c) (hs 7) (acc P ((7 : Fin 9).val % 3) c) (off := k0_off14 c) (off14 c)) $$ HK7
  iintro HK7
  iapply (wp_rb_load 7 (landed P 7 c) rfl) $$ HL7
  iintro HL7
  iapply W_ret
  iapply Hk
  isplitl [HO]; · iexact HO
  isplitl [HR4]; · iexact HR4
  isplitl [HK4]; · iexact HK4
  isplitl [HR7]; · iexact HR7
  isplitl [HK7]; · iexact HK7
  isplitl [HL4]; · iexact HL4
  isplitl [HP4]; · iexact HP4
  isplitl [HL7]; · iexact HL7
  iexact HP7

end Cert.Proto

end
-- ==== Proof.PartsF.lean ====
/-
# The reduction, to its end

Parts 37 to 43 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part37_ok (P : Dev nD → Vec F S2048x1024 .bf16) (m : (ℓ : Loc nD τ sig) → Buf (Elt F) ℓ) (v2 : BitVec 32) (v999 : BitVec 32) (v1039 : BitVec 32) {Q : (Σ' (v1066 : BitVec 32) (v1067 : BitVec 32) (v1078 : BitVec 32) (c2_i32_860 : BitVec 32) (v1079 : BitVec 32) (v1081 : BitVec 32), BitVec 32) → sProp 𝕄} :
    iprop(std P m ∗ oPts c (kOff 7 c) (hs 7) (acc P ((7 : Fin 9).val % 3) c) ∗ oPts c (kOff 1 c) (hs 1) (acc P ((1 : Fin 9).val % 3 + 1) c) ∗ oweN c 9 ∗ R0 2 c ∗ rbAny 2 (par 2 c))
      ⊢ iprop((∀ v1066 : BitVec 32, ∀ v1067 : BitVec 32, ∀ v1078 : BitVec 32, ∀ c2_i32_860 : BitVec 32, ∀ v1079 : BitVec 32, ∀ v1081 : BitVec 32, ∀ c0_i32_862 : BitVec 32, oPts c (kOff 7 c) (hs 7) (acc P ((7 : Fin 9).val % 3 + 1) c) ∗ oweN c 10 ∗ R1 2 c ∗ oPts c (kOff 2 c) (hs 2) (acc P ((2 : Fin 9).val % 3) c) -∗ Q ⟨v1066, v1067, v1078, c2_i32_860, v1079, v1081, c0_i32_862⟩)
          -∗ W c (k0_part37 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v999 v1039 (k0_pay156 (rwin (acc P ((7 : Fin 9).val % 3) c) (kOff 7 c))) (k0_pay157 (landed P 7 c))) Q) := by
  simp only [k0_part37_eq_skeleton]
  unfold k0_part37_skel
  simp only [semSignalWord, semWaitWord, Prog.lift, Prog.bind_op, Prog.bind_ret, Prog.pure_eq_ret, wp_deviceId]
  iintro ⟨#Hstd, HK7, HK1, HO, HR2, HL2⟩ Hk
  iapply (wp_o_load (kOff 7 c) (hs 7) (acc P ((7 : Fin 9).val % 3) c) (off := k0_off14 c) (off14 c)) $$ HK7
  iintro HK7
  iapply (wp_o_store (kOff 7 c) (hs 7) (acc P ((7 : Fin 9).val % 3) c) (acc P ((7 : Fin 9).val % 3 + 1) c) (off := k0_off14 c) (off14 c) (acc_store P 7 _ (by simp only [k0_pay156, k0_pay157, k0_pay158, shapeCast_self]))) $$ HK7
  iintro HK7
  ihave HH := (oPts_next P 1 2 (by decide) (by decide)) $$ HK1
  icases HH with ⟨HK2, HS2⟩
  iapply (rs_send P m 2 9 rfl (e := ⟨k0_dev10 c, k0_dev10_lt c⟩) (dev10 c) (off := k0_off15 c) (off15 c)) $$ [HO HR2 HL2 HS2]
  · isplitr; · iexact Hstd
    isplitl [HO]; · iexact HO
    isplitl [HR2]; · iexact HR2
    isplitl [HL2]; · iexact HL2
    iexact HS2
  iintro ⟨HO, HR2⟩
  iapply W_ret
  iapply Hk
  isplitl [HK7]; · iexact HK7
  isplitl [HO]; · iexact HO
  isplitl [HR2]; · iexact HR2
  iexact HK2

theorem part38_ok (P : Dev nD → Vec F S2048x1024 .bf16) (m : (ℓ : Loc nD τ sig) → Buf (Elt F) ℓ) (v2 : BitVec 32) (v1019 : BitVec 32) (v1078 : BitVec 32) (c2_i32_860 : BitVec 32) (v1079 : BitVec 32) (v1081 : BitVec 32) (c0_i32_862 : BitVec 32) {Q : (Σ' (v1098 : BitVec 32) (v1099 : BitVec 32) (c2_i32_879 : BitVec 32) (v1110 : BitVec 32) (v1115 : BitVec 32) (v1117 : BitVec 32), BitVec 32) → sProp 𝕄} :
    iprop(std P m ∗ oPts c (kOff 4 c) (hs 4) (acc P ((4 : Fin 9).val % 3 + 1) c) ∗ oweN c 10 ∗ R0 5 c ∗ rbAny 5 (par 5 c))
      ⊢ iprop((∀ v1098 : BitVec 32, ∀ v1099 : BitVec 32, ∀ c2_i32_879 : BitVec 32, ∀ v1110 : BitVec 32, ∀ v1115 : BitVec 32, ∀ v1117 : BitVec 32, ∀ v1119 : BitVec 32, oweN c 11 ∗ R1 5 c ∗ oPts c (kOff 5 c) (hs 5) (acc P ((5 : Fin 9).val % 3) c) -∗ Q ⟨v1098, v1099, c2_i32_879, v1110, v1115, v1117, v1119⟩)
          -∗ W c (k0_part38 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v1019 v1078 c2_i32_860 v1079 v1081 c0_i32_862) Q) := by
  simp only [k0_part38_eq_skeleton]
  unfold k0_part38_skel
  simp only [semSignalWord, semWaitWord, Prog.lift, Prog.bind_op, Prog.bind_ret, Prog.pure_eq_ret, wp_deviceId]
  iintro ⟨#Hstd, HK4, HO, HR5, HL5⟩ Hk
  ihave HH := (oPts_next P 4 5 (by decide) (by decide)) $$ HK4
  icases HH with ⟨HK5, HS5⟩
  iapply (rs_send P m 5 10 rfl (e := ⟨k0_dev11 c, k0_dev11_lt c⟩) (dev11 c) (off := k0_off16 c) (off16 c)) $$ [HO HR5 HL5 HS5]
  · isplitr; · iexact Hstd
    isplitl [HO]; · iexact HO
    isplitl [HR5]; · iexact HR5
    isplitl [HL5]; · iexact HL5
    iexact HS5
  iintro ⟨HO, HR5⟩
  iapply W_ret
  iapply Hk
  isplitl [HO]; · iexact HO
  isplitl [HR5]; · iexact HR5
  iexact HK5

theorem part39_ok (P : Dev nD → Vec F S2048x1024 .bf16) (m : (ℓ : Loc nD τ sig) → Buf (Elt F) ℓ) (v2 : BitVec 32) (v999 : BitVec 32) (v1039 : BitVec 32) (v1066 : BitVec 32) (v1067 : BitVec 32) (c2_i32_879 : BitVec 32) (v1110 : BitVec 32) (v1115 : BitVec 32) (v1117 : BitVec 32) (v1119 : BitVec 32) {Q : (Σ' (v1127 : BitVec 32) (v1128 : BitVec 32), BitVec 32) → sProp 𝕄} :
    iprop(std P m ∗ oPts c (kOff 7 c) (hs 7) (acc P ((7 : Fin 9).val % 3 + 1) c) ∗ oweN c 11 ∗ R0 8 c ∗ rbAny 8 (par 8 c) ∗ R1 2 c)
      ⊢ iprop((∀ v1127 : BitVec 32, ∀ v1128 : BitVec 32, ∀ v1148 : BitVec 32, oweN c 12 ∗ R1 8 c ∗ R3 2 c ∗ oPts c (kOff 8 c) (hs 8) (acc P ((8 : Fin 9).val % 3) c) ∗ rbAt 2 c (landed P 2 c) ∗ oPts (par 2 c) (kOff 2 c) (hs 2) (acc P ((2 : Fin 9).val % 3) (par 2 c)) -∗ Q ⟨v1127, v1128, v1148⟩)
          -∗ W c (k0_part39 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v999 v1039 v1066 v1067 c2_i32_879 v1110 v1115 v1117 v1119) Q) := by
  simp only [k0_part39_eq_skeleton]
  unfold k0_part39_skel
  simp only [semSignalWord, semWaitWord, Prog.lift, Prog.bind_op, Prog.bind_ret, Prog.pure_eq_ret, wp_deviceId]
  iintro ⟨#Hstd, HK7, HO, HR8, HL8, HR2⟩ Hk
  ihave HH := (oPts_next P 7 8 (by decide) (by decide)) $$ HK7
  icases HH with ⟨HK8, HS8⟩
  iapply (rs_send P m 8 11 rfl (e := ⟨k0_dev12 c, k0_dev12_lt c⟩) (dev12 c) (off := k0_off17 c) (off17 c)) $$ [HO HR8 HL8 HS8]
  · isplitr; · iexact Hstd
    isplitl [HO]; · iexact HO
    isplitl [HR8]; · iexact HR8
    isplitl [HL8]; · iexact HL8
    iexact HS8
  iintro ⟨HO, HR8⟩
  iapply (rs_wait P m 2 12 (by decide) (by exact rfl)) $$ [HO HR2]
  · isplitr; · iexact Hstd
    isplitl [HO]; · iexact HO
    iexact HR2
  iintro ⟨HO, HR2⟩
  iapply (rs_recv P m 2 12 (by decide) (by exact rfl)) $$ [HO HR2]
  · isplitr; · iexact Hstd
    isplitl [HO]; · iexact HO
    iexact HR2
  iintro ⟨HO, HR2, HL2, HP2⟩
  iapply W_ret
  iapply Hk
  isplitl [HO]; · iexact HO
  isplitl [HR8]; · iexact HR8
  isplitl [HR2]; · iexact HR2
  isplitl [HK8]; · iexact HK8
  isplitl [HL2]; · iexact HL2
  iexact HP2

theorem part40_ok (P : Dev nD → Vec F S2048x1024 .bf16) (m : (ℓ : Loc nD τ sig) → Buf (Elt F) ℓ) (v1019 : BitVec 32) (v1098 : BitVec 32) (v1099 : BitVec 32) (v1148 : BitVec 32) {Q : (BitVec 32) → sProp 𝕄} :
    iprop(std P m ∗ oPts c (kOff 2 c) (hs 2) (acc P ((2 : Fin 9).val % 3) c) ∗ rbAt 2 c (landed P 2 c) ∗ oweN c 12 ∗ R1 5 c ∗ oPts c (kOff 5 c) (hs 5) (acc P ((5 : Fin 9).val % 3) c))
      ⊢ iprop((∀ v1168 : BitVec 32, oPts c (kOff 2 c) (hs 2) (res P) ∗ rbAt 2 c (landed P 2 c) ∗ oweN c 12 ∗ R3 5 c ∗ oPts c (kOff 5 c) (hs 5) (res P) ∗ rbAt 5 c (landed P 5 c) ∗ oPts (par 5 c) (kOff 5 c) (hs 5) (acc P ((5 : Fin 9).val % 3) (par 5 c)) -∗ Q v1168)
          -∗ W c (k0_part40 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v1019 v1098 v1099 v1148) Q) := by
  simp only [k0_part40_eq_skeleton]
  unfold k0_part40_skel
  simp only [semSignalWord, semWaitWord, Prog.lift, Prog.bind_op, Prog.bind_ret, Prog.pure_eq_ret, wp_deviceId]
  iintro ⟨#Hstd, HK2, HL2, HO, HR5, HK5⟩ Hk
  iapply (wp_o_load (kOff 2 c) (hs 2) (acc P ((2 : Fin 9).val % 3) c) (off := k0_off18 c) (off18 c)) $$ HK2
  iintro HK2
  iapply (wp_rb_load 2 (landed P 2 c) rfl) $$ HL2
  iintro HL2
  iapply (wp_o_load (kOff 2 c) (hs 2) (acc P ((2 : Fin 9).val % 3) c) (off := k0_off18 c) (off18 c)) $$ HK2
  iintro HK2
  iapply (wp_o_store (kOff 2 c) (hs 2) (acc P ((2 : Fin 9).val % 3) c) (acc P ((2 : Fin 9).val % 3 + 1) c) (off := k0_off18 c) (off18 c) (acc_store P 2 _ (by simp only [k0_pay159, shapeCast_self]))) $$ HK2
  iintro HK2
  ihave HK2 := (oPts_last P 2 (by decide)) $$ HK2
  iapply (rs_wait P m 5 12 (by decide) (by exact rfl)) $$ [HO HR5]
  · isplitr; · iexact Hstd
    isplitl [HO]; · iexact HO
    iexact HR5
  iintro ⟨HO, HR5⟩
  iapply (rs_recv P m 5 12 (by decide) (by exact rfl)) $$ [HO HR5]
  · isplitr; · iexact Hstd
    isplitl [HO]; · iexact HO
    iexact HR5
  iintro ⟨HO, HR5, HL5, HP5⟩
  iapply (wp_o_load (kOff 5 c) (hs 5) (acc P ((5 : Fin 9).val % 3) c) (off := k0_off19 c) (off19 c)) $$ HK5
  iintro HK5
  iapply (wp_rb_load 5 (landed P 5 c) rfl) $$ HL5
  iintro HL5
  iapply (wp_o_load (kOff 5 c) (hs 5) (acc P ((5 : Fin 9).val % 3) c) (off := k0_off19 c) (off19 c)) $$ HK5
  iintro HK5
  iapply (wp_o_store (kOff 5 c) (hs 5) (acc P ((5 : Fin 9).val % 3) c) (acc P ((5 : Fin 9).val % 3 + 1) c) (off := k0_off19 c) (off19 c) (acc_store P 5 _ (by simp only [k0_pay160, shapeCast_self]))) $$ HK5
  iintro HK5
  ihave HK5 := (oPts_last P 5 (by decide)) $$ HK5
  iapply W_ret
  iapply Hk
  isplitl [HK2]; · iexact HK2
  isplitl [HL2]; · iexact HL2
  isplitl [HO]; · iexact HO
  isplitl [HR5]; · iexact HR5
  isplitl [HK5]; · iexact HK5
  isplitl [HL5]; · iexact HL5
  iexact HP5

theorem part41_ok (P : Dev nD → Vec F S2048x1024 .bf16) (m : (ℓ : Loc nD τ sig) → Buf (Elt F) ℓ) (v2 : BitVec 32) (v1039 : BitVec 32) (v1127 : BitVec 32) (v1128 : BitVec 32) {Q : (Σ' (v1188 : BitVec 32), BitVec 32) → sProp 𝕄} :
    iprop(std P m ∗ oweN c 12 ∗ R1 8 c ∗ oPts c (kOff 8 c) (hs 8) (acc P ((8 : Fin 9).val % 3) c))
      ⊢ iprop((∀ v1188 : BitVec 32, ∀ v1215 : BitVec 32, oweN c 12 ∗ R3 8 c ∗ oPts c (kOff 8 c) (hs 8) (res P) ∗ rbAt 8 c (landed P 8 c) ∗ oPts (par 8 c) (kOff 8 c) (hs 8) (acc P ((8 : Fin 9).val % 3) (par 8 c)) -∗ Q ⟨v1188, v1215⟩)
          -∗ W c (k0_part41 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v1039 v1127 v1128) Q) := by
  simp only [k0_part41_eq_skeleton]
  unfold k0_part41_skel
  simp only [semSignalWord, semWaitWord, Prog.lift, Prog.bind_op, Prog.bind_ret, Prog.pure_eq_ret, wp_deviceId]
  iintro ⟨#Hstd, HO, HR8, HK8⟩ Hk
  iapply (rs_wait P m 8 12 (by decide) (by exact rfl)) $$ [HO HR8]
  · isplitr; · iexact Hstd
    isplitl [HO]; · iexact HO
    iexact HR8
  iintro ⟨HO, HR8⟩
  iapply (rs_recv P m 8 12 (by decide) (by exact rfl)) $$ [HO HR8]
  · isplitr; · iexact Hstd
    isplitl [HO]; · iexact HO
    iexact HR8
  iintro ⟨HO, HR8, HL8, HP8⟩
  iapply (wp_o_load (kOff 8 c) (hs 8) (acc P ((8 : Fin 9).val % 3) c) (off := k0_off20 c) (off20 c)) $$ HK8
  iintro HK8
  iapply (wp_rb_load 8 (landed P 8 c) rfl) $$ HL8
  iintro HL8
  iapply (wp_o_load (kOff 8 c) (hs 8) (acc P ((8 : Fin 9).val % 3) c) (off := k0_off20 c) (off20 c)) $$ HK8
  iintro HK8
  iapply (wp_o_store (kOff 8 c) (hs 8) (acc P ((8 : Fin 9).val % 3) c) (acc P ((8 : Fin 9).val % 3 + 1) c) (off := k0_off20 c) (off20 c) (acc_store P 8 _ (by simp only [k0_pay161, shapeCast_self]))) $$ HK8
  iintro HK8
  ihave HK8 := (oPts_last P 8 (by decide)) $$ HK8
  iapply W_ret
  iapply Hk
  isplitl [HO]; · iexact HO
  isplitl [HR8]; · iexact HR8
  isplitl [HK8]; · iexact HK8
  isplitl [HL8]; · iexact HL8
  iexact HP8

theorem part42_ok (P : Dev nD → Vec F S2048x1024 .bf16) (m : (ℓ : Loc nD τ sig) → Buf (Elt F) ℓ) (v2 : BitVec 32) {Q : (Σ' (v1216 : BitVec 32) (v1245 : BitVec 32), BitVec 32) → sProp 𝕄} :
    iprop(std P m ∗ oweN c 12 ∗ A0 2 c ∗ oPts c (kOff 2 c) (hs 2) (res P) ∗ oPts (par 2 c) (kOff 2 c) (hs 2) (acc P ((2 : Fin 9).val % 3) (par 2 c)))
      ⊢ iprop((∀ v1216 : BitVec 32, ∀ v1245 : BitVec 32, ∀ v1246 : BitVec 32, oweN c 13 ∗ A1 2 c -∗ Q ⟨v1216, v1245, v1246⟩)
          -∗ W c (k0_part42 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2) Q) := by
  simp only [k0_part42_eq_skeleton]
  unfold k0_part42_skel
  simp only [semSignalWord, semWaitWord, Prog.lift, Prog.bind_op, Prog.bind_ret, Prog.pure_eq_ret, wp_deviceId]
  iintro ⟨#Hstd, HO, HA2, HK2, HP2⟩ Hk
  iapply (ag_send P m 2 12 rfl (e := ⟨k0_dev13 c, k0_dev13_lt c⟩) (dev13 c) (off := k0_off21 c) (off21 c) (by exact rfl) (acc P ((2 : Fin 9).val % 3) (par 2 c))) $$ [HO HA2 HK2 HP2]
  · isplitr; · iexact Hstd
    isplitl [HO]; · iexact HO
    isplitl [HA2]; · iexact HA2
    isplitl [HK2]; · iexact HK2
    iexact HP2
  iintro ⟨HO, HA2⟩
  iapply W_ret
  iapply Hk
  isplitl [HO]; · iexact HO
  iexact HA2

theorem part43_ok (P : Dev nD → Vec F S2048x1024 .bf16) (m : (ℓ : Loc nD τ sig) → Buf (Elt F) ℓ) (v2 : BitVec 32) {Q : (Σ' (v1272 : BitVec 32), BitVec 32) → sProp 𝕄} :
    iprop(std P m ∗ oweN c 13 ∗ A0 5 c ∗ oPts c (kOff 5 c) (hs 5) (res P) ∗ oPts (par 5 c) (kOff 5 c) (hs 5) (acc P ((5 : Fin 9).val % 3) (par 5 c)) ∗ A0 8 c ∗ oPts c (kOff 8 c) (hs 8) (res P) ∗ oPts (par 8 c) (kOff 8 c) (hs 8) (acc P ((8 : Fin 9).val % 3) (par 8 c)))
      ⊢ iprop((∀ v1272 : BitVec 32, ∀ v1273 : BitVec 32, oweN c 15 ∗ A1 5 c ∗ A1 8 c -∗ Q ⟨v1272, v1273⟩)
          -∗ W c (k0_part43 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2) Q) := by
  simp only [k0_part43_eq_skeleton]
  unfold k0_part43_skel
  simp only [semSignalWord, semWaitWord, Prog.lift, Prog.bind_op, Prog.bind_ret, Prog.pure_eq_ret, wp_deviceId]
  iintro ⟨#Hstd, HO, HA5, HK5, HP5, HA8, HK8, HP8⟩ Hk
  iapply (ag_send P m 5 13 rfl (e := ⟨k0_dev14 c, k0_dev14_lt c⟩) (dev14 c) (off := k0_off22 c) (off22 c) (by exact rfl) (acc P ((5 : Fin 9).val % 3) (par 5 c))) $$ [HO HA5 HK5 HP5]
  · isplitr; · iexact Hstd
    isplitl [HO]; · iexact HO
    isplitl [HA5]; · iexact HA5
    isplitl [HK5]; · iexact HK5
    iexact HP5
  iintro ⟨HO, HA5⟩
  iapply (ag_send P m 8 14 rfl (e := ⟨k0_dev15 c, k0_dev15_lt c⟩) (dev15 c) (off := k0_off23 c) (off23 c) (by exact rfl) (acc P ((8 : Fin 9).val % 3) (par 8 c))) $$ [HO HA8 HK8 HP8]
  · isplitr; · iexact Hstd
    isplitl [HO]; · iexact HO
    isplitl [HA8]; · iexact HA8
    isplitl [HK8]; · iexact HK8
    iexact HP8
  iintro ⟨HO, HA8⟩
  iapply W_ret
  iapply Hk
  isplitl [HO]; · iexact HO
  isplitl [HA5]; · iexact HA5
  iexact HA8

end Cert.Proto

end
-- ==== Proof.PartsG.lean ====
/-
# The spreading

Parts 44 to 50 of the kernel's body: what each leaves of what it is given.
-/
module

public import proofs.«01_k».proof.Proof.Heads
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

theorem part44_ok (P : Dev nD → Vec F S2048x1024 .bf16) (m : (ℓ : Loc nD τ sig) → Buf (Elt F) ℓ) (v1148 : BitVec 32) (v1168 : BitVec 32) (v1215 : BitVec 32) (v1216 : BitVec 32) (v1245 : BitVec 32) (v1246 : BitVec 32) {Q : (Σ' (v1293 : BitVec 32), BitVec 32) → sProp 𝕄} :
    iprop(std P m ∗ oweN c 15 ∗ A1 2 c ∗ A1 5 c)
      ⊢ iprop((∀ v1293 : BitVec 32, ∀ v1305 : BitVec 32, oweN c 15 ∗ A3 2 c ∗ A3 5 c ∗ oPts c (kOff 1 c) (hs 1) (res P) ∗ oPts c (kOff 4 c) (hs 4) (res P) -∗ Q ⟨v1293, v1305⟩)
          -∗ W c (k0_part44 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v1148 v1168 v1215 v1216 v1245 v1246) Q) := by
  simp only [k0_part44_eq_skeleton]
  unfold k0_part44_skel
  simp only [semSignalWord, semWaitWord, Prog.lift, Prog.bind_op, Prog.bind_ret, Prog.pure_eq_ret, wp_deviceId]
  iintro ⟨#Hstd, HO, HA2, HA5⟩ Hk
  iapply (ag_wait P m 2 15 (by decide) (by exact rfl)) $$ [HO HA2]
  · isplitr; · iexact Hstd
    isplitl [HO]; · iexact HO
    iexact HA2
  iintro ⟨HO, HA2, HK2⟩
  iapply (ag_recv P m 2 15 (by decide) (by exact rfl)) $$ [HO HA2]
  · isplitr; · iexact Hstd
    isplitl [HO]; · iexact HO
    iexact HA2
  iintro ⟨HO, HA2, HS2⟩
  ihave HK1 := (oPts_back 1 2 (by decide) (by decide) (res P)) $$ [HK2 HS2]
  · isplitl [HK2]; · iexact HK2
    iexact HS2
  iapply (ag_wait P m 5 15 (by decide) (by exact rfl)) $$ [HO HA5]
  · isplitr; · iexact Hstd
    isplitl [HO]; · iexact HO
    iexact HA5
  iintro ⟨HO, HA5, HK5⟩
  iapply (ag_recv P m 5 15 (by decide) (by exact rfl)) $$ [HO HA5]
  · isplitr; · iexact Hstd
    isplitl [HO]; · iexact HO
    iexact HA5
  iintro ⟨HO, HA5, HS5⟩
  ihave HK4 := (oPts_back 4 5 (by decide) (by decide) (res P)) $$ [HK5 HS5]
  · isplitl [HK5]; · iexact HK5
    iexact HS5
  iapply W_ret
  iapply Hk
  isplitl [HO]; · iexact HO
  isplitl [HA2]; · iexact HA2
  isplitl [HA5]; · iexact HA5
  isplitl [HK1]; · iexact HK1
  iexact HK4

theorem part45_ok (P : Dev nD → Vec F S2048x1024 .bf16) (m : (ℓ : Loc nD τ sig) → Buf (Elt F) ℓ) (v2 : BitVec 32) (v1188 : BitVec 32) (v1272 : BitVec 32) (v1273 : BitVec 32) {Q : (Σ' (v1317 : BitVec 32) (v1335 : BitVec 32), BitVec 32) → sProp 𝕄} :
    iprop(std P m ∗ oweN c 15 ∗ A1 8 c)
      ⊢ iprop((∀ v1317 : BitVec 32, ∀ v1335 : BitVec 32, ∀ v1336 : BitVec 32, oweN c 15 ∗ A3 8 c ∗ oPts c (kOff 7 c) (hs 7) (res P) -∗ Q ⟨v1317, v1335, v1336⟩)
          -∗ W c (k0_part45 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v1188 v1272 v1273) Q) := by
  simp only [k0_part45_eq_skeleton]
  unfold k0_part45_skel
  simp only [semSignalWord, semWaitWord, Prog.lift, Prog.bind_op, Prog.bind_ret, Prog.pure_eq_ret, wp_deviceId]
  iintro ⟨#Hstd, HO, HA8⟩ Hk
  iapply (ag_wait P m 8 15 (by decide) (by exact rfl)) $$ [HO HA8]
  · isplitr; · iexact Hstd
    isplitl [HO]; · iexact HO
    iexact HA8
  iintro ⟨HO, HA8, HK8⟩
  iapply (ag_recv P m 8 15 (by decide) (by exact rfl)) $$ [HO HA8]
  · isplitr; · iexact Hstd
    isplitl [HO]; · iexact HO
    iexact HA8
  iintro ⟨HO, HA8, HS8⟩
  ihave HK7 := (oPts_back 7 8 (by decide) (by decide) (res P)) $$ [HK8 HS8]
  · isplitl [HK8]; · iexact HK8
    iexact HS8
  iapply W_ret
  iapply Hk
  isplitl [HO]; · iexact HO
  isplitl [HA8]; · iexact HA8
  iexact HK7

theorem part46_ok (P : Dev nD → Vec F S2048x1024 .bf16) (m : (ℓ : Loc nD τ sig) → Buf (Elt F) ℓ) (v2 : BitVec 32) {Q : (Σ' (v1361 : BitVec 32) (v1362 : BitVec 32) (v1371 : BitVec 32) (c2_i32_1084 : BitVec 32) (v1372 : BitVec 32) (v1374 : BitVec 32), BitVec 32) → sProp 𝕄} :
    iprop(std P m ∗ oweN c 15 ∗ A0 1 c ∗ oPts c (kOff 1 c) (hs 1) (res P) ∗ oPts (par 1 c) (kOff 1 c) (hs 1) (acc P ((1 : Fin 9).val % 3) (par 1 c)) ∗ A0 4 c ∗ oPts c (kOff 4 c) (hs 4) (res P) ∗ oPts (par 4 c) (kOff 4 c) (hs 4) (acc P ((4 : Fin 9).val % 3) (par 4 c)))
      ⊢ iprop((∀ v1361 : BitVec 32, ∀ v1362 : BitVec 32, ∀ v1371 : BitVec 32, ∀ c2_i32_1084 : BitVec 32, ∀ v1372 : BitVec 32, ∀ v1374 : BitVec 32, ∀ c0_i32_1086 : BitVec 32, oweN c 17 ∗ A1 1 c ∗ A1 4 c -∗ Q ⟨v1361, v1362, v1371, c2_i32_1084, v1372, v1374, c0_i32_1086⟩)
          -∗ W c (k0_part46 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2) Q) := by
  simp only [k0_part46_eq_skeleton]
  unfold k0_part46_skel
  simp only [semSignalWord, semWaitWord, Prog.lift, Prog.bind_op, Prog.bind_ret, Prog.pure_eq_ret, wp_deviceId]
  iintro ⟨#Hstd, HO, HA1, HK1, HP1, HA4, HK4, HP4⟩ Hk
  iapply (ag_send P m 1 15 rfl (e := ⟨k0_dev16 c, k0_dev16_lt c⟩) (dev16 c) (off := k0_off24 c) (off24 c) (by exact rfl) (acc P ((1 : Fin 9).val % 3) (par 1 c))) $$ [HO HA1 HK1 HP1]
  · isplitr; · iexact Hstd
    isplitl [HO]; · iexact HO
    isplitl [HA1]; · iexact HA1
    isplitl [HK1]; · iexact HK1
    iexact HP1
  iintro ⟨HO, HA1⟩
  iapply (ag_send P m 4 16 rfl (e := ⟨k0_dev17 c, k0_dev17_lt c⟩) (dev17 c) (off := k0_off25 c) (off25 c) (by exact rfl) (acc P ((4 : Fin 9).val % 3) (par 4 c))) $$ [HO HA4 HK4 HP4]
  · isplitr; · iexact Hstd
    isplitl [HO]; · iexact HO
    isplitl [HA4]; · iexact HA4
    isplitl [HK4]; · iexact HK4
    iexact HP4
  iintro ⟨HO, HA4⟩
  iapply W_ret
  iapply Hk
  isplitl [HO]; · iexact HO
  isplitl [HA1]; · iexact HA1
  iexact HA4

theorem part47_ok (P : Dev nD → Vec F S2048x1024 .bf16) (m : (ℓ : Loc nD τ sig) → Buf (Elt F) ℓ) (v2 : BitVec 32) (v1336 : BitVec 32) (v1371 : BitVec 32) (c2_i32_1084 : BitVec 32) (v1372 : BitVec 32) (v1374 : BitVec 32) (c0_i32_1086 : BitVec 32) {Q : (Σ' (v1391 : BitVec 32) (v1392 : BitVec 32), BitVec 32) → sProp 𝕄} :
    iprop(std P m ∗ oweN c 17 ∗ A0 7 c ∗ oPts c (kOff 7 c) (hs 7) (res P) ∗ oPts (par 7 c) (kOff 7 c) (hs 7) (acc P ((7 : Fin 9).val % 3) (par 7 c)) ∗ A1 1 c)
      ⊢ iprop((∀ v1391 : BitVec 32, ∀ v1392 : BitVec 32, ∀ v1405 : BitVec 32, oweN c 18 ∗ A1 7 c ∗ A2 1 c ∗ oPts c (kOff 1 c) (hs 1) (res P) -∗ Q ⟨v1391, v1392, v1405⟩)
          -∗ W c (k0_part47 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v1336 v1371 c2_i32_1084 v1372 v1374 c0_i32_1086) Q) := by
  simp only [k0_part47_eq_skeleton]
  unfold k0_part47_skel
  simp only [semSignalWord, semWaitWord, Prog.lift, Prog.bind_op, Prog.bind_ret, Prog.pure_eq_ret, wp_deviceId]
  iintro ⟨#Hstd, HO, HA7, HK7, HP7, HA1⟩ Hk
  iapply (ag_send P m 7 17 rfl (e := ⟨k0_dev18 c, k0_dev18_lt c⟩) (dev18 c) (off := k0_off26 c) (off26 c) (by exact rfl) (acc P ((7 : Fin 9).val % 3) (par 7 c))) $$ [HO HA7 HK7 HP7]
  · isplitr; · iexact Hstd
    isplitl [HO]; · iexact HO
    isplitl [HA7]; · iexact HA7
    isplitl [HK7]; · iexact HK7
    iexact HP7
  iintro ⟨HO, HA7⟩
  iapply (ag_wait P m 1 18 (by decide) (by exact rfl)) $$ [HO HA1]
  · isplitr; · iexact Hstd
    isplitl [HO]; · iexact HO
    iexact HA1
  iintro ⟨HO, HA1, HK1⟩
  iapply W_ret
  iapply Hk
  isplitl [HO]; · iexact HO
  isplitl [HA7]; · iexact HA7
  isplitl [HA1]; · iexact HA1
  iexact HK1

theorem part48_ok (P : Dev nD → Vec F S2048x1024 .bf16) (m : (ℓ : Loc nD τ sig) → Buf (Elt F) ℓ) (v1293 : BitVec 32) (v1305 : BitVec 32) (v1335 : BitVec 32) (v1361 : BitVec 32) (v1362 : BitVec 32) (v1392 : BitVec 32) (v1405 : BitVec 32) {Q : (BitVec 32) → sProp 𝕄} :
    iprop(std P m ∗ oweN c 18 ∗ A2 1 c ∗ oPts c (kOff 1 c) (hs 1) (res P) ∗ A1 4 c ∗ A1 7 c)
      ⊢ iprop((∀ v1429 : BitVec 32, oweN c 18 ∗ A3 1 c ∗ A3 4 c ∗ A2 7 c ∗ oPts c (kOff 0 c) (hs 0) (res P) ∗ oPts c (kOff 3 c) (hs 3) (res P) ∗ oPts c (kOff 7 c) (hs 7) (res P) -∗ Q v1429)
          -∗ W c (k0_part48 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v1293 v1305 v1335 v1361 v1362 v1392 v1405) Q) := by
  simp only [k0_part48_eq_skeleton]
  unfold k0_part48_skel
  simp only [semSignalWord, semWaitWord, Prog.lift, Prog.bind_op, Prog.bind_ret, Prog.pure_eq_ret, wp_deviceId]
  iintro ⟨#Hstd, HO, HA1, HK1, HA4, HA7⟩ Hk
  iapply (ag_recv P m 1 18 (by decide) (by exact rfl)) $$ [HO HA1]
  · isplitr; · iexact Hstd
    isplitl [HO]; · iexact HO
    iexact HA1
  iintro ⟨HO, HA1, HS1⟩
  ihave HK0 := (oPts_back 0 1 (by decide) (by decide) (res P)) $$ [HK1 HS1]
  · isplitl [HK1]; · iexact HK1
    iexact HS1
  iapply (ag_wait P m 4 18 (by decide) (by exact rfl)) $$ [HO HA4]
  · isplitr; · iexact Hstd
    isplitl [HO]; · iexact HO
    iexact HA4
  iintro ⟨HO, HA4, HK4⟩
  iapply (ag_recv P m 4 18 (by decide) (by exact rfl)) $$ [HO HA4]
  · isplitr; · iexact Hstd
    isplitl [HO]; · iexact HO
    iexact HA4
  iintro ⟨HO, HA4, HS4⟩
  ihave HK3 := (oPts_back 3 4 (by decide) (by decide) (res P)) $$ [HK4 HS4]
  · isplitl [HK4]; · iexact HK4
    iexact HS4
  iapply (ag_wait P m 7 18 (by decide) (by exact rfl)) $$ [HO HA7]
  · isplitr; · iexact Hstd
    isplitl [HO]; · iexact HO
    iexact HA7
  iintro ⟨HO, HA7, HK7⟩
  iapply W_ret
  iapply Hk
  isplitl [HO]; · iexact HO
  isplitl [HA1]; · iexact HA1
  isplitl [HA4]; · iexact HA4
  isplitl [HA7]; · iexact HA7
  isplitl [HK0]; · iexact HK0
  isplitl [HK3]; · iexact HK3
  iexact HK7

theorem part49_ok (P : Dev nD → Vec F S2048x1024 .bf16) (m : (ℓ : Loc nD τ sig) → Buf (Elt F) ℓ) (v2 : BitVec 32) (v1317 : BitVec 32) (v1391 : BitVec 32) (v1429 : BitVec 32) {Q : (Σ' (v1437 : BitVec 32) (v1446 : BitVec 32), BitVec 32) → sProp 𝕄} :
    iprop(std P m ∗ oweN c 18 ∗ A2 7 c ∗ oPts c (kOff 7 c) (hs 7) (res P) ∗ A0 0 c ∗ oPts c (kOff 0 c) (hs 0) (res P) ∗ oPts (par 0 c) (kOff 0 c) (hs 0) (acc P ((0 : Fin 9).val % 3) (par 0 c)) ∗ A0 3 c ∗ oPts c (kOff 3 c) (hs 3) (res P) ∗ oPts (par 3 c) (kOff 3 c) (hs 3) (acc P ((3 : Fin 9).val % 3) (par 3 c)))
      ⊢ iprop((∀ v1437 : BitVec 32, ∀ v1446 : BitVec 32, ∀ v1455 : BitVec 32, oweN c 20 ∗ A3 7 c ∗ A1 0 c ∗ A1 3 c ∗ oPts c (kOff 6 c) (hs 6) (res P) -∗ Q ⟨v1437, v1446, v1455⟩)
          -∗ W c (k0_part49 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v2 v1317 v1391 v1429) Q) := by
  simp only [k0_part49_eq_skeleton]
  unfold k0_part49_skel
  simp only [semSignalWord, semWaitWord, Prog.lift, Prog.bind_op, Prog.bind_ret, Prog.pure_eq_ret, wp_deviceId]
  iintro ⟨#Hstd, HO, HA7, HK7, HA0, HK0, HP0, HA3, HK3, HP3⟩ Hk
  iapply (ag_recv P m 7 18 (by decide) (by exact rfl)) $$ [HO HA7]
  · isplitr; · iexact Hstd
    isplitl [HO]; · iexact HO
    iexact HA7
  iintro ⟨HO, HA7, HS7⟩
  ihave HK6 := (oPts_back 6 7 (by decide) (by decide) (res P)) $$ [HK7 HS7]
  · isplitl [HK7]; · iexact HK7
    iexact HS7
  iapply (ag_send P m 0 18 rfl (e := ⟨k0_dev19 c, k0_dev19_lt c⟩) (dev19 c) (off := k0_off27 c) (off27 c) (by exact rfl) (acc P ((0 : Fin 9).val % 3) (par 0 c))) $$ [HO HA0 HK0 HP0]
  · isplitr; · iexact Hstd
    isplitl [HO]; · iexact HO
    isplitl [HA0]; · iexact HA0
    isplitl [HK0]; · iexact HK0
    iexact HP0
  iintro ⟨HO, HA0⟩
  iapply (ag_send P m 3 19 rfl (e := ⟨k0_dev20 c, k0_dev20_lt c⟩) (dev20 c) (off := k0_off28 c) (off28 c) (by exact rfl) (acc P ((3 : Fin 9).val % 3) (par 3 c))) $$ [HO HA3 HK3 HP3]
  · isplitr; · iexact Hstd
    isplitl [HO]; · iexact HO
    isplitl [HA3]; · iexact HA3
    isplitl [HK3]; · iexact HK3
    iexact HP3
  iintro ⟨HO, HA3⟩
  iapply W_ret
  iapply Hk
  isplitl [HO]; · iexact HO
  isplitl [HA7]; · iexact HA7
  isplitl [HA0]; · iexact HA0
  isplitl [HA3]; · iexact HA3
  iexact HK6

theorem part50_ok (P : Dev nD → Vec F S2048x1024 .bf16) (m : (ℓ : Loc nD τ sig) → Buf (Elt F) ℓ) (v1437 : BitVec 32) (v1446 : BitVec 32) {Q : (PUnit) → sProp 𝕄} :
    iprop(std P m ∗ oweN c 20 ∗ A0 6 c ∗ oPts c (kOff 6 c) (hs 6) (res P) ∗ oPts (par 6 c) (kOff 6 c) (hs 6) (acc P ((6 : Fin 9).val % 3) (par 6 c)) ∗ A1 0 c ∗ A1 3 c)
      ⊢ iprop((oweN c 21 ∗ A1 6 c ∗ A3 0 c ∗ A2 3 c ∗ oPts c 0 768 (res P) ∗ oPts c (kOff 3 c) (hs 3) (res P) -∗ Q ⟨⟩)
          -∗ W c (k0_part50 (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19 c v1437 v1446) Q) := by
  simp only [k0_part50_eq_skeleton]
  unfold k0_part50_skel
  simp only [semSignalWord, semWaitWord, Prog.lift, Prog.bind_op, Prog.bind_ret, Prog.pure_eq_ret, wp_deviceId]
  iintro ⟨#Hstd, HO, HA6, HK6, HP6, HA0, HA3⟩ Hk
  iapply (ag_send P m 6 20 rfl (e := ⟨k0_dev21 c, k0_dev21_lt c⟩) (dev21 c) (off := k0_off29 c) (off29 c) (by exact rfl) (acc P ((6 : Fin 9).val % 3) (par 6 c))) $$ [HO HA6 HK6 HP6]
  · isplitr; · iexact Hstd
    isplitl [HO]; · iexact HO
    isplitl [HA6]; · iexact HA6
    isplitl [HK6]; · iexact HK6
    iexact HP6
  iintro ⟨HO, HA6⟩
  iapply (ag_wait P m 0 21 (by decide) (by exact rfl)) $$ [HO HA0]
  · isplitr; · iexact Hstd
    isplitl [HO]; · iexact HO
    iexact HA0
  iintro ⟨HO, HA0, HK0⟩
  iapply (ag_recv P m 0 21 (by decide) (by exact rfl)) $$ [HO HA0]
  · isplitr; · iexact Hstd
    isplitl [HO]; · iexact HO
    iexact HA0
  iintro ⟨HO, HA0, HS0⟩
  ihave HOB0 := (show _ ⊢ (oPts c 0 768 (res P) : sProp 𝕄) from oPts_band 0 (res P)) $$ [HK0 HS0]
  · isplitl [HK0]; · iexact HK0
    iexact HS0
  iapply (ag_wait P m 3 21 (by decide) (by exact rfl)) $$ [HO HA3]
  · isplitr; · iexact Hstd
    isplitl [HO]; · iexact HO
    iexact HA3
  iintro ⟨HO, HA3, HK3⟩
  iapply W_ret
  iapply Hk
  isplitl [HO]; · iexact HO
  isplitl [HA6]; · iexact HA6
  isplitl [HA0]; · iexact HA0
  isplitl [HA3]; · iexact HA3
  isplitl [HOB0]; · iexact HOB0
  iexact HK3

end Cert.Proto

end
-- ==== Proof.Body.lean ====
/-
# The body

What the kernel's body leaves of what a device holds before it.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (P : Dev nD → Vec F S2048x1024 .bf16) (m : (ℓ : Loc nD τ sig) → Buf (Elt F) ℓ) {c : Dev nD}

/-- What a device holds before the body, and after it. -/
def before (c : Dev nD) (xf : Vec F S1x2048x1024 .f32) (wq wo : Vec F S1024x1024 .f32) (kv0 : Vec F S2048x8x128 .f32) (ob : Vec F S2048x1024 .bf16) : sProp 𝕄 :=
  iprop(oweN c 0 ∗ hold xM c xf ∗ hold wqM c wq ∗ hold woM c wo ∗ scr xpM c (XP xf) 0 ∗ scr kpM c (KP (kVal m c)) 0 ∗ scr vpM c (KP (vVal m c)) 0 ∗ scr qpM c (QP xf wq) 0 ∗ kvPts c kv0 ∗ kArg m c ∗ vArg m c ∗ dutyTok ER (dmaC kS c) 0 0 ∗ dutyTok ER (dmaC vS c) 0 0 ∗ fresh kS c ∗ fresh vS c ∗ dutyTok ER (barC (par (bk 0) c)) 0 0 ∗ barPay 0 (par (bk 0) c) ∗ dutyTok ER (barC (par (bk 1) c)) 0 1 ∗ barPay 1 (par (bk 1) c) ∗ dutyTok ER (barC (par (bk 2) c)) 0 2 ∗ barPay 2 (par (bk 2) c) ∗ cred (tallyAt (barC c) 1 3) ∗ atPos ER (barC c) 0 ∅ 0 ∗ R0 0 c ∗ A0 0 c ∗ R0 1 c ∗ A0 1 c ∗ R0 2 c ∗ A0 2 c ∗ R0 3 c ∗ A0 3 c ∗ R0 4 c ∗ A0 4 c ∗ R0 5 c ∗ A0 5 c ∗ R0 6 c ∗ A0 6 c ∗ R0 7 c ∗ A0 7 c ∗ R0 8 c ∗ A0 8 c ∗ oPts c 0 768 ob ∗ oPts c 768 768 ob ∗ oPts c 1536 512 ob)
def after (c : Dev nD) (xf : Vec F S1x2048x1024 .f32) (wq wo : Vec F S1024x1024 .f32) : sProp 𝕄 :=
  iprop(oweN c 21 ∗ hold xM c xf ∗ hold wqM c wq ∗ hold woM c wo ∗ scr xpM c (gath (CT m c xf wq) 24) 512 ∗ scr kpM c (KP (kVal m c)) 2048 ∗ scr vpM c (KP (vVal m c)) 2048 ∗ scr qpM c (CT m c xf wq) 2048 ∗ done kS c ∗ done vS c ∗ atPos ER (barC c) 1 ∅ 0 ∗ R3 0 c ∗ A3 0 c ∗ R3 1 c ∗ A3 1 c ∗ R3 2 c ∗ A3 2 c ∗ R3 3 c ∗ A3 3 c ∗ R3 4 c ∗ A3 4 c ∗ R3 5 c ∗ A3 5 c ∗ R3 6 c ∗ A3 6 c ∗ R3 7 c ∗ A3 7 c ∗ R3 8 c ∗ A3 8 c ∗ kArg m c ∗ kvPts c (vVal m c) ∗ vArg m c ∗ rbAt 0 c (landed P 0 c) ∗ rbAt 3 c (landed P 3 c) ∗ rbAt 6 c (landed P 6 c) ∗ rbAt 1 c (landed P 1 c) ∗ rbAt 4 c (landed P 4 c) ∗ rbAt 7 c (landed P 7 c) ∗ rbAt 2 c (landed P 2 c) ∗ rbAt 5 c (landed P 5 c) ∗ rbAt 8 c (landed P 8 c) ∗ oPts c 0 768 (res P) ∗ oPts c 768 768 (res P) ∗ oPts c 1536 512 (res P))

set_option maxHeartbeats 4000000 in
/-- The body. -/
theorem body_ok (xf : Vec F S1x2048x1024 .f32) (wq wo : Vec F S1024x1024 .f32) (kv0 : Vec F S2048x8x128 .f32) (ob : Vec F S2048x1024 .bf16)
    (hP : P c = P0 (CT m c xf wq) wo) {Q : PUnit → sProp 𝕄} :
    iprop(std P m ∗ before m c xf wq wo kv0 ob)
      ⊢ iprop((after P m c xf wq wo -∗ Q ⟨⟩)
          -∗ W c (cc0__body (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19) Q) := by
  unfold before after
  unfold W
  simp only [cc0__body_eq_skeleton]
  unfold cc0__body_skel
  simp only [k0_part51_eq_skeleton]
  unfold k0_part51_skel
  simp only [Prog.lift, Prog.bind_op, Prog.bind_ret, Prog.pure_eq_ret, bind_assoc]
  iintro ⟨#Hstd, HO, HX, HWQ, HWO, HXP, HKP, HVP, HQP, HKV, HKA, HVA, HKD, HVD, HKF, HVF, HBT0, HBP0, HBT1, HBP1, HBT2, HBP2, HBC, HBF, HR0, HA0, HR1, HA1, HR2, HA2, HR3, HA3, HR4, HA4, HR5, HA5, HR6, HA6, HR7, HA7, HR8, HA8, HOB0, HOB1, HOB2⟩ Hk
  rw [wp_bind]
  iapply (part2_ok P m xf kv0) $$ [HO HBT0 HBP0 HBT1 HBP1 HBT2 HBP2 HBC HBF HKA HKV HKD HX HXP]
  · isplitr; · iexact Hstd
    isplitl [HO]; · iexact HO
    isplitl [HBT0]; · iexact HBT0
    isplitl [HBP0]; · iexact HBP0
    isplitl [HBT1]; · iexact HBT1
    isplitl [HBP1]; · iexact HBP1
    isplitl [HBT2]; · iexact HBT2
    isplitl [HBP2]; · iexact HBP2
    isplitl [HBC]; · iexact HBC
    isplitl [HBF]; · iexact HBF
    isplitl [HKA]; · iexact HKA
    isplitl [HKV]; · iexact HKV
    isplitl [HKD]; · iexact HKD
    isplitl [HX]; · iexact HX
    iexact HXP
  iintro %v2 ⟨HO, HBF, HX, HXP, HL0, HL1, HL2, HL3, HL4, HL5, HL6, HL7, HL8, HKC⟩
  try dsimp only
  rw [wp_bind]
  iapply (part3_ok xf) $$ [HXP HX]
  · isplitl [HXP]; · iexact HXP
    iexact HX
  iintro  ⟨HXP, HX⟩
  try dsimp only
  rw [wp_bind]
  iapply (part4_ok xf) $$ [HXP HX]
  · isplitl [HXP]; · iexact HXP
    iexact HX
  iintro  ⟨HXP, HX⟩
  try dsimp only
  rw [wp_bind]
  iapply (part5_ok xf) $$ [HXP HX]
  · isplitl [HXP]; · iexact HXP
    iexact HX
  iintro  ⟨HXP, HX⟩
  try dsimp only
  rw [wp_bind]
  iapply (part6_ok xf) $$ [HXP HX]
  · isplitl [HXP]; · iexact HXP
    iexact HX
  iintro  ⟨HXP, HX⟩
  try dsimp only
  rw [wp_bind]
  iapply (part7_ok xf) $$ [HXP HX]
  · isplitl [HXP]; · iexact HXP
    iexact HX
  iintro  ⟨HXP, HX⟩
  try dsimp only
  rw [wp_bind]
  iapply (part8_ok xf) $$ [HXP HX]
  · isplitl [HXP]; · iexact HXP
    iexact HX
  iintro  ⟨HXP, HX⟩
  try dsimp only
  rw [wp_bind]
  iapply (part9_ok P m xf) $$ [HXP HO HKC HKF HKP]
  · isplitr; · iexact Hstd
    isplitl [HXP]; · iexact HXP
    isplitl [HO]; · iexact HO
    isplitl [HKC]; · iexact HKC
    isplitl [HKF]; · iexact HKF
    iexact HKP
  iintro  ⟨HXP, HO, HKF, HKP, HKV, HKA⟩
  try dsimp only
  rw [wp_bind]
  iapply (part10_ok m) $$ [HKV HKP]
  · isplitl [HKV]; · iexact HKV
    iexact HKP
  iintro  ⟨HKV, HKP⟩
  try dsimp only
  rw [wp_bind]
  iapply (part11_ok m) $$ [HKV HKP]
  · isplitl [HKV]; · iexact HKV
    iexact HKP
  iintro  ⟨HKV, HKP⟩
  try dsimp only
  rw [wp_bind]
  iapply (part12_ok m) $$ [HKV HKP]
  · isplitl [HKV]; · iexact HKV
    iexact HKP
  iintro  ⟨HKV, HKP⟩
  try dsimp only
  rw [wp_bind]
  iapply (part13_ok m) $$ [HKV HKP]
  · isplitl [HKV]; · iexact HKV
    iexact HKP
  iintro  ⟨HKV, HKP⟩
  try dsimp only
  rw [wp_bind]
  iapply (part14_ok m) $$ [HKV HKP]
  · isplitl [HKV]; · iexact HKV
    iexact HKP
  iintro  ⟨HKV, HKP⟩
  try dsimp only
  rw [wp_bind]
  iapply (part15_ok P m xf wq _) $$ [HKV HKP HVA HVD HXP HWQ HQP]
  · isplitr; · iexact Hstd
    isplitl [HKV]; · iexact HKV
    isplitl [HKP]; · iexact HKP
    isplitl [HVA]; · iexact HVA
    isplitl [HVD]; · iexact HVD
    isplitl [HXP]; · iexact HXP
    isplitl [HWQ]; · iexact HWQ
    iexact HQP
  iintro  ⟨HKP, HXP, HWQ, HQP, HVC⟩
  try dsimp only
  rw [wp_bind]
  iapply (part16_ok P m xf wq) $$ [HQP HO HVC HVF HVP]
  · isplitr; · iexact Hstd
    isplitl [HQP]; · iexact HQP
    isplitl [HO]; · iexact HO
    isplitl [HVC]; · iexact HVC
    isplitl [HVF]; · iexact HVF
    iexact HVP
  iintro  ⟨HQP, HO, HVF, HVP, HKV, HVA⟩
  try dsimp only
  rw [wp_bind]
  iapply (part17_ok m) $$ [HVP HKV]
  · isplitl [HVP]; · iexact HVP
    iexact HKV
  iintro  ⟨HVP, HKV⟩
  try dsimp only
  rw [wp_bind]
  iapply (part18_ok m) $$ [HVP HKV]
  · isplitl [HVP]; · iexact HVP
    iexact HKV
  iintro  ⟨HVP, HKV⟩
  try dsimp only
  rw [wp_bind]
  iapply (part19_ok m) $$ [HVP HKV]
  · isplitl [HVP]; · iexact HVP
    iexact HKV
  iintro  ⟨HVP, HKV⟩
  try dsimp only
  rw [wp_bind]
  iapply (part20_ok m) $$ [HVP HKV]
  · isplitl [HVP]; · iexact HVP
    iexact HKV
  iintro  ⟨HVP, HKV⟩
  try dsimp only
  rw [wp_bind]
  iapply (part21_ok m) $$ [HVP HKV]
  · isplitl [HVP]; · iexact HVP
    iexact HKV
  iintro  ⟨HVP, HKV⟩
  try dsimp only
  rw [wp_bind]
  iapply (part22_ok m xf wq wo) $$ [HVP HKV HQP HKP HWO HXP]
  · isplitl [HVP]; · iexact HVP
    isplitl [HKV]; · iexact HKV
    isplitl [HQP]; · iexact HQP
    isplitl [HKP]; · iexact HKP
    isplitl [HWO]; · iexact HWO
    iexact HXP
  iintro  ⟨HVP, HKV, HQP, HKP, HWO, HXP⟩
  try dsimp only
  rw [wp_bind]
  iapply (part23_ok m xf wq) $$ [HQP HXP]
  · isplitl [HQP]; · iexact HQP
    iexact HXP
  iintro %v645 ⟨HQP, HXP⟩
  try dsimp only
  rw [wp_bind]
  iapply (part24_ok P m xf wq wo ob hP _ _) $$ [HXP HQP HOB0]
  · isplitl [HXP]; · iexact HXP
    isplitl [HQP]; · iexact HQP
    iexact HOB0
  iintro %v664 %v665 %v676 %v677 ⟨HXP, HQP, HOB0⟩
  try dsimp only
  rw [wp_bind]
  iapply (part25_ok P m xf wq _ _ _ _ _) $$ [HOB0 HO HR0 HL0 HQP HXP]
  · isplitr; · iexact Hstd
    isplitl [HOB0]; · iexact HOB0
    isplitl [HO]; · iexact HO
    isplitl [HR0]; · iexact HR0
    isplitl [HL0]; · iexact HL0
    isplitl [HQP]; · iexact HQP
    iexact HXP
  iintro %v684 %v688 ⟨HO, HR0, HQP, HXP, HK0⟩
  try dsimp only
  rw [wp_bind]
  iapply (part26_ok m xf wq) $$ [HXP HQP]
  · isplitl [HXP]; · iexact HXP
    iexact HQP
  iintro  ⟨HXP, HQP⟩
  try dsimp only
  rw [wp_bind]
  iapply (part27_ok P m xf wq wo ob hP _) $$ [HXP HQP HOB1]
  · isplitl [HXP]; · iexact HXP
    isplitl [HQP]; · iexact HQP
    iexact HOB1
  iintro %v765 %v766 ⟨HXP, HQP, HOB1⟩
  try dsimp only
  rw [wp_bind]
  iapply (part28_ok P m xf wq _ _) $$ [HOB1 HO HR3 HL3 HQP HXP]
  · isplitr; · iexact Hstd
    isplitl [HOB1]; · iexact HOB1
    isplitl [HO]; · iexact HO
    isplitl [HR3]; · iexact HR3
    isplitl [HL3]; · iexact HL3
    isplitl [HQP]; · iexact HQP
    iexact HXP
  iintro %v769 ⟨HO, HR3, HQP, HXP, HK3⟩
  try dsimp only
  rw [wp_bind]
  iapply (part29_ok P m xf wq wo ob hP _) $$ [HXP HQP HOB2]
  · isplitl [HXP]; · iexact HXP
    isplitl [HQP]; · iexact HQP
    iexact HOB2
  iintro %c4_i32_663 %v813 %v824 ⟨HXP, HQP, HOB2⟩
  try dsimp only
  rw [wp_bind]
  iapply (part30_ok P m _ _ _ _ _ _) $$ [HOB2 HO HR6 HL6 HR0 HK0]
  · isplitr; · iexact Hstd
    isplitl [HOB2]; · iexact HOB2
    isplitl [HO]; · iexact HO
    isplitl [HR6]; · iexact HR6
    isplitl [HL6]; · iexact HL6
    isplitl [HR0]; · iexact HR0
    iexact HK0
  iintro %v829 %v833 %v850 ⟨HO, HR6, HR0, HK0, HK6, HL0, HP0⟩
  try dsimp only
  rw [wp_bind]
  iapply (part31_ok P m _ _ _) $$ [HL0 HK0 HO HR3 HK3]
  · isplitr; · iexact Hstd
    isplitl [HL0]; · iexact HL0
    isplitl [HK0]; · iexact HK0
    isplitl [HO]; · iexact HO
    isplitl [HR3]; · iexact HR3
    iexact HK3
  iintro %v870 ⟨HL0, HK0, HO, HR3, HK3, HL3, HP3⟩
  try dsimp only
  rw [wp_bind]
  iapply (part32_ok P m _ _ _) $$ [HO HR6 HK6]
  · isplitr; · iexact Hstd
    isplitl [HO]; · iexact HO
    isplitl [HR6]; · iexact HR6
    iexact HK6
  iintro %v890 %v917 ⟨HO, HR6, HK6, HL6, HP6⟩
  try dsimp only
  rw [wp_bind]
  iapply (part33_ok P m _ _ _ _) $$ [HK0 HO HR1 HL1]
  · isplitr; · iexact Hstd
    isplitl [HK0]; · iexact HK0
    isplitl [HO]; · iexact HO
    isplitl [HR1]; · iexact HR1
    iexact HL1
  iintro %v918 %v919 %v946 %v947 %c1_i32_767 ⟨HO, HR1, HK1⟩
  try dsimp only
  rw [wp_bind]
  iapply (part34_ok P m _ _ _ _) $$ [HK3 HO HR4 HL4]
  · isplitr; · iexact Hstd
    isplitl [HK3]; · iexact HK3
    isplitl [HO]; · iexact HO
    isplitl [HR4]; · iexact HR4
    iexact HL4
  iintro %v978 %v979 ⟨HO, HR4, HK4⟩
  try dsimp only
  rw [wp_bind]
  iapply (part35_ok P m _ _ _ _) $$ [HK6 HO HR7 HL7 HR1 HK1 HR4]
  · isplitr; · iexact Hstd
    isplitl [HK6]; · iexact HK6
    isplitl [HO]; · iexact HO
    isplitl [HR7]; · iexact HR7
    isplitl [HL7]; · iexact HL7
    isplitl [HR1]; · iexact HR1
    isplitl [HK1]; · iexact HK1
    iexact HR4
  iintro %v999 %v1013 ⟨HO, HR7, HR1, HK1, HR4, HK7, HL1, HP1⟩
  try dsimp only
  rw [wp_bind]
  iapply (part36_ok P m _ _ _ _ _ _) $$ [HO HR4 HK4 HR7 HK7]
  · isplitr; · iexact Hstd
    isplitl [HO]; · iexact HO
    isplitl [HR4]; · iexact HR4
    isplitl [HK4]; · iexact HK4
    isplitl [HR7]; · iexact HR7
    iexact HK7
  iintro %v1019 %v1039 ⟨HO, HR4, HK4, HR7, HK7, HL4, HP4, HL7, HP7⟩
  try dsimp only
  rw [wp_bind]
  iapply (part37_ok P m _ _ _) $$ [HK7 HK1 HO HR2 HL2]
  · isplitr; · iexact Hstd
    isplitl [HK7]; · iexact HK7
    isplitl [HK1]; · iexact HK1
    isplitl [HO]; · iexact HO
    isplitl [HR2]; · iexact HR2
    iexact HL2
  iintro %v1066 %v1067 %v1078 %c2_i32_860 %v1079 %v1081 %c0_i32_862 ⟨HK7, HO, HR2, HK2⟩
  try dsimp only
  rw [wp_bind]
  iapply (part38_ok P m _ _ _ _ _ _ _) $$ [HK4 HO HR5 HL5]
  · isplitr; · iexact Hstd
    isplitl [HK4]; · iexact HK4
    isplitl [HO]; · iexact HO
    isplitl [HR5]; · iexact HR5
    iexact HL5
  iintro %v1098 %v1099 %c2_i32_879 %v1110 %v1115 %v1117 %v1119 ⟨HO, HR5, HK5⟩
  try dsimp only
  rw [wp_bind]
  iapply (part39_ok P m _ _ _ _ _ _ _ _ _ _) $$ [HK7 HO HR8 HL8 HR2]
  · isplitr; · iexact Hstd
    isplitl [HK7]; · iexact HK7
    isplitl [HO]; · iexact HO
    isplitl [HR8]; · iexact HR8
    isplitl [HL8]; · iexact HL8
    iexact HR2
  iintro %v1127 %v1128 %v1148 ⟨HO, HR8, HR2, HK8, HL2, HP2⟩
  try dsimp only
  rw [wp_bind]
  iapply (part40_ok P m _ _ _ _) $$ [HK2 HL2 HO HR5 HK5]
  · isplitr; · iexact Hstd
    isplitl [HK2]; · iexact HK2
    isplitl [HL2]; · iexact HL2
    isplitl [HO]; · iexact HO
    isplitl [HR5]; · iexact HR5
    iexact HK5
  iintro %v1168 ⟨HK2, HL2, HO, HR5, HK5, HL5, HP5⟩
  try dsimp only
  rw [wp_bind]
  iapply (part41_ok P m _ _ _ _) $$ [HO HR8 HK8]
  · isplitr; · iexact Hstd
    isplitl [HO]; · iexact HO
    isplitl [HR8]; · iexact HR8
    iexact HK8
  iintro %v1188 %v1215 ⟨HO, HR8, HK8, HL8, HP8⟩
  try dsimp only
  rw [wp_bind]
  iapply (part42_ok P m _) $$ [HO HA2 HK2 HP2]
  · isplitr; · iexact Hstd
    isplitl [HO]; · iexact HO
    isplitl [HA2]; · iexact HA2
    isplitl [HK2]; · iexact HK2
    iexact HP2
  iintro %v1216 %v1245 %v1246 ⟨HO, HA2⟩
  try dsimp only
  rw [wp_bind]
  iapply (part43_ok P m _) $$ [HO HA5 HK5 HP5 HA8 HK8 HP8]
  · isplitr; · iexact Hstd
    isplitl [HO]; · iexact HO
    isplitl [HA5]; · iexact HA5
    isplitl [HK5]; · iexact HK5
    isplitl [HP5]; · iexact HP5
    isplitl [HA8]; · iexact HA8
    isplitl [HK8]; · iexact HK8
    iexact HP8
  iintro %v1272 %v1273 ⟨HO, HA5, HA8⟩
  try dsimp only
  rw [wp_bind]
  iapply (part44_ok P m _ _ _ _ _ _) $$ [HO HA2 HA5]
  · isplitr; · iexact Hstd
    isplitl [HO]; · iexact HO
    isplitl [HA2]; · iexact HA2
    iexact HA5
  iintro %v1293 %v1305 ⟨HO, HA2, HA5, HK1, HK4⟩
  try dsimp only
  rw [wp_bind]
  iapply (part45_ok P m _ _ _ _) $$ [HO HA8]
  · isplitr; · iexact Hstd
    isplitl [HO]; · iexact HO
    iexact HA8
  iintro %v1317 %v1335 %v1336 ⟨HO, HA8, HK7⟩
  try dsimp only
  rw [wp_bind]
  iapply (part46_ok P m _) $$ [HO HA1 HK1 HP1 HA4 HK4 HP4]
  · isplitr; · iexact Hstd
    isplitl [HO]; · iexact HO
    isplitl [HA1]; · iexact HA1
    isplitl [HK1]; · iexact HK1
    isplitl [HP1]; · iexact HP1
    isplitl [HA4]; · iexact HA4
    isplitl [HK4]; · iexact HK4
    iexact HP4
  iintro %v1361 %v1362 %v1371 %c2_i32_1084 %v1372 %v1374 %c0_i32_1086 ⟨HO, HA1, HA4⟩
  try dsimp only
  rw [wp_bind]
  iapply (part47_ok P m _ _ _ _ _ _ _) $$ [HO HA7 HK7 HP7 HA1]
  · isplitr; · iexact Hstd
    isplitl [HO]; · iexact HO
    isplitl [HA7]; · iexact HA7
    isplitl [HK7]; · iexact HK7
    isplitl [HP7]; · iexact HP7
    iexact HA1
  iintro %v1391 %v1392 %v1405 ⟨HO, HA7, HA1, HK1⟩
  try dsimp only
  rw [wp_bind]
  iapply (part48_ok P m _ _ _ _ _ _ _) $$ [HO HA1 HK1 HA4 HA7]
  · isplitr; · iexact Hstd
    isplitl [HO]; · iexact HO
    isplitl [HA1]; · iexact HA1
    isplitl [HK1]; · iexact HK1
    isplitl [HA4]; · iexact HA4
    iexact HA7
  iintro %v1429 ⟨HO, HA1, HA4, HA7, HK0, HK3, HK7⟩
  try dsimp only
  rw [wp_bind]
  iapply (part49_ok P m _ _ _ _) $$ [HO HA7 HK7 HA0 HK0 HP0 HA3 HK3 HP3]
  · isplitr; · iexact Hstd
    isplitl [HO]; · iexact HO
    isplitl [HA7]; · iexact HA7
    isplitl [HK7]; · iexact HK7
    isplitl [HA0]; · iexact HA0
    isplitl [HK0]; · iexact HK0
    isplitl [HP0]; · iexact HP0
    isplitl [HA3]; · iexact HA3
    isplitl [HK3]; · iexact HK3
    iexact HP3
  iintro %v1437 %v1446 %v1455 ⟨HO, HA7, HA0, HA3, HK6⟩
  try dsimp only
  rw [wp_bind]
  iapply (part50_ok P m _ _) $$ [HO HA6 HK6 HP6 HA0 HA3]
  · isplitr; · iexact Hstd
    isplitl [HO]; · iexact HO
    isplitl [HA6]; · iexact HA6
    isplitl [HK6]; · iexact HK6
    isplitl [HP6]; · iexact HP6
    isplitl [HA0]; · iexact HA0
    iexact HA3
  iintro  ⟨HO, HA6, HA0, HA3, HOB0, HK3⟩
  try dsimp only
  iapply (ag_recv P m 3 21 (by decide) (by exact rfl)) $$ [HO HA3]
  · isplitr; · iexact Hstd
    isplitl [HO]; · iexact HO
    iexact HA3
  iintro ⟨HO, HA3, HS3⟩
  ihave HOB1 := (show _ ⊢ (oPts c 768 768 (res P) : sProp 𝕄) from oPts_band 3 (res P)) $$ [HK3 HS3]
  · isplitl [HK3]; · iexact HK3
    iexact HS3
  try dsimp only
  iapply (ag_wait P m 6 21 (by decide) (by exact rfl)) $$ [HO HA6]
  · isplitr; · iexact Hstd
    isplitl [HO]; · iexact HO
    iexact HA6
  iintro ⟨HO, HA6, HK6⟩
  iapply (ag_recv P m 6 21 (by decide) (by exact rfl)) $$ [HO HA6]
  · isplitr; · iexact Hstd
    isplitl [HO]; · iexact HO
    iexact HA6
  iintro ⟨HO, HA6, HS6⟩
  ihave HOB2 := (show _ ⊢ (oPts c 1536 512 (res P) : sProp 𝕄) from oPts_band 6 (res P)) $$ [HK6 HS6]
  · isplitl [HK6]; · iexact HK6
    iexact HS6
  iapply W_ret
  iapply Hk
  isplitl [HO]; · iexact HO
  isplitl [HX]; · iexact HX
  isplitl [HWQ]; · iexact HWQ
  isplitl [HWO]; · iexact HWO
  isplitl [HXP]; · iexact HXP
  isplitl [HKP]; · iexact HKP
  isplitl [HVP]; · iexact HVP
  isplitl [HQP]; · iexact HQP
  isplitl [HKF]; · iexact HKF
  isplitl [HVF]; · iexact HVF
  isplitl [HBF]; · iexact HBF
  isplitl [HR0]; · iexact HR0
  isplitl [HA0]; · iexact HA0
  isplitl [HR1]; · iexact HR1
  isplitl [HA1]; · iexact HA1
  isplitl [HR2]; · iexact HR2
  isplitl [HA2]; · iexact HA2
  isplitl [HR3]; · iexact HR3
  isplitl [HA3]; · iexact HA3
  isplitl [HR4]; · iexact HR4
  isplitl [HA4]; · iexact HA4
  isplitl [HR5]; · iexact HR5
  isplitl [HA5]; · iexact HA5
  isplitl [HR6]; · iexact HR6
  isplitl [HA6]; · iexact HA6
  isplitl [HR7]; · iexact HR7
  isplitl [HA7]; · iexact HA7
  isplitl [HR8]; · iexact HR8
  isplitl [HA8]; · iexact HA8
  isplitl [HKA]; · iexact HKA
  isplitl [HKV]; · iexact HKV
  isplitl [HVA]; · iexact HVA
  isplitl [HL0]; · iexact HL0
  isplitl [HL3]; · iexact HL3
  isplitl [HL6]; · iexact HL6
  isplitl [HL1]; · iexact HL1
  isplitl [HL4]; · iexact HL4
  isplitl [HL7]; · iexact HL7
  isplitl [HL2]; · iexact HL2
  isplitl [HL5]; · iexact HL5
  isplitl [HL8]; · iexact HL8
  isplitl [HOB0]; · iexact HOB0
  isplitl [HOB1]; · iexact HOB1
  iexact HOB2

end Cert.Proto

end
-- ==== Proof.Point.lean ====
/-
# The kernel's one point

What a device starts from, what it ends with, and the body between them in the form the launch asks for.
-/
module

public import proofs.«01_k».proof.Proof.Body
public import proofs.«01_k».proof.Proof.Gen.KernelIdeal.Points
public import Idealize.ShloMosaic.Lib.Pipeline.Value

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Contents -/

/-- A device's activations, its columns of the query projection, its rows of the output projection. -/
def xOf (c : Dev nD) : Vec F S1x2048x1024 .f32 := m ((c : Thread nD τ).loc main_arg0)
def wqOf (c : Dev nD) : Vec F S1024x1024 .f32 := m ((c : Thread nD τ).loc main_arg1)
def woOf (c : Dev nD) : Vec F S1024x1024 .f32 := m ((c : Thread nD τ).loc main_arg4)

/-- A device's own partial result. -/
def Pm (c : Dev nD) : Vec F S2048x1024 .bf16 := P0 (CT m c (xOf m c) (wqOf m c)) (woOf m c)

/-- The rest of the keys' and of the values' arrays. -/
def kRest (c : Dev nD) : sProp 𝕄 := ((c : Thread nD τ).loc main_arg2) ↦[Finset.univ \ (kSl c).view.set]{fullShare} (m ((c : Thread nD τ).loc main_arg2))
def vRest (c : Dev nD) : sProp 𝕄 := ((c : Thread nD τ).loc main_arg3) ↦[Finset.univ \ (vSl c).view.set]{fullShare} (m ((c : Thread nD τ).loc main_arg3))

/-- Both arrays whole. -/
def kWhole (c : Dev nD) : sProp 𝕄 := ((c : Thread nD τ).loc main_arg2) ↦{fullShare} (m ((c : Thread nD τ).loc main_arg2))
def vWhole (c : Dev nD) : sProp 𝕄 := ((c : Thread nD τ).loc main_arg3) ↦{fullShare} (m ((c : Thread nD τ).loc main_arg3))

omit [FloatOps F] in
theorem kWhole_eq (c : Dev nD) : (kWhole m c : sProp 𝕄) = iprop(kArg m c ∗ kRest m c) := by
  unfold kWhole kArg kRest
  have h : (Finset.univ : Finset (Idx ((c : Thread nD τ).loc main_arg2))) = (kSl c).view.set ∪ (Finset.univ \ (kSl c).view.set) :=
    (Finset.union_sdiff_of_subset (Finset.subset_univ _)).symm
  conv_lhs => rw [h]
  exact BI.Entails.antisymm (pointsTo_union Finset.disjoint_sdiff).1 (pointsTo_union Finset.disjoint_sdiff).2
omit [FloatOps F] in
theorem vWhole_eq (c : Dev nD) : (vWhole m c : sProp 𝕄) = iprop(vArg m c ∗ vRest m c) := by
  unfold vWhole vArg vRest
  have h : (Finset.univ : Finset (Idx ((c : Thread nD τ).loc main_arg3))) = (vSl c).view.set ∪ (Finset.univ \ (vSl c).view.set) :=
    (Finset.union_sdiff_of_subset (Finset.subset_univ _)).symm
  conv_lhs => rw [h]
  exact BI.Entails.antisymm (pointsTo_union Finset.disjoint_sdiff).1 (pointsTo_union Finset.disjoint_sdiff).2

/-! ## Counters, tokens and credits one by one -/

/-- The device that holds the token of duty `j` of device `c`'s counters. -/
def payer (j : Fin 41) (c : Dev nD) : Dev nD :=
  if j.val < 3 then par ⟨j.val % 9, Nat.mod_lt _ (by decide)⟩ c
  else if j.val < 12 then c
  else if j.val < 21 then par ⟨(j.val - 12) % 9, Nat.mod_lt _ (by decide)⟩ c
  else if j.val < 30 then c
  else if j.val < 39 then par ⟨(j.val - 30) % 9, Nat.mod_lt _ (by decide)⟩ c
  else c

/-- The duties of device `c`'s counters: three at the barrier, one at each transfer's counter. -/
def tok (c : Dev nD) (j : Fin 41) : GSem nD τ sig × ℕ × Fin 3 :=
  if h : j.val < 3 then (barC c, 0, ⟨j.val, h⟩) else (dmaC ⟨(j.val + 1) % 42, Nat.mod_lt _ (by decide)⟩ c, 0, 0)

/-- What device `c` may pay. -/
def payToks (c : Dev nD) : sProp 𝕄 := bigSep Finset.univ fun j : Fin 41 => dutyTok ER (tok (payer j c) j).1 (tok (payer j c) j).2.1 (tok (payer j c) j).2.2
/-- Where device `c` stands at its counters: at the first round. -/
def ats (c : Dev nD) : sProp 𝕄 := bigSep Finset.univ fun j : Fin 39 => atPos ER (kcell (c, j)) 0 ∅ 0
/-- The payments device `c` receives. -/
def own (c : Dev nD) : List (Pay nD τ sig) :=
  (barC c, 1, 1) :: (barC c, 1, 1) :: (barC c, 1, 1) ::
    ((List.finRange 9).map fun k => (dmaC (rsR k) c, rsL k, ncr k)) ++ ((List.finRange 9).map fun k => (dmaC (agR k) c, agL k, ncr k))

omit [FloatOps F] in
theorem payToks_eq (c : Dev nD) : (payToks c : sProp 𝕄) = iprop(dutyTok ER (barC (par (bk 0) c)) 0 0 ∗ dutyTok ER (barC (par (bk 1) c)) 0 1 ∗ dutyTok ER (barC (par (bk 2) c)) 0 2 ∗ dutyTok ER (dmaC (rsS 0) c) 0 0 ∗ dutyTok ER (dmaC (rsS 1) c) 0 0 ∗ dutyTok ER (dmaC (rsS 2) c) 0 0 ∗ dutyTok ER (dmaC (rsS 3) c) 0 0 ∗ dutyTok ER (dmaC (rsS 4) c) 0 0 ∗ dutyTok ER (dmaC (rsS 5) c) 0 0 ∗ dutyTok ER (dmaC (rsS 6) c) 0 0 ∗ dutyTok ER (dmaC (rsS 7) c) 0 0 ∗ dutyTok ER (dmaC (rsS 8) c) 0 0 ∗ dutyTok ER (dmaC (rsR 0) (par 0 c)) 0 0 ∗ dutyTok ER (dmaC (rsR 1) (par 1 c)) 0 0 ∗ dutyTok ER (dmaC (rsR 2) (par 2 c)) 0 0 ∗ dutyTok ER (dmaC (rsR 3) (par 3 c)) 0 0 ∗ dutyTok ER (dmaC (rsR 4) (par 4 c)) 0 0 ∗ dutyTok ER (dmaC (rsR 5) (par 5 c)) 0 0 ∗ dutyTok ER (dmaC (rsR 6) (par 6 c)) 0 0 ∗ dutyTok ER (dmaC (rsR 7) (par 7 c)) 0 0 ∗ dutyTok ER (dmaC (rsR 8) (par 8 c)) 0 0 ∗ dutyTok ER (dmaC (agS 0) c) 0 0 ∗ dutyTok ER (dmaC (agS 1) c) 0 0 ∗ dutyTok ER (dmaC (agS 2) c) 0 0 ∗ dutyTok ER (dmaC (agS 3) c) 0 0 ∗ dutyTok ER (dmaC (agS 4) c) 0 0 ∗ dutyTok ER (dmaC (agS 5) c) 0 0 ∗ dutyTok ER (dmaC (agS 6) c) 0 0 ∗ dutyTok ER (dmaC (agS 7) c) 0 0 ∗ dutyTok ER (dmaC (agS 8) c) 0 0 ∗ dutyTok ER (dmaC (agR 0) (par 0 c)) 0 0 ∗ dutyTok ER (dmaC (agR 1) (par 1 c)) 0 0 ∗ dutyTok ER (dmaC (agR 2) (par 2 c)) 0 0 ∗ dutyTok ER (dmaC (agR 3) (par 3 c)) 0 0 ∗ dutyTok ER (dmaC (agR 4) (par 4 c)) 0 0 ∗ dutyTok ER (dmaC (agR 5) (par 5 c)) 0 0 ∗ dutyTok ER (dmaC (agR 6) (par 6 c)) 0 0 ∗ dutyTok ER (dmaC (agR 7) (par 7 c)) 0 0 ∗ dutyTok ER (dmaC (agR 8) (par 8 c)) 0 0 ∗ dutyTok ER (dmaC kS c) 0 0 ∗ dutyTok ER (dmaC vS c) 0 0) := by
  unfold payToks
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]
  rfl

omit [FloatOps F] in
theorem bigSep_cells (Φ : GSem nD τ sig → sProp 𝕄) (c : Dev nD) : (bigSep Finset.univ fun j : Fin 39 => Φ (kcell (c, j)) : sProp 𝕄) = iprop(Φ (barC c) ∗ Φ (dmaC (rsS 0) c) ∗ Φ (dmaC (rsS 1) c) ∗ Φ (dmaC (rsS 2) c) ∗ Φ (dmaC (rsS 3) c) ∗ Φ (dmaC (rsS 4) c) ∗ Φ (dmaC (rsS 5) c) ∗ Φ (dmaC (rsS 6) c) ∗ Φ (dmaC (rsS 7) c) ∗ Φ (dmaC (rsS 8) c) ∗ Φ (dmaC (rsR 0) c) ∗ Φ (dmaC (rsR 1) c) ∗ Φ (dmaC (rsR 2) c) ∗ Φ (dmaC (rsR 3) c) ∗ Φ (dmaC (rsR 4) c) ∗ Φ (dmaC (rsR 5) c) ∗ Φ (dmaC (rsR 6) c) ∗ Φ (dmaC (rsR 7) c) ∗ Φ (dmaC (rsR 8) c) ∗ Φ (dmaC (agS 0) c) ∗ Φ (dmaC (agS 1) c) ∗ Φ (dmaC (agS 2) c) ∗ Φ (dmaC (agS 3) c) ∗ Φ (dmaC (agS 4) c) ∗ Φ (dmaC (agS 5) c) ∗ Φ (dmaC (agS 6) c) ∗ Φ (dmaC (agS 7) c) ∗ Φ (dmaC (agS 8) c) ∗ Φ (dmaC (agR 0) c) ∗ Φ (dmaC (agR 1) c) ∗ Φ (dmaC (agR 2) c) ∗ Φ (dmaC (agR 3) c) ∗ Φ (dmaC (agR 4) c) ∗ Φ (dmaC (agR 5) c) ∗ Φ (dmaC (agR 6) c) ∗ Φ (dmaC (agR 7) c) ∗ Φ (dmaC (agR 8) c) ∗ Φ (dmaC kS c) ∗ Φ (dmaC vS c)) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38] (by decide) (by decide)]
  rfl

/-- Where device `c` stands once its counters' first round is over. -/
def atEnds (c : Dev nD) : sProp 𝕄 := bigSep Finset.univ fun j : Fin 39 => atPos ER (kcell (c, j)) 1 ∅ 0

omit [FloatOps F] in
theorem own_cred (c : Dev nD) : (cred (tallyL (own c)) : sProp 𝕄) ⊢ iprop(cred (tallyAt (barC c) 1 3) ∗ cred (tallyAt (dmaC (rsR 0) c) (rsL 0) (ncr 0)) ∗ cred (tallyAt (dmaC (rsR 1) c) (rsL 1) (ncr 1)) ∗ cred (tallyAt (dmaC (rsR 2) c) (rsL 2) (ncr 2)) ∗ cred (tallyAt (dmaC (rsR 3) c) (rsL 3) (ncr 3)) ∗ cred (tallyAt (dmaC (rsR 4) c) (rsL 4) (ncr 4)) ∗ cred (tallyAt (dmaC (rsR 5) c) (rsL 5) (ncr 5)) ∗ cred (tallyAt (dmaC (rsR 6) c) (rsL 6) (ncr 6)) ∗ cred (tallyAt (dmaC (rsR 7) c) (rsL 7) (ncr 7)) ∗ cred (tallyAt (dmaC (rsR 8) c) (rsL 8) (ncr 8)) ∗ cred (tallyAt (dmaC (agR 0) c) (agL 0) (ncr 0)) ∗ cred (tallyAt (dmaC (agR 1) c) (agL 1) (ncr 1)) ∗ cred (tallyAt (dmaC (agR 2) c) (agL 2) (ncr 2)) ∗ cred (tallyAt (dmaC (agR 3) c) (agL 3) (ncr 3)) ∗ cred (tallyAt (dmaC (agR 4) c) (agL 4) (ncr 4)) ∗ cred (tallyAt (dmaC (agR 5) c) (agL 5) (ncr 5)) ∗ cred (tallyAt (dmaC (agR 6) c) (agL 6) (ncr 6)) ∗ cred (tallyAt (dmaC (agR 7) c) (agL 7) (ncr 7)) ∗ cred (tallyAt (dmaC (agR 8) c) (agL 8) (ncr 8))) := by
  have e : tallyL (own c) = tallyL ((barC c, 1, 3) :: ((List.finRange 9).map fun k => (dmaC (rsR k) c, rsL k, ncr k)) ++ ((List.finRange 9).map fun k => (dmaC (agR k) c, agL k, ncr k))) := by
    unfold own
    simp only [List.cons_append, tallyL, TalkSites.Pay.tally]
    rw [← add_assoc, ← add_assoc, tallyAt_add, tallyAt_add]
  rw [e, TalkSites.cred_tallyL]
  exact BI.Entails.refl _

omit [FloatOps F] in
theorem scr0_of (c : Dev nD) (G : Vec F S2048x1024 .bf16) : (iprop(∃ f : Buf (Elt F) ((c : Thread nD τ).loc cc0_scratch0), ((c : Thread nD τ).loc cc0_scratch0) ↦{fullShare} f) : sProp 𝕄) ⊢ scr xpM c G 0 := by
  unfold scr
  rw [View.set_whole]
  iintro ⟨%f, Hf⟩
  iexists f
  isplitl [Hf]; · iexact Hf
  ipureintro
  exact fun x hx => absurd hx (Nat.not_lt_zero _)
omit [FloatOps F] in
theorem scr0_to (c : Dev nD) (G : Vec F S2048x1024 .bf16) (n : ℕ) : (scr xpM c G n : sProp 𝕄) ⊢ iprop(∃ f : Buf (Elt F) ((c : Thread nD τ).loc cc0_scratch0), ((c : Thread nD τ).loc cc0_scratch0) ↦{fullShare} f) := by
  unfold scr
  rw [View.set_whole]
  iintro ⟨%f, Hf, -⟩
  iexists f
  iexact Hf

omit [FloatOps F] in
theorem scr1_of (c : Dev nD) (G : Vec F S2048x1024 .bf16) : (iprop(∃ f : Buf (Elt F) ((c : Thread nD τ).loc cc0_scratch1), ((c : Thread nD τ).loc cc0_scratch1) ↦{fullShare} f) : sProp 𝕄) ⊢ scr kpM c G 0 := by
  unfold scr
  rw [View.set_whole]
  iintro ⟨%f, Hf⟩
  iexists f
  isplitl [Hf]; · iexact Hf
  ipureintro
  exact fun x hx => absurd hx (Nat.not_lt_zero _)
omit [FloatOps F] in
theorem scr1_to (c : Dev nD) (G : Vec F S2048x1024 .bf16) (n : ℕ) : (scr kpM c G n : sProp 𝕄) ⊢ iprop(∃ f : Buf (Elt F) ((c : Thread nD τ).loc cc0_scratch1), ((c : Thread nD τ).loc cc0_scratch1) ↦{fullShare} f) := by
  unfold scr
  rw [View.set_whole]
  iintro ⟨%f, Hf, -⟩
  iexists f
  iexact Hf

omit [FloatOps F] in
theorem scr2_of (c : Dev nD) (G : Vec F S2048x1024 .bf16) : (iprop(∃ f : Buf (Elt F) ((c : Thread nD τ).loc cc0_scratch2), ((c : Thread nD τ).loc cc0_scratch2) ↦{fullShare} f) : sProp 𝕄) ⊢ scr vpM c G 0 := by
  unfold scr
  rw [View.set_whole]
  iintro ⟨%f, Hf⟩
  iexists f
  isplitl [Hf]; · iexact Hf
  ipureintro
  exact fun x hx => absurd hx (Nat.not_lt_zero _)
omit [FloatOps F] in
theorem scr2_to (c : Dev nD) (G : Vec F S2048x1024 .bf16) (n : ℕ) : (scr vpM c G n : sProp 𝕄) ⊢ iprop(∃ f : Buf (Elt F) ((c : Thread nD τ).loc cc0_scratch2), ((c : Thread nD τ).loc cc0_scratch2) ↦{fullShare} f) := by
  unfold scr
  rw [View.set_whole]
  iintro ⟨%f, Hf, -⟩
  iexists f
  iexact Hf

omit [FloatOps F] in
theorem scr3_of (c : Dev nD) (G : Vec F S2048x1024 .bf16) : (iprop(∃ f : Buf (Elt F) ((c : Thread nD τ).loc cc0_scratch3), ((c : Thread nD τ).loc cc0_scratch3) ↦{fullShare} f) : sProp 𝕄) ⊢ scr qpM c G 0 := by
  unfold scr
  rw [View.set_whole]
  iintro ⟨%f, Hf⟩
  iexists f
  isplitl [Hf]; · iexact Hf
  ipureintro
  exact fun x hx => absurd hx (Nat.not_lt_zero _)
omit [FloatOps F] in
theorem scr3_to (c : Dev nD) (G : Vec F S2048x1024 .bf16) (n : ℕ) : (scr qpM c G n : sProp 𝕄) ⊢ iprop(∃ f : Buf (Elt F) ((c : Thread nD τ).loc cc0_scratch3), ((c : Thread nD τ).loc cc0_scratch3) ↦{fullShare} f) := by
  unfold scr
  rw [View.set_whole]
  iintro ⟨%f, Hf, -⟩
  iexists f
  iexact Hf

omit [FloatOps F] in
theorem rb0_eq (c : Dev nD) : (rbAny 0 c : sProp 𝕄) = iprop(∃ f : Buf (Elt F) ((c : Thread nD τ).loc cc0_scratch5), ((c : Thread nD τ).loc cc0_scratch5) ↦{fullShare} f) := by
  unfold rbAny rbPts
  have h : (rbM 0).view.set = Finset.univ := View.set_whole (b := cc0_scratch5)
  rw [h]

omit [FloatOps F] in
theorem rb1_eq (c : Dev nD) : (rbAny 1 c : sProp 𝕄) = iprop(∃ f : Buf (Elt F) ((c : Thread nD τ).loc cc0_scratch6), ((c : Thread nD τ).loc cc0_scratch6) ↦{fullShare} f) := by
  unfold rbAny rbPts
  have h : (rbM 1).view.set = Finset.univ := View.set_whole (b := cc0_scratch6)
  rw [h]

omit [FloatOps F] in
theorem rb2_eq (c : Dev nD) : (rbAny 2 c : sProp 𝕄) = iprop(∃ f : Buf (Elt F) ((c : Thread nD τ).loc cc0_scratch7), ((c : Thread nD τ).loc cc0_scratch7) ↦{fullShare} f) := by
  unfold rbAny rbPts
  have h : (rbM 2).view.set = Finset.univ := View.set_whole (b := cc0_scratch7)
  rw [h]

omit [FloatOps F] in
theorem rb3_eq (c : Dev nD) : (rbAny 3 c : sProp 𝕄) = iprop(∃ f : Buf (Elt F) ((c : Thread nD τ).loc cc0_scratch8), ((c : Thread nD τ).loc cc0_scratch8) ↦{fullShare} f) := by
  unfold rbAny rbPts
  have h : (rbM 3).view.set = Finset.univ := View.set_whole (b := cc0_scratch8)
  rw [h]

omit [FloatOps F] in
theorem rb4_eq (c : Dev nD) : (rbAny 4 c : sProp 𝕄) = iprop(∃ f : Buf (Elt F) ((c : Thread nD τ).loc cc0_scratch9), ((c : Thread nD τ).loc cc0_scratch9) ↦{fullShare} f) := by
  unfold rbAny rbPts
  have h : (rbM 4).view.set = Finset.univ := View.set_whole (b := cc0_scratch9)
  rw [h]

omit [FloatOps F] in
theorem rb5_eq (c : Dev nD) : (rbAny 5 c : sProp 𝕄) = iprop(∃ f : Buf (Elt F) ((c : Thread nD τ).loc cc0_scratch10), ((c : Thread nD τ).loc cc0_scratch10) ↦{fullShare} f) := by
  unfold rbAny rbPts
  have h : (rbM 5).view.set = Finset.univ := View.set_whole (b := cc0_scratch10)
  rw [h]

omit [FloatOps F] in
theorem rb6_eq (c : Dev nD) : (rbAny 6 c : sProp 𝕄) = iprop(∃ f : Buf (Elt F) ((c : Thread nD τ).loc cc0_scratch11), ((c : Thread nD τ).loc cc0_scratch11) ↦{fullShare} f) := by
  unfold rbAny rbPts
  have h : (rbM 6).view.set = Finset.univ := View.set_whole (b := cc0_scratch11)
  rw [h]

omit [FloatOps F] in
theorem rb7_eq (c : Dev nD) : (rbAny 7 c : sProp 𝕄) = iprop(∃ f : Buf (Elt F) ((c : Thread nD τ).loc cc0_scratch12), ((c : Thread nD τ).loc cc0_scratch12) ↦{fullShare} f) := by
  unfold rbAny rbPts
  have h : (rbM 7).view.set = Finset.univ := View.set_whole (b := cc0_scratch12)
  rw [h]

omit [FloatOps F] in
theorem rb8_eq (c : Dev nD) : (rbAny 8 c : sProp 𝕄) = iprop(∃ f : Buf (Elt F) ((c : Thread nD τ).loc cc0_scratch13), ((c : Thread nD τ).loc cc0_scratch13) ↦{fullShare} f) := by
  unfold rbAny rbPts
  have h : (rbM 8).view.set = Finset.univ := View.set_whole (b := cc0_scratch13)
  rw [h]

omit [FloatOps F] in
theorem hold_xM_of (c : Dev nD) (X : Vec F S1x2048x1024 .f32) : (iprop(∃ f : Buf (Elt F) ((c : Thread nD τ).loc cc0_stg0_0), ⌜f = X⌝ ∗ ((c : Thread nD τ).loc cc0_stg0_0) ↦{fullShare} f) : sProp 𝕄) ⊢ hold xM c X := by
  unfold hold
  rw [View.set_whole]
  simp only [View.read_whole]
  iintro ⟨%f, %h, Hf⟩
  iexists f
  isplitl [Hf]; · iexact Hf
  ipureintro; exact h
omit [FloatOps F] in
theorem hold_xM_to (c : Dev nD) (X : Vec F S1x2048x1024 .f32) : (hold xM c X : sProp 𝕄) ⊢ iprop(∃ f : Buf (Elt F) ((c : Thread nD τ).loc cc0_stg0_0), ⌜f = X⌝ ∗ ((c : Thread nD τ).loc cc0_stg0_0) ↦{fullShare} f) := by
  unfold hold
  rw [View.set_whole]
  simp only [View.read_whole]
  iintro ⟨%f, Hf, %h⟩
  iexists f
  isplitr; · ipureintro; exact h
  iexact Hf

omit [FloatOps F] in
theorem hold_wqM_of (c : Dev nD) (X : Vec F S1024x1024 .f32) : (iprop(∃ f : Buf (Elt F) ((c : Thread nD τ).loc cc0_stg1_0), ⌜f = X⌝ ∗ ((c : Thread nD τ).loc cc0_stg1_0) ↦{fullShare} f) : sProp 𝕄) ⊢ hold wqM c X := by
  unfold hold
  rw [View.set_whole]
  simp only [View.read_whole]
  iintro ⟨%f, %h, Hf⟩
  iexists f
  isplitl [Hf]; · iexact Hf
  ipureintro; exact h
omit [FloatOps F] in
theorem hold_wqM_to (c : Dev nD) (X : Vec F S1024x1024 .f32) : (hold wqM c X : sProp 𝕄) ⊢ iprop(∃ f : Buf (Elt F) ((c : Thread nD τ).loc cc0_stg1_0), ⌜f = X⌝ ∗ ((c : Thread nD τ).loc cc0_stg1_0) ↦{fullShare} f) := by
  unfold hold
  rw [View.set_whole]
  simp only [View.read_whole]
  iintro ⟨%f, Hf, %h⟩
  iexists f
  isplitr; · ipureintro; exact h
  iexact Hf

omit [FloatOps F] in
theorem hold_woM_of (c : Dev nD) (X : Vec F S1024x1024 .f32) : (iprop(∃ f : Buf (Elt F) ((c : Thread nD τ).loc cc0_stg2_0), ⌜f = X⌝ ∗ ((c : Thread nD τ).loc cc0_stg2_0) ↦{fullShare} f) : sProp 𝕄) ⊢ hold woM c X := by
  unfold hold
  rw [View.set_whole]
  simp only [View.read_whole]
  iintro ⟨%f, %h, Hf⟩
  iexists f
  isplitl [Hf]; · iexact Hf
  ipureintro; exact h
omit [FloatOps F] in
theorem hold_woM_to (c : Dev nD) (X : Vec F S1024x1024 .f32) : (hold woM c X : sProp 𝕄) ⊢ iprop(∃ f : Buf (Elt F) ((c : Thread nD τ).loc cc0_stg2_0), ⌜f = X⌝ ∗ ((c : Thread nD τ).loc cc0_stg2_0) ↦{fullShare} f) := by
  unfold hold
  rw [View.set_whole]
  simp only [View.read_whole]
  iintro ⟨%f, Hf, %h⟩
  iexists f
  isplitr; · ipureintro; exact h
  iexact Hf

omit [FloatOps F] in
theorem rbAt_any (k : Fin 9) (c : Dev nD) (X : Vec F ⟨2, ![hs k, 1024]⟩ .bf16) : (rbAt k c X : sProp 𝕄) ⊢ rbAny k c := by
  unfold rbAt rbAny
  iintro ⟨%f, Hf, -⟩
  iexists f; iexact Hf

theorem oPts_whole (c : Dev nD) (f : Vec F S2048x1024 .bf16) : (((c : Thread nD τ).loc cc0_stg3_0) ↦{fullShare} f : sProp 𝕄) = iprop(oPts c 0 768 f ∗ oPts c 768 768 f ∗ oPts c 1536 512 f) := by
  have h : (oPts c 0 (768 + (768 + 512)) f : sProp 𝕄) = iprop(oPts c 0 768 f ∗ oPts c 768 768 f ∗ oPts c 1536 512 f) := by
    rw [oPts_append c 0 768 (768 + 512) f, oPts_append c (0 + 768) 768 512 f]
  rw [← h]
  unfold oPts
  have e : rowsS 0 (768 + (768 + 512)) = (Finset.univ : Finset S2048x1024.Idx) := by
    ext x
    rw [mem_rowsS]
    have := (x 0).isLt
    exact ⟨fun _ => Finset.mem_univ _, fun _ => ⟨Nat.zero_le _, by show (x 0).val < 0 + 2048; have h2 : (x 0).val < 2048 := (x 0).isLt; omega⟩⟩
  rw [e]

theorem std_records (P : Dev nD → Vec F S2048x1024 .bf16) : (std P m : sProp 𝕄) ⊢ records P m := by
  unfold std
  iintro ⟨H, -⟩
  iexact H

/-! ## The start and the end -/

/-- What device `c` starts from, its scratch apart. -/
def start (c : Dev nD) : sProp 𝕄 :=
  iprop(std (Pm m) m ∗ ats c ∗ payToks c ∗ cred (tallyL (own c)) ∗ kWhole m c ∗ vWhole m c)

/-- Device `c`'s counters at zero. -/
def zeros (c : Dev nD) : sProp 𝕄 := bigSep Finset.univ fun j : Fin 39 => semVal (kcell (c, j)) 0

/-- What device `c` ends with, its scratch apart. -/
def finish (c : Dev nD) : sProp 𝕄 := iprop(zeros c ∗ kWhole m c ∗ vWhole m c)

/-- The counters' first round over, they close at zero. -/
theorem close_all (P : Dev nD → Vec F S2048x1024 .bf16) (c : Dev nD) : iprop(records P m ∗ atEnds c) ⊢ (|={Set.univ}=> zeros c : sProp 𝕄) := by
  unfold atEnds zeros
  refine (bigSep_with_persistent (R := records P m) (Ψ := fun j : Fin 39 => iprop(|={Set.univ}=> semVal (kcell (c, j)) 0)) fun j _ => ?_).trans (bigSep_fupd _ _)
  iintro ⟨#HR, Hat⟩
  ihave Hb := (records_at P m (c, j)) $$ HR
  icases Hb with ⟨⟨%κ, #HI⟩, #Hr⟩
  iapply (Rounds.cell_close ER (Rd P m) (Set.mem_univ κ) (fun h => h) (R := 0 + 1) (duties_later P m (kcell (c, j))))
  isplitr; · iexact HI
  iexact Hat

set_option maxHeartbeats 4000000 in
/-- The body, from the start to the end. -/
theorem point_ok (c : Dev nD) (Q : PUnit → sProp 𝕄) :
    iprop(start m c ∗ Pipeline.scopedRest (Ix := ℕ) (Name := ℕ) (U := UU) (Lvl := ℕ) (Val := Elt F) spec0 c ∗ oweN c 0 ∗ hold xM c (xOf m c) ∗ hold wqM c (wqOf m c) ∗ hold woM c (woOf m c) ∗ (∃ f : Vec F S2048x1024 .bf16, ((c : Thread nD τ).loc cc0_stg3_0) ↦{fullShare} f))
      ⊢ iprop((finish m c ∗ Pipeline.scopedRest (Ix := ℕ) (Name := ℕ) (U := UU) (Lvl := ℕ) (Val := Elt F) spec0 c ∗ oweN c 21 ∗ hold xM c (xOf m c) ∗ hold wqM c (wqOf m c) ∗ hold woM c (woOf m c) ∗ (((c : Thread nD τ).loc cc0_stg3_0) ↦{fullShare} res (Pm m)) -∗ Q ⟨⟩)
          -∗ W c (cc0__body (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19) Q) := by
  unfold start ats finish
  rw [scopedRest0_eq, payToks_eq, bigSep_cells (fun g => atPos ER g 0 ∅ 0) c, kWhole_eq, vWhole_eq]

  iintro ⟨⟨#Hstd, ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31, HA32, HA33, HA34, HA35, HA36, HA37, HA38⟩, ⟨HT0, HT1, HT2, HT3, HT4, HT5, HT6, HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38, HT39, HT40⟩, Hcr, ⟨HKA, HKR⟩, ⟨HVA, HVR⟩⟩, ⟨HS0, HS1, HS2, HS3, ⟨%kv0, HS4⟩, HS5, HS6, HS7, HS8, HS9, HS10, HS11, HS12, HS13⟩, HO, HX, HWQ, HWO, ⟨%ob, HOB⟩⟩ Hk
  ihave Hc := (own_cred c) $$ Hcr
  icases Hc with ⟨HCB, HCR0, HCR1, HCR2, HCR3, HCR4, HCR5, HCR6, HCR7, HCR8, HCA0, HCA1, HCA2, HCA3, HCA4, HCA5, HCA6, HCA7, HCA8⟩
  ihave Ho := (Entails.of_eq (oPts_whole c ob)) $$ HOB
  icases Ho with ⟨HO0, HO1, HO2⟩
  ihave HS0 := (scr0_of c (XP (xOf m c))) $$ HS0
  ihave HS1 := (scr1_of c (KP (kVal m c))) $$ HS1
  ihave HS2 := (scr2_of c (KP (vVal m c))) $$ HS2
  ihave HS3 := (scr3_of c (QP (xOf m c) (wqOf m c))) $$ HS3
  ihave HS5 := (Entails.of_eq (rb0_eq c).symm) $$ HS5
  ihave HS6 := (Entails.of_eq (rb1_eq c).symm) $$ HS6
  ihave HS7 := (Entails.of_eq (rb2_eq c).symm) $$ HS7
  ihave HS8 := (Entails.of_eq (rb3_eq c).symm) $$ HS8
  ihave HS9 := (Entails.of_eq (rb4_eq c).symm) $$ HS9
  ihave HS10 := (Entails.of_eq (rb5_eq c).symm) $$ HS10
  ihave HS11 := (Entails.of_eq (rb6_eq c).symm) $$ HS11
  ihave HS12 := (Entails.of_eq (rb7_eq c).symm) $$ HS12
  ihave HS13 := (Entails.of_eq (rb8_eq c).symm) $$ HS13
  unfold W
  iapply wp_fupd
  iapply (body_ok (Pm m) m (xOf m c) (wqOf m c) (woOf m c) kv0 ob rfl) $$ [HO HX HWQ HWO HS0 HS1 HS2 HS3 HS4 HKA HVA HT39 HT40 HA37 HA38 HT0 HS5 HS10 HS12 HT1 HS6 HS8 HS13 HT2 HS7 HS9 HS11 HCB HA0 HT3 HT12 HA1 HA10 HCR0 HT21 HT30 HA19 HA28 HCA0 HT4 HT13 HA2 HA11 HCR1 HT22 HT31 HA20 HA29 HCA1 HT5 HT14 HA3 HA12 HCR2 HT23 HT32 HA21 HA30 HCA2 HT6 HT15 HA4 HA13 HCR3 HT24 HT33 HA22 HA31 HCA3 HT7 HT16 HA5 HA14 HCR4 HT25 HT34 HA23 HA32 HCA4 HT8 HT17 HA6 HA15 HCR5 HT26 HT35 HA24 HA33 HCA5 HT9 HT18 HA7 HA16 HCR6 HT27 HT36 HA25 HA34 HCA6 HT10 HT19 HA8 HA17 HCR7 HT28 HT37 HA26 HA35 HCA7 HT11 HT20 HA9 HA18 HCR8 HT29 HT38 HA27 HA36 HCA8 HO0 HO1 HO2]
  · isplitr; · iexact Hstd
    unfold before
    isplitl [HO]
    · iexact HO
    isplitl [HX]
    · iexact HX
    isplitl [HWQ]
    · iexact HWQ
    isplitl [HWO]
    · iexact HWO
    isplitl [HS0]
    · iexact HS0
    isplitl [HS1]
    · iexact HS1
    isplitl [HS2]
    · iexact HS2
    isplitl [HS3]
    · iexact HS3
    isplitl [HS4]
    · unfold kvPts; iexact HS4
    isplitl [HKA]
    · iexact HKA
    isplitl [HVA]
    · iexact HVA
    isplitl [HT39]
    · iexact HT39
    isplitl [HT40]
    · iexact HT40
    isplitl [HA37]
    · iexact HA37
    isplitl [HA38]
    · iexact HA38
    isplitl [HT0]
    · iexact HT0
    isplitl [HS5 HS10 HS12]
    · rw [barPay_give 0]; isplitl [HS5]; · iexact HS5
      isplitl [HS10]; · iexact HS10
      iexact HS12
    isplitl [HT1]
    · iexact HT1
    isplitl [HS6 HS8 HS13]
    · rw [barPay_give 1]; isplitl [HS6]; · iexact HS6
      isplitl [HS8]; · iexact HS8
      iexact HS13
    isplitl [HT2]
    · iexact HT2
    isplitl [HS7 HS9 HS11]
    · rw [barPay_give 2]; isplitl [HS7]; · iexact HS7
      isplitl [HS9]; · iexact HS9
      iexact HS11
    isplitl [HCB]
    · iexact HCB
    isplitl [HA0]
    · iexact HA0
    isplitl [HT3 HT12 HA1 HA10 HCR0]
    · unfold R0; rw [dmaAmt_rsR]
      isplitl [HT3]; · iexact HT3
      isplitl [HT12]; · iexact HT12
      isplitl [HA1]; · iexact HA1
      isplitl [HA10]; · iexact HA10
      iexact HCR0
    isplitl [HT21 HT30 HA19 HA28 HCA0]
    · unfold A0; rw [dmaAmt_agR]
      isplitl [HT21]; · iexact HT21
      isplitl [HT30]; · iexact HT30
      isplitl [HA19]; · iexact HA19
      isplitl [HA28]; · iexact HA28
      iexact HCA0
    isplitl [HT4 HT13 HA2 HA11 HCR1]
    · unfold R0; rw [dmaAmt_rsR]
      isplitl [HT4]; · iexact HT4
      isplitl [HT13]; · iexact HT13
      isplitl [HA2]; · iexact HA2
      isplitl [HA11]; · iexact HA11
      iexact HCR1
    isplitl [HT22 HT31 HA20 HA29 HCA1]
    · unfold A0; rw [dmaAmt_agR]
      isplitl [HT22]; · iexact HT22
      isplitl [HT31]; · iexact HT31
      isplitl [HA20]; · iexact HA20
      isplitl [HA29]; · iexact HA29
      iexact HCA1
    isplitl [HT5 HT14 HA3 HA12 HCR2]
    · unfold R0; rw [dmaAmt_rsR]
      isplitl [HT5]; · iexact HT5
      isplitl [HT14]; · iexact HT14
      isplitl [HA3]; · iexact HA3
      isplitl [HA12]; · iexact HA12
      iexact HCR2
    isplitl [HT23 HT32 HA21 HA30 HCA2]
    · unfold A0; rw [dmaAmt_agR]
      isplitl [HT23]; · iexact HT23
      isplitl [HT32]; · iexact HT32
      isplitl [HA21]; · iexact HA21
      isplitl [HA30]; · iexact HA30
      iexact HCA2
    isplitl [HT6 HT15 HA4 HA13 HCR3]
    · unfold R0; rw [dmaAmt_rsR]
      isplitl [HT6]; · iexact HT6
      isplitl [HT15]; · iexact HT15
      isplitl [HA4]; · iexact HA4
      isplitl [HA13]; · iexact HA13
      iexact HCR3
    isplitl [HT24 HT33 HA22 HA31 HCA3]
    · unfold A0; rw [dmaAmt_agR]
      isplitl [HT24]; · iexact HT24
      isplitl [HT33]; · iexact HT33
      isplitl [HA22]; · iexact HA22
      isplitl [HA31]; · iexact HA31
      iexact HCA3
    isplitl [HT7 HT16 HA5 HA14 HCR4]
    · unfold R0; rw [dmaAmt_rsR]
      isplitl [HT7]; · iexact HT7
      isplitl [HT16]; · iexact HT16
      isplitl [HA5]; · iexact HA5
      isplitl [HA14]; · iexact HA14
      iexact HCR4
    isplitl [HT25 HT34 HA23 HA32 HCA4]
    · unfold A0; rw [dmaAmt_agR]
      isplitl [HT25]; · iexact HT25
      isplitl [HT34]; · iexact HT34
      isplitl [HA23]; · iexact HA23
      isplitl [HA32]; · iexact HA32
      iexact HCA4
    isplitl [HT8 HT17 HA6 HA15 HCR5]
    · unfold R0; rw [dmaAmt_rsR]
      isplitl [HT8]; · iexact HT8
      isplitl [HT17]; · iexact HT17
      isplitl [HA6]; · iexact HA6
      isplitl [HA15]; · iexact HA15
      iexact HCR5
    isplitl [HT26 HT35 HA24 HA33 HCA5]
    · unfold A0; rw [dmaAmt_agR]
      isplitl [HT26]; · iexact HT26
      isplitl [HT35]; · iexact HT35
      isplitl [HA24]; · iexact HA24
      isplitl [HA33]; · iexact HA33
      iexact HCA5
    isplitl [HT9 HT18 HA7 HA16 HCR6]
    · unfold R0; rw [dmaAmt_rsR]
      isplitl [HT9]; · iexact HT9
      isplitl [HT18]; · iexact HT18
      isplitl [HA7]; · iexact HA7
      isplitl [HA16]; · iexact HA16
      iexact HCR6
    isplitl [HT27 HT36 HA25 HA34 HCA6]
    · unfold A0; rw [dmaAmt_agR]
      isplitl [HT27]; · iexact HT27
      isplitl [HT36]; · iexact HT36
      isplitl [HA25]; · iexact HA25
      isplitl [HA34]; · iexact HA34
      iexact HCA6
    isplitl [HT10 HT19 HA8 HA17 HCR7]
    · unfold R0; rw [dmaAmt_rsR]
      isplitl [HT10]; · iexact HT10
      isplitl [HT19]; · iexact HT19
      isplitl [HA8]; · iexact HA8
      isplitl [HA17]; · iexact HA17
      iexact HCR7
    isplitl [HT28 HT37 HA26 HA35 HCA7]
    · unfold A0; rw [dmaAmt_agR]
      isplitl [HT28]; · iexact HT28
      isplitl [HT37]; · iexact HT37
      isplitl [HA26]; · iexact HA26
      isplitl [HA35]; · iexact HA35
      iexact HCA7
    isplitl [HT11 HT20 HA9 HA18 HCR8]
    · unfold R0; rw [dmaAmt_rsR]
      isplitl [HT11]; · iexact HT11
      isplitl [HT20]; · iexact HT20
      isplitl [HA9]; · iexact HA9
      isplitl [HA18]; · iexact HA18
      iexact HCR8
    isplitl [HT29 HT38 HA27 HA36 HCA8]
    · unfold A0; rw [dmaAmt_agR]
      isplitl [HT29]; · iexact HT29
      isplitl [HT38]; · iexact HT38
      isplitl [HA27]; · iexact HA27
      isplitl [HA36]; · iexact HA36
      iexact HCA8
    isplitl [HO0]
    · iexact HO0
    isplitl [HO1]
    · iexact HO1
    iexact HO2
  unfold after R3 A3
  iintro ⟨HO, HX, HWQ, HWO, HS0, HS1, HS2, HS3, HA37, HA38, HA0, ⟨HA1, HA10⟩, ⟨HA19, HA28⟩, ⟨HA2, HA11⟩, ⟨HA20, HA29⟩, ⟨HA3, HA12⟩, ⟨HA21, HA30⟩, ⟨HA4, HA13⟩, ⟨HA22, HA31⟩, ⟨HA5, HA14⟩, ⟨HA23, HA32⟩, ⟨HA6, HA15⟩, ⟨HA24, HA33⟩, ⟨HA7, HA16⟩, ⟨HA25, HA34⟩, ⟨HA8, HA17⟩, ⟨HA26, HA35⟩, ⟨HA9, HA18⟩, ⟨HA27, HA36⟩, HKA, HS4, HVA, HS5, HS8, HS11, HS6, HS9, HS12, HS7, HS10, HS13, HO0, HO1, HO2⟩
  ihave HR := (std_records m (Pm m)) $$ Hstd
  icases HR with #HR
  imod (close_all m (Pm m) c) $$ [HA0 HA1 HA2 HA3 HA4 HA5 HA6 HA7 HA8 HA9 HA10 HA11 HA12 HA13 HA14 HA15 HA16 HA17 HA18 HA19 HA20 HA21 HA22 HA23 HA24 HA25 HA26 HA27 HA28 HA29 HA30 HA31 HA32 HA33 HA34 HA35 HA36 HA37 HA38] with HZ
  · isplitr; · iexact HR
    unfold atEnds
    rw [bigSep_cells (fun g => atPos ER g 1 ∅ 0) c]
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HA14]; · iexact HA14
    isplitl [HA15]; · iexact HA15
    isplitl [HA16]; · iexact HA16
    isplitl [HA17]; · iexact HA17
    isplitl [HA18]; · iexact HA18
    isplitl [HA19]; · iexact HA19
    isplitl [HA20]; · iexact HA20
    isplitl [HA21]; · iexact HA21
    isplitl [HA22]; · iexact HA22
    isplitl [HA23]; · iexact HA23
    isplitl [HA24]; · iexact HA24
    isplitl [HA25]; · iexact HA25
    isplitl [HA26]; · iexact HA26
    isplitl [HA27]; · iexact HA27
    isplitl [HA28]; · iexact HA28
    isplitl [HA29]; · iexact HA29
    isplitl [HA30]; · iexact HA30
    isplitl [HA31]; · iexact HA31
    isplitl [HA32]; · iexact HA32
    isplitl [HA33]; · iexact HA33
    isplitl [HA34]; · iexact HA34
    isplitl [HA35]; · iexact HA35
    isplitl [HA36]; · iexact HA36
    isplitl [HA37]; · iexact HA37
    iexact HA38
  imodintro
  iapply Hk
  isplitl [HZ HKA HKR HVA HVR]
  · isplitl [HZ]; · iexact HZ
    isplitl [HKA HKR]
    · isplitl [HKA]; · iexact HKA
      iexact HKR
    isplitl [HVA]; · iexact HVA
    iexact HVR
  isplitl [HS0 HS1 HS2 HS3 HS4 HS5 HS6 HS7 HS8 HS9 HS10 HS11 HS12 HS13]
  · isplitl [HS0]; · iapply (scr0_to c _ _); iexact HS0
    isplitl [HS1]; · iapply (scr1_to c _ _); iexact HS1
    isplitl [HS2]; · iapply (scr2_to c _ _); iexact HS2
    isplitl [HS3]; · iapply (scr3_to c _ _); iexact HS3
    isplitl [HS4]; · iexists _; unfold kvPts; iexact HS4
    isplitl [HS5]; · iapply (Entails.of_eq (rb0_eq c)); iapply (rbAt_any 0 c _); iexact HS5
    isplitl [HS6]; · iapply (Entails.of_eq (rb1_eq c)); iapply (rbAt_any 1 c _); iexact HS6
    isplitl [HS7]; · iapply (Entails.of_eq (rb2_eq c)); iapply (rbAt_any 2 c _); iexact HS7
    isplitl [HS8]; · iapply (Entails.of_eq (rb3_eq c)); iapply (rbAt_any 3 c _); iexact HS8
    isplitl [HS9]; · iapply (Entails.of_eq (rb4_eq c)); iapply (rbAt_any 4 c _); iexact HS9
    isplitl [HS10]; · iapply (Entails.of_eq (rb5_eq c)); iapply (rbAt_any 5 c _); iexact HS10
    isplitl [HS11]; · iapply (Entails.of_eq (rb6_eq c)); iapply (rbAt_any 6 c _); iexact HS11
    isplitl [HS12]; · iapply (Entails.of_eq (rb7_eq c)); iapply (rbAt_any 7 c _); iexact HS12
    iapply (Entails.of_eq (rb8_eq c)); iapply (rbAt_any 8 c _); iexact HS13
  isplitl [HO]; · iexact HO
  isplitl [HX]; · iexact HX
  isplitl [HWQ]; · iexact HWQ
  isplitl [HWO]; · iexact HWO
  rw [oPts_whole]
  isplitl [HO0]; · iexact HO0
  isplitl [HO1]; · iexact HO1
  iexact HO2

end Cert.Proto

end
-- ==== Proof.Launch.lean ====
/-
# The launch

Every device's counters are put under their rounds, the tokens of the payments dealt to the devices that make them, and the
kernel's one point run on every device.
-/
module

public import proofs.«01_k».proof.Proof.Point
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.Proto

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL credOf)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

def Φ₀ (c : Dev nD) : sProp 𝕄 := iprop(start m c ∗ Pipeline.scopedRest (Ix := ℕ) (Name := ℕ) (U := UU) (Lvl := ℕ) (Val := Elt F) spec0 c)
def Φ₁ (c : Dev nD) : sProp 𝕄 := iprop(finish m c ∗ Pipeline.scopedRest (Ix := ℕ) (Name := ℕ) (U := UU) (Lvl := ℕ) (Val := Elt F) spec0 c)

/-- What a device owes at the start. -/
def O₀ (c : Dev nD) : CellTallies nD τ sig ℕ := tallyL (due c)

/-- One point: each staged argument as it was, the result's staging buffer holding the finished result. -/
def dats (_ : Fin 1) (c : Dev nD) : Dat τ (Elt F) ℕ ℕ UU ℕ cfg0 c where
  A w := m ((cfg0.win w).arr.view.loc (c : Thread nD τ))
  after w _ := match w with
    | ⟨0, _⟩ => xOf m c
    | ⟨1, _⟩ => wqOf m c
    | ⟨2, _⟩ => woOf m c
    | ⟨3, _⟩ => res (Pm m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The staged arguments are the arguments -/

theorem blk0_read (t : Fin cfg0.N) (A : Vec F S1x2048x1024 .f32) : (win0_0.blk t).view.read (Elt F) A = A := by
  funext x
  show A ((win0_0.rect t).emb x) = A x
  refine congrArg A (funext fun a => Fin.ext ?_)
  rw [Rect.emb_apply]
  show 0 * _ + 1 * (x a).val = (x a).val
  omega
theorem blk1_read (t : Fin cfg0.N) (A : Vec F S1024x1024 .f32) : (win0_1.blk t).view.read (Elt F) A = A := by
  funext x
  show A ((win0_1.rect t).emb x) = A x
  refine congrArg A (funext fun a => Fin.ext ?_)
  rw [Rect.emb_apply]
  show 0 * _ + 1 * (x a).val = (x a).val
  omega
theorem blk2_read (t : Fin cfg0.N) (A : Vec F S1024x1024 .f32) : (win0_2.blk t).view.read (Elt F) A = A := by
  funext x
  show A ((win0_2.rect t).emb x) = A x
  refine congrArg A (funext fun a => Fin.ext ?_)
  rw [Rect.emb_apply]
  show 0 * _ + 1 * (x a).val = (x a).val
  omega
theorem blk3_read (t : Fin cfg0.N) (A : Vec F S2048x1024 .bf16) : (win0_3.blk t).view.read (Elt F) A = A := by
  funext x
  show A ((win0_3.rect t).emb x) = A x
  refine congrArg A (funext fun a => Fin.ext ?_)
  rw [Rect.emb_apply]
  show 0 * _ + 1 * (x a).val = (x a).val
  omega

theorem before0 (c : Dev nD) (d) : (dats m 0 c).before (0 : Fin 4) t0_0 d = xOf m c := by
  unfold Dat.before
  rw [if_pos (fetch0_0 t0_0)]
  exact blk0_read (F := F) t0_0 (xOf m c)
theorem before1 (c : Dev nD) (d) : (dats m 0 c).before (1 : Fin 4) t0_0 d = wqOf m c := by
  unfold Dat.before
  rw [if_pos (fetch0_1 t0_0)]
  exact blk1_read (F := F) t0_0 (wqOf m c)
theorem before2 (c : Dev nD) (d) : (dats m 0 c).before (2 : Fin 4) t0_0 d = woOf m c := by
  unfold Dat.before
  rw [if_pos (fetch0_2 t0_0)]
  exact blk2_read (F := F) t0_0 (woOf m c)

/-! ## The body, as the launch asks for it -/

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with known contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, held c cc0_stg0_0 ((dats m 0 c).before (0 : Fin 4) t0_0 d))
    ∗ (∃ d, held c cc0_stg1_0 ((dats m 0 c).before (1 : Fin 4) t0_0 d))
    ∗ (∃ d, held c cc0_stg2_0 ((dats m 0 c).before (2 : Fin 4) t0_0 d))
    ∗ (∃ d, held c cc0_stg3_0 ((dats m 0 c).before (3 : Fin 4) t0_0 d)))

def bodyPost (c : Dev nD) : sProp 𝕄 :=
  iprop(Φ₁ m c ∗ (dats m 0 c).owesAt 0 t0_0.succ ∗ held c cc0_stg0_0 (xOf m c) ∗ held c cc0_stg1_0 (wqOf m c) ∗ held c cc0_stg2_0 (woOf m c) ∗ held c cc0_stg3_0 (res (Pm m)))

set_option maxRecDepth 100000 in
theorem body_obligation (c : Dev nD) : BodyObligation (dats (F := F) m 0 c) (defs₀ (F := F)) 𝒱₀ 0 Set.univ := fun t => by
  rw [fin_N0 t]
  have eW : ∀ Φ : Fin cfg0.W → sProp 𝕄, bigSep Finset.univ Φ = iprop(Φ (0 : Fin 4) ∗ Φ (1 : Fin 4) ∗ Φ (2 : Fin 4) ∗ Φ (3 : Fin 4)) := fun Φ => bigSep_W0 Φ
  rw [eW, eW]
  simp only [owns_whole_eq]
  show bodyPre m c ⊢ wp frame (wpE (defs₀ (F := F)) 𝒱₀ c none) Set.univ (cc0__body (F := F) xM (Memref.isWhole_whole _) wqM (Memref.isWhole_whole _) kM (Memref.isWhole_whole _) vM (Memref.isWhole_whole _) woM (Memref.isWhole_whole _) oM (Memref.isWhole_whole _) xpM (Memref.isWhole_whole _) kpM (Memref.isWhole_whole _) vpM (Memref.isWhole_whole _) qpM (Memref.isWhole_whole _) kvM (Memref.isWhole_whole _) (rbM 0) (Memref.isWhole_whole _) (rbM 1) (Memref.isWhole_whole _) (rbM 2) (Memref.isWhole_whole _) (rbM 3) (Memref.isWhole_whole _) (rbM 4) (Memref.isWhole_whole _) (rbM 5) (Memref.isWhole_whole _) (rbM 6) (Memref.isWhole_whole _) (rbM 7) (Memref.isWhole_whole _) (rbM 8) (Memref.isWhole_whole _) cc0_scratch14 cc0_scratch15 cc0_scratch16 cc0_scratch17 cc0_scratch18 cc0_scratch19) (fun _ => bodyPost m c)
  unfold bodyPre Φ₀ Dat.owesAt Pipeline.owesWithin
  iintro ⟨⟨Hs, Hr⟩, ⟨%W, %hW, HO⟩, ⟨%d0, Hx⟩, ⟨%d1, Hwq⟩, ⟨%d2, Hwo⟩, ⟨%d3, %f3, %h3, Hout⟩⟩
  rw [before0, before1, before2]
  ihave Hx := (hold_xM_of c (xOf m c)) $$ Hx
  ihave Hwq := (hold_wqM_of c (wqOf m c)) $$ Hwq
  ihave Hwo := (hold_woM_of c (woOf m c)) $$ Hwo
  iapply (point_ok m c (fun _ => bodyPost m c)) $$ [Hs Hr HO Hx Hwq Hwo Hout]
  · isplitl [Hs]; · iexact Hs
    isplitl [Hr]; · iexact Hr
    isplitl [HO]
    · unfold oweN owe
      iexists W
      iexact HO
    isplitl [Hx]; · iexact Hx
    isplitl [Hwq]; · iexact Hwq
    isplitl [Hwo]; · iexact Hwo
    iexists f3; iexact Hout
  iintro ⟨Hf, Hr, HO, Hx, Hwq, Hwo, Hout⟩
  unfold bodyPost Φ₁ Dat.owesAt Pipeline.owesWithin oweN owe
  icases HO with ⟨%W', HO⟩
  isplitl [Hf Hr]
  · isplitl [Hf]; · iexact Hf
    iexact Hr
  isplitl [HO]
  · iexists W'
    isplitr; · ipureintro; exact fun _ _ => Or.inl trivial
    iexact HO
  isplitl [Hx]; · iapply (hold_xM_to c (xOf m c)); iexact Hx
  isplitl [Hwq]; · iapply (hold_wqM_to c (wqOf m c)); iexact Hwq
  isplitl [Hwo]; · iapply (hold_woM_to c (woOf m c)); iexact Hwo
  iexists _
  isplitr; · ipureintro; rfl
  iexact Hout

/-! ## Counters and tokens -/

/-- The kernel's own counters. -/
abbrev osem : Fin 38 → SemLoc sig := fun k => csem k.succ

theorem ownSemFacts : Pipeline.OwnSemFacts cfg0.spec osem := by decide

theorem csem_injective : Function.Injective csem := by decide +kernel

theorem kcell_injective : Function.Injective (kcell : Dev nD × Fin 39 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- Which counter, and which of its payments, a token is for. -/
def tokCode (j : Fin 41) : SemLoc sig × Fin 3 :=
  if h : j.val < 3 then (.reg barS, ⟨j.val, h⟩) else (.dma ⟨(j.val + 1) % 42, Nat.mod_lt _ (by decide)⟩, 0)
theorem tokCode_injective : Function.Injective tokCode := by decide +kernel
theorem tok_code (c : Dev nD) (j : Fin 41) : tok c j = (((c : Thread nD τ), (tokCode j).1), 0, (tokCode j).2) := by
  unfold tok tokCode
  split <;> rfl

abbrev tokOf (cj : Dev nD × Fin 41) : GSem nD τ sig × ℕ × Fin 3 := tok cj.1 cj.2
theorem tokOf_injective : Function.Injective tokOf := by
  rintro ⟨c, j⟩ ⟨c', j'⟩ h
  have h' : tok c j = tok c' j' := h
  rw [tok_code, tok_code] at h'
  have h1 : c = c' := congrArg (fun x : GSem nD τ sig × ℕ × Fin 3 => x.1.1.1) h'
  have h2 : (tokCode j).1 = (tokCode j').1 := congrArg (fun x : GSem nD τ sig × ℕ × Fin 3 => x.1.2) h'
  have h3 : (tokCode j).2 = (tokCode j').2 := congrArg (fun x : GSem nD τ sig × ℕ × Fin 3 => x.2.2) h'
  rw [h1, tokCode_injective (Prod.ext h2 h3)]
def allToks : Finset (GSem nD τ sig × ℕ × Fin 3) := Finset.univ.map ⟨tokOf, tokOf_injective⟩

theorem payer_payer : ∀ (j : Fin 41) (c : Dev nD), payer j (payer j c) = c := by decide +kernel

/-- Each token's owner and its payer, exchanged. -/
def deal : Dev nD × Fin 41 ≃ Dev nD × Fin 41 where
  toFun cj := (payer cj.2 cj.1, cj.2)
  invFun cj := (payer cj.2 cj.1, cj.2)
  left_inv := fun ⟨c, j⟩ => Prod.ext (payer_payer j c) rfl
  right_inv := fun ⟨c, j⟩ => Prod.ext (payer_payer j c) rfl

def u₀ : UU := (initOf (Pipeline.cells cfgs cellOf_inj) (Pipeline.launchToks cfgs cellOf_inj), initOf allCells allToks)

/-- The tokens of a device's own counters. -/
def toks (c : Dev nD) : sProp 𝕄 := bigSep Finset.univ fun j : Fin 41 => dutyTok ER (tok c j).1 (tok c j).2.1 (tok c j).2.2

omit [FloatOps F] in
/-- The tokens dealt. -/
theorem toks_around : (bigSep Finset.univ fun c : Dev nD => (toks c : sProp 𝕄)) = bigSep Finset.univ fun c : Dev nD => payToks c := by
  unfold toks payToks
  rw [← bigSep_univ_prod (fun cj : Dev nD × Fin 41 => (dutyTok ER (tok cj.1 cj.2).1 (tok cj.1 cj.2).2.1 (tok cj.1 cj.2).2.2 : sProp 𝕄)),
    bigSep_univ_equiv deal (fun cj : Dev nD × Fin 41 => (dutyTok ER (tok cj.1 cj.2).1 (tok cj.1 cj.2).2.1 (tok cj.1 cj.2).2.2 : sProp 𝕄)),
    bigSep_univ_prod]
  rfl

/-- What the launch deals device `c`. -/
def G (c : Dev nD) : sProp 𝕄 :=
  iprop((bigSep Finset.univ fun k : Fin 39 => roundState ER (Rd (Pm m) m) (kcell (c, k)) 0)
    ∗ (bigSep Finset.univ fun k : Fin 39 => iprop(atPos ER (kcell (c, k)) 0 ∅ 0 ∗ reached ER (kcell (c, k)) 0)) ∗ toks c)

/-- What the devices make of it together. -/
def G' (c : Dev nD) : sProp 𝕄 := iprop(records (Pm m) m ∗ ats c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 39 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd (Pm m) m) allCells allToks) $$ HX with ⟨Hst, Hr, Hat, Htok⟩
  imodintro
  ihave Hst' := (Entails.of_eq (hX fun g => roundState ER (Rd (Pm m) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  unfold zeros
  rw [Pipeline.ownSems0_eq_of_list c osem (List.finRange 38) (by decide) (by decide)]
  unfold unscopedSems0
  rw [bigSep_eq_bigSepL_of_eq [SemLoc.reg barS] (by decide) (by decide), bigSep_cells (fun g => semVal g 0) c]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Pm m) m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Fin 39 => roundState ER (Rd (Pm m) m) (kcell (c, k)) 0)
      ⊢ (|={Set.univ}=> bigSep Finset.univ fun k => iprop(∃ κ : ℕ, cellInv ER (Rd (Pm m) m) κ (kcell (c, k))) : sProp 𝕄) from by
        unfold zeros
        rw [← bigSep_sep']
        exact (bigSep_mono fun k _ => (Rounds.body_intro ER (Rd (Pm m) m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd (Pm m) m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', toks_around, ← bigSep_univ_prod (fun ck : Dev nD × Fin 39 => iprop(∃ κ : ℕ, cellInv ER (Rd (Pm m) m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, HR⟩, Htok⟩
  ihave HX := (show iprop((bigSep Finset.univ fun ck : Dev nD × Fin 39 => iprop(∃ κ : ℕ, cellInv ER (Rd (Pm m) m) κ (kcell ck)))
      ∗ bigSep Finset.univ fun ck : Dev nD × Fin 39 => (reached ER (kcell ck) 0 : sProp 𝕄)) ⊢ records (Pm m) m from by
        unfold records; rw [bigSep_sep']) $$ [HI HR]
  · isplitl [HI] <;> iassumption
  icases HX with #HX
  iapply (bigSep_with_persistent (R := records (Pm m) m) (Φ := fun c : Dev nD => iprop(ats c ∗ payToks c)) (Ψ := G' m) fun c _ => by unfold G'; exact Entails.of_eq rfl)
  isplitr; · iexact HX
  rw [bigSep_sep']
  isplitl [Hat]; · unfold ats; iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem tallyL_perm {l l' : List (Pay nD τ sig)} (h : l.Perm l') : (tallyL l : CellTallies nD τ sig ℕ) = tallyL l' := by
  induction h with
  | nil => rfl
  | cons x _ ih => rw [tallyL, tallyL, ih]
  | swap x y l => rw [tallyL, tallyL, tallyL, tallyL]; exact add_left_comm _ _ _
  | trans _ _ h1 h2 => exact h1.trans h2

/-- The payments to a device are those it waits for. -/
theorem credOf_due : ∀ c : Dev nD, (credOf due c).Perm (own c) := by decide +kernel

omit [FloatOps F] in
theorem creds (c : Dev nD) : (Pipeline.launchCred O₀ c : sProp 𝕄) ⊢ cred (tallyL (own c)) := by
  have h : (Pipeline.launchCred O₀ c : sProp 𝕄) = cred (tallyL (credOf due c)) := TalkSites.launchCred_tallyL due due_tc c
  rw [h, tallyL_perm (credOf_due c)]

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts (SiteBlocks.L 9) SiteBlocks.lv
        ∗ Pipeline.launchCred O₀ c ∗ prngReg c (ρ c) ∗ G' m c)
      ⊢ |={Set.univ}=> iprop(start m c ∗ emp) := by
  rw [Pipeline.unscopedRestP_none]
  iintro ⟨Hu, Hlev, Hcr, -, HG⟩
  ihave Hu := (Entails.of_eq (unscopedRest0_eq c (fun b => m ((c : Thread nD τ).loc b)))) $$ Hu
  ihave Hcr := (creds (F := F) c) $$ Hcr
  icases Hu with ⟨HK, HV⟩
  unfold G'
  icases HG with ⟨HR, Hat, Htok⟩
  imodintro
  unfold start std lev kWhole vWhole
  isplitl
  · isplitl [HR Hlev]
    · isplitl [HR] <;> iassumption
    isplitl [Hat]; · iexact Hat
    isplitl [Htok]; · iexact Htok
    isplitl [Hcr]; · iexact Hcr
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- What the launch reads at the end: the barrier's counter at zero and the two arrays outside the windows. -/
def Y (c : Dev nD) : sProp 𝕄 := iprop(unscopedSems0 c ∗ kWhole m c ∗ vWhole m c)

theorem phi1_exit (c : Dev nD) : (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Φ₁ finish Y
  rw [zeros_eq]
  iintro ⟨⟨⟨Hu, Ho⟩, HK, HV⟩, Hr⟩
  isplitl [Hu HK HV]
  · isplitl [Hu]; · iexact Hu
    isplitl [HK] <;> iassumption
  isplitl [Ho]; · iexact Ho
  iexact Hr

theorem waits (c : Dev nD) : (levAts (SiteBlocks.L 9) SiteBlocks.lv : sProp 𝕄) ⊢ Pipeline.cellsWaits cfgs (dats m) 0 0 c :=
  Pipeline.cellsWaits_intro cfgs (dats m) 0 0 c fun w s t => by
    rcases t with ⟨_ | n, ht⟩
    · exact mayWaitN c _ 0 (by decide) 0 (by decide)
    · show _ ⊢ MayWait _ _ 0 (0 : CellTallies nD τ sig ℕ)
      rw [MayWait_zero]
      iintro -
      iempintro

/-! ## The run -/

/-- What a final state has on device `c`: the result, and every argument as it was. -/
def Final (c : Dev nD) (mm : (ℓ : Loc nD τ sig) → Buf (Elt F) ℓ) : Prop :=
  mm ((c : Thread nD τ).loc main_v1) = res (Pm m)
    ∧ mm ((c : Thread nD τ).loc main_arg0) = m ((c : Thread nD τ).loc main_arg0)
    ∧ mm ((c : Thread nD τ).loc main_arg1) = m ((c : Thread nD τ).loc main_arg1)
    ∧ mm ((c : Thread nD τ).loc main_arg2) = m ((c : Thread nD τ).loc main_arg2)
    ∧ mm ((c : Thread nD τ).loc main_arg3) = m ((c : Thread nD τ).loc main_arg3)
    ∧ mm ((c : Thread nD τ).loc main_arg4) = m ((c : Thread nD τ).loc main_arg4)

theorem flushed_eq (c : Dev nD) (t : Fin cfg0.N) : (dats m 0 c).flushed (3 : Fin 4) t = ((cfg0.win (3 : Fin 4)).blk t).view.read (Elt F) (res (Pm m)) := by
  obtain rfl := fin_N0 t
  refine Eq.trans ?_ (blk3_read t0_0 (res (Pm m))).symm
  rfl

theorem mem_blk (t : Fin cfg0.N) (i : S2048x1024.Idx) : i ∈ ((cfg0.win (3 : Fin 4)).blk t).view.set := by
  show i ∈ ((View.whole main_v1).slice (win0_3.rect t)).set
  rw [View.set_slice_whole, Rect.mem_set_unit]
  intro a
  have h : (i a).val < S2048x1024.size a := (i a).isLt
  refine ⟨?_, ?_⟩
  · show 0 * _ ≤ (i a).val
    omega
  · show (i a).val < 0 * _ + _
    refine lt_of_lt_of_eq h ?_
    rw [Nat.zero_mul, Nat.zero_add]
    rfl

theorem finalA_out (c : Dev nD) : (dats m 0 c).arrAt (3 : Fin 4) cfg0.N = res (Pm m) :=
  (dats m 0 c).arrAt_eq_of_cover (3 : Fin 4) (res (Pm m)) (fun t _ => flushed_eq m c t) fun i => ⟨t0_0, flush0_3 _, mem_blk t0_0 i⟩

set_option maxRecDepth 8000 in
/-- Every run ends, without a fault, with the result and the arguments as said on every device and every counter at zero. -/
theorem run_main : θ_run (defs (F := F)) (onTc (τ := τ) (main (F := F))) ⟨m, fun _ => 0, ρ⟩ (fun r => (∀ c : Dev nD, Final m c r.2.mem) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := SiteBlocks.L 9) (lv := SiteBlocks.lv) (hL := SiteBlocks.hL 9) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold Y kWhole vWhole
      iintro ⟨⟨Hu, HK, HV⟩, -, HSI⟩
      icombine HSI HK gives %hk
      icombine HSI HV gives %hv
      imod (Pipeline.unscopedSems0_read (X := unscopedSems0 c) (c := c) fupd_intro s') $$ [Hu HSI] with ⟨%hz, HSI⟩
      · isplitl [Hu] <;> iassumption
      imodintro
      isplitr
      · ipureintro
        exact ⟨⟨Buf.eq_of_forall_mem_univ hk, Buf.eq_of_forall_mem_univ hv⟩, hz⟩
      iexact HSI)
    (hQ := fun s h hs => ⟨fun c => ⟨((h c).1 (3 : Fin 4)).trans (finalA_out m c),
        ((h c).1 (0 : Fin 4)).trans ((dats m 0 c).arrAt_in (0 : Fin 4) rfl _),
        ((h c).1 (1 : Fin 4)).trans ((dats m 0 c).arrAt_in (1 : Fin 4) rfl _),
        (h c).2.2.1.1, (h c).2.2.1.2,
        ((h c).1 (2 : Fin 4)).trans ((dats m 0 c).arrAt_in (2 : Fin 4) rfl _)⟩,
      sem_eq_zero hs fun c => (h c).2.2.2⟩)

end Cert.Proto

end
-- ==== Proof.Softmax.lean ====
/-
# Attention over a class of the keys

Two ways to average over the keys that a query sees. One masks the other keys' scores to minus infinity, takes the largest score
off, and divides each weight by their sum over all keys; the other runs over the class alone, keeps the scores as they are, and
multiplies the weighted sum by the reciprocal of the weights' sum. For finite scores the two agree, whatever the values averaged.
-/
module

public import Idealize.ShloMosaic.PureOps.Ideal

@[expose] public section

noncomputable section

namespace Cert.Value

open Idealize.ShloMosaic
open scoped BigOperators

theorem exp_real (r : ℝ) : Ideal.exp (r : EReal) = (Real.exp r : EReal) := rfl
theorem exp_bot : Ideal.exp (⊥ : EReal) = 0 := rfl

/-- A real factor that is not negative goes into a sum. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a t ha ih =>
    rw [Finset.sum_insert ha, Finset.sum_insert ha, EReal.right_distrib_of_nonneg_of_ne_top (EReal.coe_nonneg.2 hr) (EReal.coe_ne_top r), ih]

/-- A sum of reals, read as an extended real. -/
theorem sum_coe {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

theorem div_real {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The largest of finitely many scores, none of them plus infinity and one of them a real, is a real. -/
theorem fold_max_real {ι : Type} (s : Finset ι) (M : ι → EReal) (ht : ∀ i ∈ s, M i ≠ ⊤) (hb : ∃ i ∈ s, M i ≠ ⊥) :
    ∃ μ : ℝ, s.fold max ⊥ M = (μ : EReal) := by
  classical
  have h1 : s.fold max ⊥ M ≠ ⊤ := by
    clear hb
    induction s using Finset.induction_on with
    | empty => simp
    | insert a t ha ih =>
      rw [Finset.fold_insert ha]
      intro h
      rcases max_choice (M a) (t.fold max ⊥ M) with e | e
      · rw [e] at h; exact ht a (Finset.mem_insert_self _ _) h
      · rw [e] at h; exact ih (fun i hi => ht i (Finset.mem_insert_of_mem hi)) h
  have h2 : s.fold max ⊥ M ≠ ⊥ := by
    obtain ⟨i, hi, hne⟩ := hb
    intro h
    have : M i ≤ s.fold max ⊥ M := Finset.le_fold_max (c := M i) |>.2 (Or.inr ⟨i, hi, le_rfl⟩)
    rw [h] at this
    exact hne (le_bot_iff.1 this)
  exact ⟨(s.fold max ⊥ M).toReal, (EReal.coe_toReal h1 h2).symm⟩

section
variable {ι : Type} [Fintype ι] (s : ι → ℝ) (g : ι → Prop) [DecidablePred g] (μ : ℝ)

/-- The masked score of key `j`. -/
def masked (j : ι) : EReal := if g j then (s j : EReal) else ⊥

theorem exp_masked (j : ι) : Ideal.exp (masked s g j - (μ : EReal)) = ((if g j then Real.exp (s j - μ) else 0 : ℝ) : EReal) := by
  unfold masked
  by_cases h : g j
  · rw [if_pos h, if_pos h, ← EReal.coe_sub, exp_real]
  · rw [if_neg h, if_neg h]
    have : (⊥ : EReal) - (μ : EReal) = ⊥ := by simp [sub_eq_add_neg]
    rw [this, exp_bot, EReal.coe_zero]

/-- The weights' sum over the class, a positive real. -/
def wsum : ℝ := ∑ j ∈ Finset.univ.filter g, Real.exp (s j)

theorem wsum_pos (hg : ∃ j, g j) : 0 < wsum s g := by
  obtain ⟨j, hj⟩ := hg
  exact Finset.sum_pos (fun _ _ => Real.exp_pos _) ⟨j, Finset.mem_filter.2 ⟨Finset.mem_univ _, hj⟩⟩

theorem sum_exp_masked : ∑ j, Ideal.exp (masked s g j - (μ : EReal)) = ((Real.exp (-μ) * wsum s g : ℝ) : EReal) := by
  simp only [exp_masked]
  rw [sum_coe]
  congr 1
  rw [← Finset.sum_filter, wsum, Finset.mul_sum]
  refine Finset.sum_congr rfl fun j _ => ?_
  rw [← Real.exp_add]
  congr 1
  ring

/-- The weight of key `j` does not depend on the score taken off. -/
theorem weight (hg : ∃ j, g j) (j : ι) :
    Ideal.div (Ideal.exp (masked s g j - (μ : EReal))) (∑ j, Ideal.exp (masked s g j - (μ : EReal)))
      = ((if g j then Real.exp (s j) / wsum s g else 0 : ℝ) : EReal) := by
  have hp := wsum_pos s g hg
  rw [sum_exp_masked, exp_masked, div_real (mul_pos (Real.exp_pos _) hp).ne']
  congr 1
  by_cases h : g j
  · rw [if_pos h, if_pos h, sub_eq_add_neg, Real.exp_add, mul_comm (Real.exp (s j)), mul_div_mul_left _ _ (Real.exp_pos _).ne']
  · rw [if_neg h, if_neg h, zero_div]

/-- The two averages agree. -/
theorem attn (hg : ∃ j, g j) (V : ι → EReal) :
    ∑ j, V j * Ideal.div (Ideal.exp (masked s g j - (μ : EReal))) (∑ j, Ideal.exp (masked s g j - (μ : EReal)))
      = (∑ j ∈ Finset.univ.filter g, Ideal.exp (s j : EReal) * V j) * Ideal.div 1 (∑ j ∈ Finset.univ.filter g, Ideal.exp (s j : EReal)) := by
  have hp := wsum_pos s g hg
  have e1 : ∑ j ∈ Finset.univ.filter g, Ideal.exp (s j : EReal) = (wsum s g : EReal) := by
    simp only [exp_real]; exact sum_coe _ _
  have e2 : Ideal.div 1 (wsum s g : EReal) = ((1 / wsum s g : ℝ) : EReal) := by
    rw [← EReal.coe_one]; exact div_real hp.ne'
  rw [e1, e2, sum_mul_real _ _ (one_div_pos.2 hp).le, Finset.sum_filter]
  refine Finset.sum_congr rfl fun j _ => ?_
  rw [weight s g μ hg]
  by_cases h : g j
  · rw [if_pos h, if_pos h, exp_real, mul_comm ((Real.exp (s j) : ℝ) : EReal), mul_assoc, ← EReal.coe_mul, mul_one_div]
  · rw [if_neg h, if_neg h, EReal.coe_zero, mul_zero]
end

/-! ## The class of a query's row -/

/-- Key `j` of class `g`: the blocks of sixty-four rows that are `g` modulo four, one after another. -/
def pos (g : ℕ) (j : Fin 512) : Fin 2048 := ⟨(64 * (g + 4 * (j.val / 64)) + j.val % 64) % 2048, Nat.mod_lt _ (by decide)⟩

theorem sum_class {g : ℕ} (hg : g < 4) (f : Fin 2048 → EReal) :
    ∑ j ∈ Finset.univ.filter (fun j : Fin 2048 => j.val / 64 % 4 = g), f j = ∑ j : Fin 512, f (pos g j) := by
  refine (Finset.sum_nbij' (pos g) (fun j => (⟨(64 * (j.val / 256) + j.val % 64) % 512, Nat.mod_lt _ (by decide)⟩ : Fin 512)) ?_ ?_ ?_ ?_ ?_).symm
  · intro j _
    have := j.isLt
    refine Finset.mem_filter.2 ⟨Finset.mem_univ _, ?_⟩
    show (64 * (g + 4 * (j.val / 64)) + j.val % 64) % 2048 / 64 % 4 = g
    omega
  · intro j _; exact Finset.mem_univ _
  · intro j _
    have := j.isLt
    apply Fin.ext
    show (64 * ((64 * (g + 4 * (j.val / 64)) + j.val % 64) % 2048 / 256) + (64 * (g + 4 * (j.val / 64)) + j.val % 64) % 2048 % 64) % 512 = j.val
    omega
  · intro j hj
    have := j.isLt
    have hj2 : j.val / 64 % 4 = g := (Finset.mem_filter.1 hj).2
    apply Fin.ext
    show (64 * (g + 4 * ((64 * (j.val / 256) + j.val % 64) % 512 / 64)) + (64 * (j.val / 256) + j.val % 64) % 512 % 64) % 2048 = j.val
    omega
  · intro j _; rfl

/-- A sum over the columns of all devices, device by device. -/
theorem sum_blocks (f : Fin 8192 → EReal) :
    ∑ n, f n = ∑ c : Fin 8, ∑ n : Fin 1024, f ⟨1024 * c.val + n.val, by have := c.isLt; have := n.isLt; omega⟩ := by
  rw [← Finset.sum_product' (s := Finset.univ) (t := Finset.univ) (f := fun (c : Fin 8) (n : Fin 1024) => f ⟨1024 * c.val + n.val, by have := c.isLt; have := n.isLt; omega⟩)]
  refine Finset.sum_nbij' (fun n => ((⟨n.val / 1024, by have := n.isLt; omega⟩ : Fin 8), (⟨n.val % 1024, Nat.mod_lt _ (by decide)⟩ : Fin 1024)))
    (fun p => ⟨1024 * p.1.val + p.2.val, by have := p.1.isLt; have := p.2.isLt; omega⟩) ?_ ?_ ?_ ?_ ?_
  · intro n _; exact Finset.mem_product.2 ⟨Finset.mem_univ _, Finset.mem_univ _⟩
  · intro p _; exact Finset.mem_univ _
  · intro n _; exact Fin.ext (Nat.div_add_mod n.val 1024)
  · intro p _
    have := p.1.isLt
    have := p.2.isLt
    refine Prod.ext (Fin.ext ?_) (Fin.ext ?_)
    · show (1024 * p.1.val + p.2.val) / 1024 = p.1.val; omega
    · show (1024 * p.1.val + p.2.val) % 1024 = p.2.val; omega
  · intro n _
    congr 1
    exact Fin.ext (Nat.div_add_mod n.val 1024).symm

end Cert.Value

end

end
-- ==== Proof.Device.lean ====
/-
# One device's partial result, entry by entry

The partial result of a device at row `i` and column `o` is the sum over its 1024 columns of attention, each column in the
original order of the rows, times the device's rows of the output projection. The regrouping of the rows cancels.
-/
module

public import proofs.«01_k».proof.Proof.Point
public import proofs.«01_k».proof.Proof.Softmax
public import Idealize.ShloMosaic.Lib.Pointwise
public import Idealize.ShloMosaic.Lib.ValueLayout

@[expose] public section

noncomputable section

namespace Cert.Value

open Cert.KernelIdeal Cert.KernelIdeal.Gen Cert.Mesh Cert.Proto
open Idealize.ShloMosaic Idealize.ShloMosaic.TcCoe
open scoped BigOperators

/-- The factor of the scores. -/
def scl : EReal := Ideal.ofBits .f32 0x3DB504F3#32

/-! ## The kernel's expressions at an entry -/

theorem pay1_apply (q k : Vec Ideal S512x128 .bf16) (r j : Fin 512) :
    k0_pay1 (F := Ideal) q k (ix2 r j) = Ideal.exp ((∑ d : Fin 128, (q (ix2 r d) : EReal) * k (ix2 j d)) * scl) := by
  unfold k0_pay1 scl; pointwise

theorem pay2_apply (q k v : Vec Ideal S512x128 .bf16) (r : Fin 512) (d : Fin 128) :
    k0_pay2 (F := Ideal) q k v (ix2 r d) = ∑ j : Fin 512, (k0_pay1 (F := Ideal) q k (ix2 r j) : EReal) * v (ix2 j d) := by
  unfold k0_pay2; pointwise

theorem pay3_apply (q k : Vec Ideal S512x128 .bf16) (r : Fin 512) (d : Fin 128) :
    k0_pay3 (F := Ideal) q k (ix2 r d) = Ideal.div 1 (∑ j : Fin 512, (k0_pay1 (F := Ideal) q k (ix2 r j) : EReal)) := by
  unfold k0_pay3; pointwise

theorem pay114_apply (a b : Vec Ideal S512x128 .f32) (x : S512x128.Idx) : k0_pay114 (F := Ideal) a b x = (a x : EReal) * b x := by
  unfold k0_pay114; pointwise

theorem pay4_apply (f : Vec Ideal S1x64x1024 .f32) (r : Fin 64) (k : Fin 1024) : k0_pay4 (F := Ideal) f (ix2 r k) = f (ix3 0 r k) := by
  unfold k0_pay4; pointwise

theorem pay43_apply (f : Vec Ideal S64x8x128 .f32) (r : Fin 64) (k : Fin 1024) :
    k0_pay43 (F := Ideal) f (ix2 r k) = f (ix3 r ⟨k.val / 128, by omega⟩ ⟨k.val % 128, by omega⟩) := by
  unfold k0_pay43; pointwise

theorem pay75_apply (f : Vec Ideal S2048x1024 .bf16) (w : Vec Ideal S1024x1024 .f32) (r : Fin 2048) (n : Fin 1024) :
    k0_pay75 (F := Ideal) f w (ix2 r n) = ∑ k : Fin 1024, (f (ix2 r k) : EReal) * w (ix2 k n) := by
  unfold k0_pay75; pointwise

theorem pay128_apply (f : Vec Ideal S768x1024 .bf16) (w : Vec Ideal S1024x1024 .f32) (r : Fin 768) (n : Fin 1024) :
    k0_pay128 (F := Ideal) (k0_pay115 w) f (ix2 r n) = ∑ k : Fin 1024, (f (ix2 r k) : EReal) * w (ix2 k n) := by
  unfold k0_pay128 k0_pay115; pointwise

theorem pay141_apply (f : Vec Ideal S768x1024 .bf16) (w : Vec Ideal S1024x1024 .f32) (r : Fin 768) (n : Fin 1024) :
    k0_pay141 (F := Ideal) (k0_pay115 w) f (ix2 r n) = ∑ k : Fin 1024, (f (ix2 r k) : EReal) * w (ix2 k n) := by
  unfold k0_pay141 k0_pay115; pointwise

theorem pay150_apply (f : Vec Ideal S512x1024 .bf16) (w : Vec Ideal S1024x1024 .f32) (r : Fin 512) (n : Fin 1024) :
    k0_pay150 (F := Ideal) (k0_pay115 w) f (ix2 r n) = ∑ k : Fin 1024, (f (ix2 r k) : EReal) * w (ix2 k n) := by
  unfold k0_pay150 k0_pay115; pointwise

/-! ## The regrouped arrays -/

/-- The row of the original order that stands at row `r` of the regrouped one. -/
def orig (r : ℕ) : Fin 2048 := ⟨(xo (r / 64) + r % 64) % 2048, Nat.mod_lt _ (by decide)⟩
/-- Where row `i` of the original order stands in the regrouped one. -/
def place (i : ℕ) : Fin 2048 := ⟨(go (i / 64) + i % 64) % 2048, Nat.mod_lt _ (by decide)⟩

theorem XP_apply (f : Vec Ideal S1x2048x1024 .f32) (r : Fin 2048) (k : Fin 1024) :
    XP (F := Ideal) f (ix2 r k) = f (ix3 0 (orig r.val) k) := by
  unfold XP byBlocks
  exact pay4_apply _ _ _

theorem KP_apply (f : Vec Ideal S2048x8x128 .f32) (r : Fin 2048) (n : Fin 1024) :
    KP (F := Ideal) f (ix2 r n) = f (ix3 (orig r.val) ⟨n.val / 128, by omega⟩ ⟨n.val % 128, by omega⟩) := by
  unfold KP byBlocks
  exact pay43_apply _ _ _

/-- The query of row `i`, column `n`. -/
def qry (xf : Vec Ideal S1x2048x1024 .f32) (wq : Vec Ideal S1024x1024 .f32) (i : Fin 2048) (n : Fin 1024) : EReal :=
  ∑ k : Fin 1024, (xf (ix3 0 i k) : EReal) * wq (ix2 k n)

theorem QP_apply (xf : Vec Ideal S1x2048x1024 .f32) (wq : Vec Ideal S1024x1024 .f32) (r : Fin 2048) (n : Fin 1024) :
    QP (F := Ideal) xf wq (ix2 r n) = qry xf wq (orig r.val) n := by
  unfold QP qry
  rw [pay75_apply]
  refine Finset.sum_congr rfl fun k _ => ?_
  have e : rwin (F := Ideal) (n := 2048) (XP xf) 0 (ix2 r k) = XP (F := Ideal) xf (ix2 r k) := congrArg (XP (F := Ideal) xf) (rowAt_zero _)
  rw [e, XP_apply]

/-- Column `d` of head `h`. -/
def col (h : Fin 8) (d : Fin 128) : Fin 1024 := ⟨128 * h.val + d.val, by omega⟩

/-- The score of query row `i` against key row `j` in head `h`. -/
def lscore (xf : Vec Ideal S1x2048x1024 .f32) (wq : Vec Ideal S1024x1024 .f32) (kv : Vec Ideal S2048x8x128 .f32) (i : Fin 2048) (h : Fin 8) (j : Fin 2048) : EReal :=
  (∑ d : Fin 128, qry xf wq i (col h d) * kv (ix3 j h d)) * scl

/-- Attention over the class of row `i`, in head `h`, at column `d`. -/
def lctx (xf : Vec Ideal S1x2048x1024 .f32) (wq : Vec Ideal S1024x1024 .f32) (kv vv : Vec Ideal S2048x8x128 .f32) (i : Fin 2048) (h : Fin 8) (d : Fin 128) : EReal :=
  (∑ j : Fin 512, Ideal.exp (lscore xf wq kv i h (pos (i.val / 64 % 4) j)) * vv (ix3 (pos (i.val / 64 % 4) j) h d))
    * Ideal.div 1 (∑ j : Fin 512, Ideal.exp (lscore xf wq kv i h (pos (i.val / 64 % 4) j)))

theorem orig_place : ∀ i : Fin 2048, orig (place i.val).val = i := by decide +kernel

theorem place_class : ∀ i : Fin 2048, (place i.val).val / 512 = i.val / 64 % 4 := by decide +kernel

theorem orig_class' : ∀ (g : Fin 4) (j : Fin 512), orig ((512 * g.val + j.val) % 2048) = pos g.val j := by decide +kernel

theorem orig_class (g : ℕ) (hg : g < 4) (j : Fin 512) : orig ((512 * g + j.val) % 2048) = pos g j := orig_class' ⟨g, hg⟩ j

variable (xf : Vec Ideal S1x2048x1024 .f32) (wq : Vec Ideal S1024x1024 .f32) (kv vv : Vec Ideal S2048x8x128 .f32)

theorem tile_q (g : ℕ) (h : Fin 8) (r : Fin 512) (d : Fin 128) :
    tile (F := Ideal) (QP xf wq) (8 * g + h.val) (ix2 r d) = qry xf wq (orig ((512 * g + r.val) % 2048)) (col h d) := by
  have e : tile (F := Ideal) (QP xf wq) (8 * g + h.val) (ix2 r d) = QP (F := Ideal) xf wq (ix2 ⟨(512 * ((8 * g + h.val) / 8) + r.val) % 2048, Nat.mod_lt _ (by decide)⟩ ⟨(128 * ((8 * g + h.val) % 8) + d.val) % 1024, Nat.mod_lt _ (by decide)⟩) := rfl
  have hh := h.isLt
  have hd := d.isLt
  rw [e, QP_apply]
  congr 2
  · show (512 * ((8 * g + h.val) / 8) + r.val) % 2048 = _
    omega
  · show (128 * ((8 * g + h.val) % 8) + d.val) % 1024 = 128 * h.val + d.val
    omega

theorem tile_k (g : ℕ) (hg : g < 4) (h : Fin 8) (j : Fin 512) (d : Fin 128) :
    tile (F := Ideal) (KP kv) (8 * g + h.val) (ix2 j d) = kv (ix3 (pos g j) h d) := by
  have e : tile (F := Ideal) (KP kv) (8 * g + h.val) (ix2 j d) = KP (F := Ideal) kv (ix2 ⟨(512 * ((8 * g + h.val) / 8) + j.val) % 2048, Nat.mod_lt _ (by decide)⟩ ⟨(128 * ((8 * g + h.val) % 8) + d.val) % 1024, Nat.mod_lt _ (by decide)⟩) := rfl
  have hh := h.isLt
  have hd := d.isLt
  have hj := j.isLt
  rw [e, KP_apply, ← orig_class g hg j]
  congr 2
  · show orig ((512 * ((8 * g + h.val) / 8) + j.val) % 2048) = _
    congr 1
    omega
  · apply Fin.ext
    show (128 * ((8 * g + h.val) % 8) + d.val) % 1024 / 128 = h.val
    omega
  · apply Fin.ext
    show (128 * ((8 * g + h.val) % 8) + d.val) % 1024 % 128 = d.val
    omega

/-- The regrouped attention at the place of row `i`. -/
theorem ctx_apply (i : Fin 2048) (n : Fin 1024) :
    ctxG (F := Ideal) (QP xf wq) (KP kv) (KP vv) 32 (ix2 (place i.val) n) = lctx xf wq kv vv i ⟨n.val / 128, by omega⟩ ⟨n.val % 128, by omega⟩ := by
  have hi := i.isLt
  have hn := n.isLt
  have hp := place_class i
  have ht : tileOf (ix2 (place i.val) n) = 8 * (i.val / 64 % 4) + n.val / 128 := by
    show 8 * ((place i.val).val / 512) + n.val / 128 = _
    omega
  have hg : i.val / 64 % 4 < 4 := Nat.mod_lt _ (by decide)
  unfold ctxG
  rw [if_pos (by rw [ht]; omega), ht]
  unfold ctxT
  rw [pay114_apply, pay2_apply, pay3_apply]
  have hs : ∀ j : Fin 512, k0_pay1 (F := Ideal) (tile (QP xf wq) (8 * (i.val / 64 % 4) + n.val / 128)) (tile (KP kv) (8 * (i.val / 64 % 4) + n.val / 128))
      (ix2 ⟨(place i.val).val % 512, Nat.mod_lt _ (by decide)⟩ j) = Ideal.exp (lscore xf wq kv i ⟨n.val / 128, by omega⟩ (pos (i.val / 64 % 4) j)) := by
    intro j
    rw [pay1_apply]
    unfold lscore
    congr 2
    refine Finset.sum_congr rfl fun d _ => ?_
    have hq := tile_q xf wq (i.val / 64 % 4) ⟨n.val / 128, by omega⟩ ⟨(place i.val).val % 512, Nat.mod_lt _ (by decide)⟩ d
    have hk := tile_k kv (i.val / 64 % 4) hg ⟨n.val / 128, by omega⟩ j d
    have ho : orig ((512 * (i.val / 64 % 4) + (place i.val).val % 512) % 2048) = i := by
      conv_rhs => rw [← orig_place i]
      congr 1
      omega
    dsimp only at hq hk
    rw [hq, hk, ho]
  unfold lctx
  congr 1
  · refine Finset.sum_congr rfl fun j _ => ?_
    have hv := tile_k vv (i.val / 64 % 4) hg ⟨n.val / 128, by omega⟩ j ⟨n.val % 128, by omega⟩
    dsimp only at hv
    rw [← hs j, ← hv]
    rfl
  · congr 1
    refine Finset.sum_congr rfl fun j _ => ?_
    rw [← hs j]
    rfl

/-! ## The output projection -/

theorem gath_apply (C : Vec Ideal S2048x1024 .bf16) (b : ℕ) (r : Fin 2048) (n : Fin 1024) :
    gath (F := Ideal) C b (ix2 r n) = C (ix2 (⟨(go (b + r.val / 64) + r.val % 64) % 2048, Nat.mod_lt _ (by decide)⟩) n) := rfl

/-- The rows gathered from block `b` on, at row `r`, are row `64 b + r` of the original order. -/
theorem band (C : Vec Ideal S2048x1024 .bf16) (b : ℕ) {w : ℕ} (r : Fin w) (hw : w ≤ 2048) (i : Fin 2048) (h : 64 * b + r.val = i.val) (n : Fin 1024) :
    rwin (F := Ideal) (n := w) (gath C b) 0 (ix2 r n) = C (ix2 (place i.val) n) := by
  have hr := r.isLt
  have e : rwin (F := Ideal) (n := w) (gath C b) 0 (ix2 r n) = gath (F := Ideal) C b (ix2 ⟨(0 + r.val) % 2048, Nat.mod_lt _ (by decide)⟩ n) := rfl
  rw [e, gath_apply]
  congr 2
  apply Fin.ext
  show (go (b + (0 + r.val) % 2048 / 64) + (0 + r.val) % 2048 % 64) % 2048 = (go (i.val / 64) + i.val % 64) % 2048
  have e1 : b + (0 + r.val) % 2048 / 64 = i.val / 64 := by omega
  have e2 : (0 + r.val) % 2048 % 64 = i.val % 64 := by omega
  rw [e1, e2]

theorem P0_apply (C : Vec Ideal S2048x1024 .bf16) (wo : Vec Ideal S1024x1024 .f32) (i : Fin 2048) (o : Fin 1024) :
    P0 (F := Ideal) C wo (ix2 i o) = ∑ n : Fin 1024, (C (ix2 (place i.val) n) : EReal) * wo (ix2 n o) := by
  have hi := i.isLt
  unfold P0
  have e0 : ((ix2 i o : S2048x1024.Idx) 0).val = i.val := rfl
  have e1 : (ix2 i o : S2048x1024.Idx) 1 = o := rfl
  simp only [e0, e1]
  split
  · rename_i h
    rw [pay128_apply]
    refine Finset.sum_congr rfl fun n _ => ?_
    rw [band C 0 _ (by omega) i (by show 64 * 0 + i.val % 768 = i.val; omega)]
  · split
    · rename_i h1 h2
      rw [pay141_apply]
      refine Finset.sum_congr rfl fun n _ => ?_
      rw [band C 12 _ (by omega) i (by show 64 * 12 + (i.val - 768) % 768 = i.val; omega)]
    · rename_i h1 h2
      rw [pay150_apply]
      refine Finset.sum_congr rfl fun n _ => ?_
      rw [band C 24 _ (by omega) i (by show 64 * 24 + (i.val - 1536) % 512 = i.val; omega)]

/-! ## The device's heads, and its result -/

variable (m : (ℓ : Loc nD τ sig) → Buf (Elt Ideal) ℓ)

/-- Head `h` of device `c` among all heads. -/
def head (c : Dev nD) (h : Fin 8) : Fin 64 := ⟨8 * c.val + h.val, by have : c.val < 8 := c.isLt; omega⟩

theorem off_heads : ∀ c : Dev nD, k0_off1 c = ![0, 0, 8 * c.val, 0] := by decide +kernel

theorem emb_heads (c : Dev nD) (j : Fin 2048) (h : Fin 8) (d : Fin 128) :
    (Rect.unit (s := S1x2048x64x128) (k0_off1 c) S1x2048x8x128.size (k0_off1_inb c)).emb (ix4 0 j h d) = ix4 0 j (head c h) d := by
  have e := off_heads c
  funext a
  apply Fin.ext
  show k0_off1 c a + 1 * ((ix4 0 j h d : S1x2048x8x128.Idx) a).val = _
  rw [e]
  fin_cases a
  · rfl
  · show 0 + 1 * j.val = j.val
    omega
  · show 8 * c.val + 1 * h.val = 8 * c.val + h.val
    omega
  · show 0 + 1 * d.val = d.val
    omega

theorem kVal_apply (c : Dev nD) (j : Fin 2048) (h : Fin 8) (d : Fin 128) :
    kVal (F := Ideal) m c (ix3 j h d) = (m ((c : Thread nD τ).loc main_arg2) : Vec Ideal S1x2048x64x128 .f32) (ix4 0 j (head c h) d) := by
  unfold kVal
  refine congrArg (m ((c : Thread nD τ).loc main_arg2) : Vec Ideal S1x2048x64x128 .f32) ?_
  exact (congrArg (Rect.unit (s := S1x2048x64x128) (k0_off1 c) S1x2048x8x128.size (k0_off1_inb c)).emb (Idealize.ShloMosaic.ValueIdx.reshapeEquiv_ix3_1abc _ j h d)).trans (emb_heads c j h d)

theorem vVal_apply (c : Dev nD) (j : Fin 2048) (h : Fin 8) (d : Fin 128) :
    vVal (F := Ideal) m c (ix3 j h d) = (m ((c : Thread nD τ).loc main_arg3) : Vec Ideal S1x2048x64x128 .f32) (ix4 0 j (head c h) d) := by
  unfold vVal
  refine congrArg (m ((c : Thread nD τ).loc main_arg3) : Vec Ideal S1x2048x64x128 .f32) ?_
  exact (congrArg (Rect.unit (s := S1x2048x64x128) (k0_off1 c) S1x2048x8x128.size (k0_off1_inb c)).emb (Idealize.ShloMosaic.ValueIdx.reshapeEquiv_ix3_1abc _ j h d)).trans (emb_heads c j h d)

theorem Pm_apply (c : Dev nD) (i : Fin 2048) (o : Fin 1024) :
    Pm (F := Ideal) m c (ix2 i o) = ∑ n : Fin 1024, lctx (xOf m c) (wqOf m c) (kVal m c) (vVal m c) i ⟨n.val / 128, by omega⟩ ⟨n.val % 128, by omega⟩ * woOf m c (ix2 n o) := by
  unfold Pm
  rw [P0_apply]
  refine Finset.sum_congr rfl fun n _ => ?_
  unfold CT
  rw [ctx_apply]

end Cert.Value

end

end
-- ==== Proof.Exchange.lean ====
/-
# What the exchanges add up to

Three rounds of pairwise additions add the partial results of all eight devices, whichever device keeps the row.
-/
module

public import proofs.«01_k».proof.Proof.Proto
public import proofs.«01_k».proof.Proof.Softmax

@[expose] public section

noncomputable section

namespace Cert.Value

open Cert.KernelIdeal Cert.Mesh Cert.Proto
open Idealize.ShloMosaic
open scoped BigOperators

/-- The stage of round `r` in band `q`. -/
def stage (q r : Fin 3) : Fin 9 := ⟨(3 * q.val + r.val) % 9, Nat.mod_lt _ (by decide)⟩

/-- The devices whose partial results reach device `c` in band `q`, in the order they are added. -/
def reach (q : Fin 3) (c : Dev nD) (j : Fin 8) : Dev nD :=
  let a := if j.val / 4 = 1 then par (stage q 2) c else c
  let b := if j.val / 2 % 2 = 1 then par (stage q 1) a else a
  if j.val % 2 = 1 then par (stage q 0) b else b

/-- They are all the devices, each once. -/
theorem reach_bij : ∀ (q : Fin 3) (c : Dev nD), Function.Bijective (reach q c) := by decide +kernel

theorem addB_ideal (a b : Ideal .bf16) : addB (F := Ideal) a b = a + b := rfl

theorem inst_lt (r : ℕ) : inst r < 3 := by unfold inst; split <;> [decide; (split <;> decide)]

theorem acc_sum (P : Dev nD → Vec Ideal S2048x1024 .bf16) (c : Dev nD) (x : S2048x1024.Idx) :
    acc (F := Ideal) P 3 c x = ∑ d : Dev nD, P d x := by
  have hq := inst_lt (x 0).val
  obtain ⟨q, hqe⟩ : ∃ q : Fin 3, q.val = inst (x 0).val := ⟨⟨_, hq⟩, rfl⟩
  have s0 : stg 0 x = stage q 0 := Fin.ext (by show (3 * inst (x 0).val + 0 % 3) % 9 = (3 * q.val + 0) % 9; rw [hqe])
  have s1 : stg 1 x = stage q 1 := Fin.ext (by show (3 * inst (x 0).val + 1 % 3) % 9 = (3 * q.val + 1) % 9; rw [hqe])
  have s2 : stg 2 x = stage q 2 := Fin.ext (by show (3 * inst (x 0).val + 2 % 3) % 9 = (3 * q.val + 2) % 9; rw [hqe])
  have e : ∑ d : Dev nD, P d x = ∑ j : Fin 8, P (reach q c j) x := (Function.Bijective.sum_comp (reach_bij q c) fun d => P d x).symm
  rw [e, Fin.sum_univ_eight]
  simp only [acc, addB_ideal, s0, s1, s2]
  show _ = (P c x : EReal) + P (par (stage q 0) c) x + P (par (stage q 1) c) x + P (par (stage q 0) (par (stage q 1) c)) x
    + P (par (stage q 2) c) x + P (par (stage q 0) (par (stage q 2) c)) x + P (par (stage q 1) (par (stage q 2) c)) x
    + P (par (stage q 0) (par (stage q 1) (par (stage q 2) c))) x
  simp only [add_assoc]

/-- The finished result is the sum of the devices' partial results. -/
theorem res_sum (P : Dev nD → Vec Ideal S2048x1024 .bf16) (x : S2048x1024.Idx) :
    res (F := Ideal) P x = ∑ d : Dev nD, P d x := acc_sum P _ x

end Cert.Value

end

end
-- ==== Proof.RefStages.lean ====
/-
# The reference, stage by stage

The reference's result is one long expression of its arguments. Here it is cut into named stages, and the result is
the last of them.
-/
module

public import proofs.«01_k».proof.Proof.Gen.ReferenceIdeal.Run
public import Idealize.ShloMosaic.Lib.Pointwise

@[expose] public section

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo

/-- The block of sixty-four rows each row lies in. -/
def blk : IVec S2048 32 :=
  (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

/-- The block modulo four, laid along a row. -/
def clsR : IVec S1x2048 32 :=
  (select (andi (cmpi .ne (cmpi .slt (Host.remsi (broadcastInDim S1x2048 ![1] bcast_S2048_S1x2048_1 blk) (broadcastInDim S1x2048 ![] bcast_S_S1x2048 (select (cmpi .eq (id (constantI S_ 32 4#32)) (constantI S_ 32 0#32)) (constantI S_ 32 1#32) (id (constantI S_ 32 4#32))))) (broadcastInDim S1x2048 ![] bcast_S_S1x2048 (constantI S_ 32 0#32))) (broadcastInDim S1x2048 ![] bcast_S_S1x2048 (cmpi .slt (select (cmpi .eq (id (constantI S_ 32 4#32)) (constantI S_ 32 0#32)) (constantI S_ 32 1#32) (id (constantI S_ 32 4#32))) (constantI S_ 32 0#32)))) (cmpi .ne (Host.remsi (broadcastInDim S1x2048 ![1] bcast_S2048_S1x2048_1 blk) (broadcastInDim S1x2048 ![] bcast_S_S1x2048 (select (cmpi .eq (id (constantI S_ 32 4#32)) (constantI S_ 32 0#32)) (constantI S_ 32 1#32) (id (constantI S_ 32 4#32))))) (broadcastInDim S1x2048 ![] bcast_S_S1x2048 (constantI S_ 32 0#32)))) (addi (Host.remsi (broadcastInDim S1x2048 ![1] bcast_S2048_S1x2048_1 blk) (broadcastInDim S1x2048 ![] bcast_S_S1x2048 (select (cmpi .eq (id (constantI S_ 32 4#32)) (constantI S_ 32 0#32)) (constantI S_ 32 1#32) (id (constantI S_ 32 4#32))))) (broadcastInDim S1x2048 ![] bcast_S_S1x2048 (select (cmpi .eq (id (constantI S_ 32 4#32)) (constantI S_ 32 0#32)) (constantI S_ 32 1#32) (id (constantI S_ 32 4#32))))) (Host.remsi (broadcastInDim S1x2048 ![1] bcast_S2048_S1x2048_1 blk) (broadcastInDim S1x2048 ![] bcast_S_S1x2048 (select (cmpi .eq (id (constantI S_ 32 4#32)) (constantI S_ 32 0#32)) (constantI S_ 32 1#32) (id (constantI S_ 32 4#32))))))

/-- The block modulo four, laid along a column. -/
def clsC : IVec S2048x1 32 :=
  (select (andi (cmpi .ne (cmpi .slt (Host.remsi (broadcastInDim S2048x1 ![0] bcast_S2048_S2048x1_0 blk) (broadcastInDim S2048x1 ![] bcast_S_S2048x1 (select (cmpi .eq (id (constantI S_ 32 4#32)) (constantI S_ 32 0#32)) (constantI S_ 32 1#32) (id (constantI S_ 32 4#32))))) (broadcastInDim S2048x1 ![] bcast_S_S2048x1 (constantI S_ 32 0#32))) (broadcastInDim S2048x1 ![] bcast_S_S2048x1 (cmpi .slt (select (cmpi .eq (id (constantI S_ 32 4#32)) (constantI S_ 32 0#32)) (constantI S_ 32 1#32) (id (constantI S_ 32 4#32))) (constantI S_ 32 0#32)))) (cmpi .ne (Host.remsi (broadcastInDim S2048x1 ![0] bcast_S2048_S2048x1_0 blk) (broadcastInDim S2048x1 ![] bcast_S_S2048x1 (select (cmpi .eq (id (constantI S_ 32 4#32)) (constantI S_ 32 0#32)) (constantI S_ 32 1#32) (id (constantI S_ 32 4#32))))) (broadcastInDim S2048x1 ![] bcast_S_S2048x1 (constantI S_ 32 0#32)))) (addi (Host.remsi (broadcastInDim S2048x1 ![0] bcast_S2048_S2048x1_0 blk) (broadcastInDim S2048x1 ![] bcast_S_S2048x1 (select (cmpi .eq (id (constantI S_ 32 4#32)) (constantI S_ 32 0#32)) (constantI S_ 32 1#32) (id (constantI S_ 32 4#32))))) (broadcastInDim S2048x1 ![] bcast_S_S2048x1 (select (cmpi .eq (id (constantI S_ 32 4#32)) (constantI S_ 32 0#32)) (constantI S_ 32 1#32) (id (constantI S_ 32 4#32))))) (Host.remsi (broadcastInDim S2048x1 ![0] bcast_S2048_S2048x1_0 blk) (broadcastInDim S2048x1 ![] bcast_S_S2048x1 (select (cmpi .eq (id (constantI S_ 32 4#32)) (constantI S_ 32 0#32)) (constantI S_ 32 1#32) (id (constantI S_ 32 4#32))))))

/-- Which keys a query sees. -/
def seen : IVec S2048x2048 1 :=
  (ori (cmpi .eq (broadcastInDim S2048x2048 ![0, 1] bcast_S2048x1_S2048x2048_0_1 (broadcastInDim S2048x1 ![0] bcast_S2048_S2048x1_0 blk)) (broadcastInDim S2048x2048 ![0, 1] bcast_S1x2048_S2048x2048_0_1 (broadcastInDim S1x2048 ![1] bcast_S2048_S1x2048_1 blk))) (cmpi .eq (broadcastInDim S2048x2048 ![0, 1] bcast_S1x2048_S2048x2048_0_1 clsR) (broadcastInDim S2048x2048 ![0, 1] bcast_S2048x1_S2048x2048_0_1 clsC)))

/-- Which queries see a key at all. -/
def kept : IVec S2048 1 :=
  (Host.reduce IntOp.ori seen (constantI S_ 1 0#1) reducesTo_S2048x2048_S2048_d1 h_S_)

/-- The queries. -/
def qV (x : FVec Ideal S1x2048x1024 .f32) (wq : FVec Ideal S1024x8192 .f32) : FVec Ideal S1x2048x8192 .f32 :=
  (Host.dotGeneral dot_S1x2048x1024_S1024x8192_S1x2048x8192_2_0_01_1_n_n none x wq)

/-- The scores. -/
def sV (x : FVec Ideal S1x2048x1024 .f32) (wq : FVec Ideal S1024x8192 .f32) (kv : FVec Ideal S1x2048x64x128 .f32) : FVec Ideal S1x64x2048x2048 .f32 :=
  (mulf (Host.dotGeneral dot_S1x2048x64x128_S1x2048x64x128_S1x64x2048x2048_3_3_1_1_02_02 none (shapeCast _ (qV x wq) shapeCasts_S1x2048x8192_S1x2048x64x128) kv) (broadcastInDim S1x64x2048x2048 ![] bcast_S_S1x64x2048x2048 (constant S_ .f32 0x3DB504F3#32)))

/-- The scores, minus infinity where a key is not seen. -/
def mV (s : FVec Ideal S1x64x2048x2048 .f32) : FVec Ideal S1x64x2048x2048 .f32 :=
  (select (broadcastInDim S1x64x2048x2048 ![0, 1, 2, 3] bcast_S1x1x2048x2048_S1x64x2048x2048_0_1_2_3 (broadcastInDim S1x1x2048x2048 ![2, 3] bcast_S2048x2048_S1x1x2048x2048_2_3 seen)) s (broadcastInDim S1x64x2048x2048 ![] bcast_S_S1x64x2048x2048 (id (constant S_ .f32 0xFF800000#32))))

/-- The greatest score of each query. -/
def topV (s : FVec Ideal S1x64x2048x2048 .f32) : FVec Ideal S1x64x2048 .f32 :=
  (Host.reduce FloatOps.maximumf s (constant S_ .f32 0xFF800000#32) reducesTo_S1x64x2048x2048_S1x64x2048_d3 h_S_)

/-- The exponentials. -/
def eV (s : FVec Ideal S1x64x2048x2048 .f32) (top : FVec Ideal S1x64x2048 .f32) : FVec Ideal S1x64x2048x2048 .f32 :=
  (Host.exp (subf s (broadcastInDim S1x64x2048x2048 ![0, 1, 2, 3] bcast_S1x64x2048x1_S1x64x2048x2048_0_1_2_3 (broadcastInDim S1x64x2048x1 ![0, 1, 2] bcast_S1x64x2048_S1x64x2048x1_0_1_2 top))))

/-- What the exponentials are divided by. -/
def dV (s : FVec Ideal S1x64x2048x2048 .f32) : FVec Ideal S1x64x2048x1 .f32 :=
  (select (broadcastInDim S1x64x2048x1 ![0, 1, 2, 3] bcast_S1x1x2048x1_S1x64x2048x1_0_1_2_3 (broadcastInDim S1x1x2048x1 ![2] bcast_S2048_S1x1x2048x1_2 kept)) (broadcastInDim S1x64x2048x1 ![0, 1, 2] bcast_S1x64x2048_S1x64x2048x1_0_1_2 (Host.reduceAdd s (constant S_ .f32 0x00000000#32) reducesTo_S1x64x2048x2048_S1x64x2048_d3 h_S_)) (broadcastInDim S1x64x2048x1 ![] bcast_S_S1x64x2048x1 (id (constant S_ .f32 0x3F800000#32))))

/-- The weights. -/
def wV (s : FVec Ideal S1x64x2048x2048 .f32) (dd : FVec Ideal S1x64x2048x1 .f32) : FVec Ideal S1x64x2048x2048 .f32 :=
  (select (broadcastInDim S1x64x2048x2048 ![0, 1, 2, 3] bcast_S1x1x2048x1_S1x64x2048x2048_0_1_2_3 (broadcastInDim S1x1x2048x1 ![2] bcast_S2048_S1x1x2048x1_2 kept)) (Host.divf s (broadcastInDim S1x64x2048x2048 ![0, 1, 2, 3] bcast_S1x64x2048x1_S1x64x2048x2048_0_1_2_3 dd)) (broadcastInDim S1x64x2048x2048 ![] bcast_S_S1x64x2048x2048 (id (constant S_ .f32 0x00000000#32))))

/-- The weighted values. -/
def aV (vv : FVec Ideal S1x2048x64x128 .f32) (w : FVec Ideal S1x64x2048x2048 .f32) : FVec Ideal S1x64x128x2048 .f32 :=
  (Host.dotGeneral dot_S1x2048x64x128_S1x64x2048x2048_S1x64x128x2048_1_3_3_2_02_01 none vv w)

/-- The result. -/
def oV (a : FVec Ideal S1x64x128x2048 .f32) (wo : FVec Ideal S8192x1024 .f32) : FVec Ideal S2048x1024 .bf16 :=
  (shapeCast _ (truncf .bf16 (Host.dotGeneral dot_S1x2048x8192_S8192x1024_S1x2048x1024_2_0_01_1_n_n none (shapeCast _ (transpose S1x2048x64x128 [0, 3, 1, 2] a transposes_S1x64x128x2048_S1x2048x64x128_0_3_1_2) shapeCasts_S1x2048x64x128_S1x2048x8192) wo) bitsLt_bf16_f32) shapeCasts_S1x2048x1024_S2048x1024)

/-- The exponentials of the scores. -/
def exV (s : FVec Ideal S1x64x2048x2048 .f32) : FVec Ideal S1x64x2048x2048 .f32 := eV (mV s) (topV (mV s))

set_option maxRecDepth 8192 in
theorem result_eq (m : (ℓ : Loc nD τ sig) → Buf (Elt Ideal) ℓ) (c : Dev nD) :
    res_main_v41 m c = oV (aV (m ((c.tc : Thread nD τ).loc main_arg3))
      (wV (exV (sV (m ((c.tc : Thread nD τ).loc main_arg0)) (m ((c.tc : Thread nD τ).loc main_arg1)) (m ((c.tc : Thread nD τ).loc main_arg2))))
        (dV (exV (sV (m ((c.tc : Thread nD τ).loc main_arg0)) (m ((c.tc : Thread nD τ).loc main_arg1)) (m ((c.tc : Thread nD τ).loc main_arg2)))))))
      (m ((c.tc : Thread nD τ).loc main_arg4)) := rfl

end Cert.ReferenceIdeal.Stages

end

end
-- ==== Proof.RefValue.lean ====
/-
# The reference, entry by entry
-/
module

public import proofs.«01_k».proof.Proof.RefStages
public import proofs.«01_k».proof.Proof.Softmax
public import Idealize.ShloMosaic.Lib.Routing.OpsOrder

@[expose] public section

noncomputable section

namespace Cert.ReferenceIdeal.Stages

open Cert.ReferenceIdeal Cert.ReferenceIdeal.Gen Cert.Value
open Idealize.ShloMosaic Idealize.ShloMosaic.TcCoe
open scoped BigOperators

theorem qV_apply (x : FVec Ideal S1x2048x1024 .f32) (wq : FVec Ideal S1024x8192 .f32) (i : Fin 2048) (n : Fin 8192) :
    qV x wq (ix3 0 i n) = ∑ k : Fin 1024, (x (ix3 0 i k) : EReal) * wq (ix2 k n) := by
  unfold qV; pointwise

theorem sV_apply (x : FVec Ideal S1x2048x1024 .f32) (wq : FVec Ideal S1024x8192 .f32) (kv : FVec Ideal S1x2048x64x128 .f32) (h : Fin 64) (i j : Fin 2048) :
    sV x wq kv (ix4 0 h i j) = (∑ d : Fin 128, (qV x wq (ix3 0 i ⟨h.val * 128 + d.val, by omega⟩) : EReal) * kv (ix4 0 j h d)) * Ideal.ofBits .f32 0x3DB504F3#32 := by
  unfold sV; pointwise

theorem mV_apply (s : FVec Ideal S1x64x2048x2048 .f32) (h : Fin 64) (i j : Fin 2048) :
    mV s (ix4 0 h i j) = if seen (ix2 i j) = 1#1 then s (ix4 0 h i j) else Ideal.ofBits .f32 0xFF800000#32 := by
  unfold mV; pointwise
  rfl

theorem topV_apply (s : FVec Ideal S1x64x2048x2048 .f32) (h : Fin 64) (i : Fin 2048) :
    topV s (ix3 0 h i) = Finset.univ.fold max (Ideal.ofBits .f32 0xFF800000#32) fun j : Fin 2048 => (s (ix4 0 h i j) : EReal) := by
  unfold topV; pointwise

theorem eV_apply (s : FVec Ideal S1x64x2048x2048 .f32) (top : FVec Ideal S1x64x2048 .f32) (h : Fin 64) (i j : Fin 2048) :
    eV s top (ix4 0 h i j) = Ideal.exp ((s (ix4 0 h i j) : EReal) - top (ix3 0 h i)) := by
  unfold eV; pointwise

theorem sel_one {α : Type} (a b : α) : Scalar.select 1#1 a b = a := rfl

theorem dV_apply (s : FVec Ideal S1x64x2048x2048 .f32) (h : Fin 64) (i : Fin 2048) (hk : kept (ix1 i) = 1#1) :
    dV s (ix4 0 h i 0) = ∑ j : Fin 2048, (s (ix4 0 h i j) : EReal) := by
  unfold dV; pointwise
  rw [hk, sel_one]

theorem wV_apply (s : FVec Ideal S1x64x2048x2048 .f32) (dd : FVec Ideal S1x64x2048x1 .f32) (h : Fin 64) (i j : Fin 2048) (hk : kept (ix1 i) = 1#1) :
    wV s dd (ix4 0 h i j) = Ideal.div (s (ix4 0 h i j)) (dd (ix4 0 h i 0)) := by
  unfold wV; pointwise
  rw [hk, sel_one]

theorem aV_apply (vv : FVec Ideal S1x2048x64x128 .f32) (w : FVec Ideal S1x64x2048x2048 .f32) (h : Fin 64) (d : Fin 128) (i : Fin 2048) :
    aV vv w (ix4 0 h d i) = ∑ j : Fin 2048, (vv (ix4 0 j h d) : EReal) * w (ix4 0 h i j) := by
  unfold aV; pointwise

theorem oV_apply (a : FVec Ideal S1x64x128x2048 .f32) (wo : FVec Ideal S8192x1024 .f32) (i : Fin 2048) (o : Fin 1024) :
    oV a wo (ix2 i o) = ∑ n : Fin 8192, (a (ix4 0 ⟨n.val / 128, by omega⟩ ⟨n.val % 128, by omega⟩ i) : EReal) * wo (ix2 n o) := by
  unfold oV; pointwise

/-- The quotient by sixty-four, rounded down as the program does it. -/
theorem word_div : ∀ i : Fin 2048, Scalar.select
      (IntOp.andi
        (IntOp.cmpi .ne (if BitVec.ofNat 32 i.val = 0 then 0 else if (BitVec.ofNat 32 i.val).msb = true then -1 else 1)
          (if (64#32 : BitVec 32) = 0 then (0 : BitVec 32) else if (64#32 : BitVec 32).msb = true then -1 else 1))
        (IntOp.cmpi .ne (IntOp.remsi .host (BitVec.ofNat 32 i.val) 64#32) 0#32))
      (IntOp.subi (IntOp.divsi .host (BitVec.ofNat 32 i.val) 64#32) 1#32)
      (IntOp.divsi .host (BitVec.ofNat 32 i.val) 64#32) = BitVec.ofNat 32 (i.val / 64) := by decide +kernel

/-- The remainder by four, with the sign the program gives it. -/
theorem word_mod : ∀ b : Fin 32, Scalar.select
      (IntOp.andi
        (IntOp.cmpi .ne (IntOp.cmpi .slt (IntOp.remsi .host (BitVec.ofNat 32 b.val) 4#32) 0#32) (IntOp.cmpi .slt 4#32 0#32))
        (IntOp.cmpi .ne (IntOp.remsi .host (BitVec.ofNat 32 b.val) 4#32) 0#32))
      (IntOp.addi (IntOp.remsi .host (BitVec.ofNat 32 b.val) 4#32) 4#32)
      (IntOp.remsi .host (BitVec.ofNat 32 b.val) 4#32) = BitVec.ofNat 32 (b.val % 4) := by decide +kernel

theorem blk_apply (i : Fin 2048) : blk (ix1 i) = BitVec.ofNat 32 (i.val / 64) := by
  unfold blk; pointwise
  exact word_div i

theorem clsR_apply (i : Fin 2048) : clsR (ix2 0 i) = BitVec.ofNat 32 (i.val / 64 % 4) := by
  unfold clsR; pointwise
  rw [blk_apply]
  exact word_mod ⟨i.val / 64, by omega⟩

theorem clsC_apply (i : Fin 2048) : clsC (ix2 i 0) = BitVec.ofNat 32 (i.val / 64 % 4) := by
  unfold clsC; pointwise
  rw [blk_apply]
  exact word_mod ⟨i.val / 64, by omega⟩

theorem bits : ∀ a b : Fin 32, IntOp.ori (IntOp.cmpi .eq (BitVec.ofNat 32 a.val) (BitVec.ofNat 32 b.val)) (IntOp.cmpi .eq (BitVec.ofNat 32 (b.val % 4)) (BitVec.ofNat 32 (a.val % 4))) = 1#1 ↔ b.val % 4 = a.val % 4 := by decide +kernel

theorem seen_apply (i j : Fin 2048) : seen (ix2 i j) = 1#1 ↔ j.val / 64 % 4 = i.val / 64 % 4 := by
  unfold seen; pointwise
  rw [blk_apply, blk_apply, clsR_apply, clsC_apply]
  exact bits ⟨i.val / 64, by omega⟩ ⟨j.val / 64, by omega⟩

theorem kept_apply (i : Fin 2048) : kept (ix1 i) = 1#1 := by
  unfold kept; pointwise
  exact (Idealize.ShloMosaic.Routing.fold_ori _ _).2 ⟨i, Finset.mem_univ _, (seen_apply i i).2 rfl⟩

/-- The mask's value is minus infinity. -/
theorem low_eq : Ideal.ofBits .f32 0xFF800000#32 = (⊥ : EReal) := by simp [Ideal.ofBits, Ideal.ieee]

/-- Attention of one query over all keys, where its scores are real, is attention over its class. -/
theorem ref_row (s : FVec Ideal S1x64x2048x2048 .f32) (vv : FVec Ideal S1x2048x64x128 .f32) (h : Fin 64) (i : Fin 2048) (d : Fin 128)
    (hs : ∀ j, ∃ r : ℝ, (s (ix4 0 h i j) : EReal) = (r : EReal)) :
    aV vv (wV (exV s) (dV (exV s))) (ix4 0 h d i)
      = (∑ j : Fin 512, Ideal.exp (s (ix4 0 h i (pos (i.val / 64 % 4) j)) : EReal) * vv (ix4 0 (pos (i.val / 64 % 4) j) h d))
        * Ideal.div 1 (∑ j : Fin 512, Ideal.exp (s (ix4 0 h i (pos (i.val / 64 % 4) j)) : EReal)) := by
  choose r hr using hs
  have hm : ∀ j, (mV s (ix4 0 h i j) : EReal) = masked r (fun j : Fin 2048 => j.val / 64 % 4 = i.val / 64 % 4) j := by
    intro j
    rw [mV_apply]
    unfold masked
    by_cases hg : j.val / 64 % 4 = i.val / 64 % 4
    · rw [if_pos ((seen_apply i j).2 hg), if_pos hg, hr]
    · rw [if_neg fun q => hg ((seen_apply i j).1 q), if_neg hg, low_eq]
  obtain ⟨μ, hμ⟩ : ∃ μ : ℝ, (topV (mV s) (ix3 0 h i) : EReal) = (μ : EReal) := by
    rw [topV_apply, low_eq]
    refine fold_max_real Finset.univ _ (fun j _ => ?_) ⟨i, Finset.mem_univ _, ?_⟩
    · rw [hm]; unfold masked; split
      · exact EReal.coe_ne_top _
      · exact bot_ne_top
    · rw [hm]; unfold masked; rw [if_pos rfl]; exact EReal.coe_ne_bot _
  have he : ∀ j, (exV s (ix4 0 h i j) : EReal) = Ideal.exp (masked r (fun j : Fin 2048 => j.val / 64 % 4 = i.val / 64 % 4) j - (μ : EReal)) := by
    intro j
    unfold exV
    rw [eV_apply, hm, hμ]
  have hk := kept_apply i
  rw [aV_apply]
  have hw : ∀ j, (wV (exV s) (dV (exV s)) (ix4 0 h i j) : EReal)
      = Ideal.div (Ideal.exp (masked r (fun j : Fin 2048 => j.val / 64 % 4 = i.val / 64 % 4) j - (μ : EReal)))
        (∑ j, Ideal.exp (masked r (fun j : Fin 2048 => j.val / 64 % 4 = i.val / 64 % 4) j - (μ : EReal))) := by
    intro j
    rw [wV_apply _ _ _ _ _ hk, dV_apply _ _ _ hk, he]
    simp only [he]
  simp only [hw]
  rw [attn r (fun j : Fin 2048 => j.val / 64 % 4 = i.val / 64 % 4) μ ⟨i, rfl⟩ (fun j => (vv (ix4 0 j h d) : EReal))]
  have hg : i.val / 64 % 4 < 4 := Nat.mod_lt _ (by decide)
  rw [sum_class hg, sum_class hg]
  simp only [← hr]

end Cert.ReferenceIdeal.Stages

end

end
-- ==== Proof.Agree.lean ====
/-
# The two results are one

For finite inputs the kernel's result, the sum of the devices' partial results, is the reference's result.
-/
module

public import proofs.«01_k».proof.Proof.Device
public import proofs.«01_k».proof.Proof.Exchange
public import proofs.«01_k».proof.Proof.RefValue
public import proofs.«01_k».proof.Proof.Gen.Pre_finite_KernelIdeal
public import proofs.«01_k».proof.Pre_finite_KernelIdeal
public import Idealize.ShloMosaic.Lib.Layout
public import Idealize.ShloMosaic.Lib.ReduceAll

@[expose] public section

noncomputable section

namespace Cert.Value

open Idealize.ShloMosaic Idealize.ShloMosaic.TcCoe
open scoped BigOperators

/-! ## Finite numbers -/

/-- A number that is neither infinity. -/
def IsReal (x : EReal) : Prop := ∃ r : ℝ, x = (r : EReal)

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem fin_sum {ι : Type} (s : Finset ι) (f : ι → EReal) (h : ∀ i, IsReal (f i)) : IsReal (∑ i ∈ s, f i) := by
  choose r hr using h
  exact ⟨∑ i ∈ s, r i, by simp only [hr]; exact sum_coe s r⟩

theorem scl_fin : IsReal scl := by
  unfold scl Ideal.ofBits Ideal.ieee IsReal
  dsimp only
  rw [if_neg (by decide), if_neg (by decide)]
  exact ⟨_, rfl⟩

/-- What the precondition's comparison says of an entry. -/
theorem fin_of_lt {x : EReal} (h : Ideal.cmp .olt (max x (-x)) (Ideal.ofBits .f32 0x7F800000#32) = 1#1) : IsReal x := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

section
open Cert.Pre_finite_KernelIdeal

theorem fin_inputs (x : FVec Ideal S1x2048x1024 .f32) (wq : FVec Ideal S1024x1024 .f32) (kv vv : FVec Ideal S1x2048x64x128 .f32) (wo : FVec Ideal S1024x1024 .f32)
    (h : Cert.Pre_finite_KernelIdeal.fn (F := Ideal) x wq kv vv wo = fun _ => 1#1) :
    (∀ i, IsReal (x i)) ∧ (∀ i, IsReal (wq i)) ∧ ∀ i, IsReal (kv i) := by
  have e := congrFun h ix0
  dsimp only [Cert.Pre_finite_KernelIdeal.fn] at e
  obtain ⟨e1, e3⟩ := IntOp.andi_eq_one.1 e
  obtain ⟨e1, e2⟩ := IntOp.andi_eq_one.1 e1
  haveI : Subsingleton S_.Idx := ⟨fun a b => funext fun i => i.elim0⟩
  exact ⟨fun i => fin_of_lt (Host.reduce_andi_all _ _ _ _ _ e1 i), fun i => fin_of_lt (Host.reduce_andi_all _ _ _ _ _ e2 i),
    fun i => fin_of_lt (Host.reduce_andi_all _ _ _ _ _ e3 i)⟩
end

/-! ## The arrays whole and cut -/

section
open Cert.ReferenceIdeal Cert.ReferenceIdeal.Stages

/-- Column `n` of block `c`, among all columns. -/
def wide (c : Fin 8) (n : Fin 1024) : Fin 8192 := ⟨1024 * c.val + n.val, by omega⟩

theorem cut_cols (c : Fin 8) (w : (⟨2, ![1024, 8192]⟩ : Shape).Idx → EReal) (k n : Fin 1024) :
    Layout.block (⟨2, ![1024, 1024]⟩ : Shape) ⟨2, ![1024, 8192]⟩ 1 8 c w (by decide) (ix2 k n) = w (ix2 k (wide c n)) := by
  rw [Layout.block_apply]
  refine congrArg w (funext fun a => Fin.ext ?_)
  fin_cases a
  · rfl
  · show c.val * 1024 + n.val = 1024 * c.val + n.val
    omega

theorem cut_rows (c : Fin 8) (w : (⟨2, ![8192, 1024]⟩ : Shape).Idx → EReal) (n o : Fin 1024) :
    Layout.block (⟨2, ![1024, 1024]⟩ : Shape) ⟨2, ![8192, 1024]⟩ 0 8 c w (by decide) (ix2 n o) = w (ix2 (wide c n) o) := by
  rw [Layout.block_apply]
  refine congrArg w (funext fun a => Fin.ext ?_)
  fin_cases a
  · show c.val * 1024 + n.val = 1024 * c.val + n.val
    omega
  · rfl

variable (x : FVec Ideal S1x2048x1024 .f32) (wq : FVec Ideal S1024x8192 .f32) (kv vv : FVec Ideal S1x2048x64x128 .f32) (wo : FVec Ideal S8192x1024 .f32)

/-- The reference's result of the arrays. -/
def refOut : FVec Ideal S2048x1024 .bf16 := oV (aV vv (wV (exV (sV x wq kv)) (dV (exV (sV x wq kv))))) wo

theorem score_fin (hx : ∀ i, IsReal (x i)) (hw : ∀ i, IsReal (wq i)) (hk : ∀ i, IsReal (kv i)) (h : Fin 64) (i j : Fin 2048) : IsReal (sV x wq kv (ix4 0 h i j)) := by
  rw [sV_apply]
  refine fin_mul (fin_sum _ _ fun d => fin_mul ?_ (hk _)) scl_fin
  rw [qV_apply]
  exact fin_sum _ _ fun k => fin_mul (hx _) (hw _)

/-- A device's score is the reference's, of its head. -/
theorem score_eq (c : Fin 8) (wqc : FVec Ideal ⟨2, ![1024, 1024]⟩ .f32) (kc : FVec Ideal ⟨3, ![2048, 8, 128]⟩ .f32)
    (hw : ∀ k n, wqc (ix2 k n) = wq (ix2 k (wide c n))) (hk : ∀ j h d, kc (ix3 j h d) = kv (ix4 0 j (head c h) d)) (i : Fin 2048) (h : Fin 8) (j : Fin 2048) :
    lscore x wqc kc i h j = sV x wq kv (ix4 0 (head c h) i j) := by
  rw [sV_apply]
  unfold lscore scl
  congr 1
  refine Finset.sum_congr rfl fun d _ => ?_
  rw [hk, qV_apply]
  congr 1
  unfold qry
  refine Finset.sum_congr rfl fun k _ => ?_
  rw [hw]
  have e : wide c (col h d) = ⟨(head c h).val * 128 + d.val, by have := (head c h).isLt; omega⟩ :=
    Fin.ext (by show 1024 * c.val + (128 * h.val + d.val) = (8 * c.val + h.val) * 128 + d.val; omega)
  rw [e]

theorem whole_eq (hx : ∀ i, IsReal (x i)) (hwf : ∀ i, IsReal (wq i)) (hkf : ∀ i, IsReal (kv i))
    (wqc woc : Fin 8 → FVec Ideal ⟨2, ![1024, 1024]⟩ .f32) (kc vc : Fin 8 → FVec Ideal ⟨3, ![2048, 8, 128]⟩ .f32)
    (hw : ∀ c k n, wqc c (ix2 k n) = wq (ix2 k (wide c n))) (ho : ∀ c n o, woc c (ix2 n o) = wo (ix2 (wide c n) o))
    (hk : ∀ c j h d, kc c (ix3 j h d) = kv (ix4 0 j (head c h) d)) (hv : ∀ c j h d, vc c (ix3 j h d) = vv (ix4 0 j (head c h) d))
    (i : Fin 2048) (o : Fin 1024) :
    ∑ c : Fin 8, ∑ n : Fin 1024, lctx x (wqc c) (kc c) (vc c) i ⟨n.val / 128, by omega⟩ ⟨n.val % 128, by omega⟩ * woc c (ix2 n o)
      = refOut x wq kv vv wo (ix2 i o) := by
  unfold refOut
  rw [oV_apply, sum_blocks]
  refine Finset.sum_congr rfl fun c _ => Finset.sum_congr rfl fun n _ => ?_
  have hc := c.isLt
  have hn := n.isLt
  rw [ho]
  have eh : (⟨(wide c n).val / 128, by have := (wide c n).isLt; omega⟩ : Fin 64) = head c ⟨n.val / 128, by omega⟩ :=
    Fin.ext (by show (1024 * c.val + n.val) / 128 = 8 * c.val + n.val / 128; omega)
  have ed : (⟨(wide c n).val % 128, by omega⟩ : Fin 128) = ⟨n.val % 128, by omega⟩ :=
    Fin.ext (by show (1024 * c.val + n.val) % 128 = n.val % 128; omega)
  have er := ref_row (sV x wq kv) vv (head c ⟨n.val / 128, by omega⟩) i ⟨n.val % 128, by omega⟩ (fun j => score_fin x wq kv hx hwf hkf _ i j)
  refine congrArg (· * (wo (ix2 (wide c n) o) : EReal)) ?_
  refine Eq.trans ?_ (er.symm.trans ?_)
  · unfold lctx
    simp only [score_eq x wq kv c (wqc c) (kc c) (hw c) (hk c), hv]
  · rw [← eh, ← ed]
    rfl
end

/-! ## The kernel's result -/

open Cert.KernelIdeal Cert.Mesh Cert.Proto

theorem kernel_eq (m : (ℓ : Loc nD τ sig) → Buf (Elt Ideal) ℓ)
    (x : FVec Ideal S1x2048x1024 .f32) (wq : FVec Ideal ⟨2, ![1024, 8192]⟩ .f32) (kv vv : FVec Ideal S1x2048x64x128 .f32) (wo : FVec Ideal ⟨2, ![8192, 1024]⟩ .f32)
    (h0 : ∀ c : Dev nD, m ((c : Thread nD τ).loc main_arg0) = x)
    (h1 : ∀ c : Dev nD, m ((c : Thread nD τ).loc main_arg1) = Layout.block ⟨2, ![1024, 1024]⟩ ⟨2, ![1024, 8192]⟩ 1 8 c wq)
    (h2 : ∀ c : Dev nD, m ((c : Thread nD τ).loc main_arg2) = kv)
    (h3 : ∀ c : Dev nD, m ((c : Thread nD τ).loc main_arg3) = vv)
    (h4 : ∀ c : Dev nD, m ((c : Thread nD τ).loc main_arg4) = Layout.block ⟨2, ![1024, 1024]⟩ ⟨2, ![8192, 1024]⟩ 0 8 c wo)
    (hx : ∀ i, IsReal (x i)) (hk : ∀ i, IsReal (kv i)) (hw : ∀ (c : Dev nD) i, IsReal (wqOf (F := Ideal) m c i)) :
    res (F := Ideal) (Pm m) = refOut x wq kv vv wo := by
  have ew : ∀ (c : Fin 8) k n, wqOf (F := Ideal) m c (ix2 k n) = wq (ix2 k (wide c n)) := fun c k n =>
    (congrFun (h1 c) (ix2 k n)).trans (cut_cols c wq k n)
  have eo : ∀ (c : Fin 8) n o, woOf (F := Ideal) m c (ix2 n o) = wo (ix2 (wide c n) o) := fun c n o =>
    (congrFun (h4 c) (ix2 n o)).trans (cut_rows c wo n o)
  have ek : ∀ (c : Fin 8) j h d, kVal (F := Ideal) m c (ix3 j h d) = kv (ix4 0 j (head c h) d) := fun c j h d =>
    (kVal_apply m c j h d).trans (congrFun (h2 c) _)
  have ev : ∀ (c : Fin 8) j h d, vVal (F := Ideal) m c (ix3 j h d) = vv (ix4 0 j (head c h) d) := fun c j h d =>
    (vVal_apply m c j h d).trans (congrFun (h3 c) _)
  have hwf' : ∀ (k : Fin 1024) (n : Fin 8192), IsReal (wq (ix2 k n)) := by
    intro k n
    have hn := n.isLt
    have e : n = wide ⟨n.val / 1024, by omega⟩ ⟨n.val % 1024, Nat.mod_lt _ (by decide)⟩ := Fin.ext (Nat.div_add_mod n.val 1024).symm
    rw [e, ← ew]
    exact hw _ _
  have hwf : ∀ i, IsReal (wq i) := by
    intro i
    rw [eq_ix2 i]
    exact hwf' (i 0) (i 1)
  funext y
  rw [eq_ix2 y, res_sum]
  refine Eq.trans (Finset.sum_congr rfl fun c _ => Pm_apply m c _ _) ?_
  have ex : ∀ c : Dev nD, xOf (F := Ideal) m c = x := h0
  simp only [ex]
  exact whole_eq x wq kv vv wo hx hwf hk (fun c => wqOf m c) (fun c => woOf m c) (fun c => kVal m c) (fun c => vVal m c) ew eo ek ev (y 0) (y 1)

end Cert.Value

end

end
-- ==== Proof.lean ====
/-
# The certificate

The kernel runs on the eight devices without a fault, leaves its arguments as they were and every counter at zero; the reference
runs likewise; and for finite inputs every device ends with the reference's result.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The frame at any reading of the numbers. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.Proto.run_main (F := F) m ρ)

/-- The kernel's body table, printed once for either reading: the two are the same table. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rfl
  | ⟨n + 1, h⟩, _ => exact absurd h (Nat.not_lt.2 (Nat.le_add_left _ _))

theorem tables_same {F : FTy → Type} [FloatOps F] : Cert.Kernel.defs (F := F) = Cert.KernelIdeal.defs (F := F) :=
  congrArg (fun d => Pipeline.defs Cert.KernelIdeal.pcfgs d) (bodies_same (F := F))

theorem frame_kernel : Cert.quiescent_Kernel := fun m ρ _ => by
  have h := frame_any (F := Bits) m ρ
  rw [← tables_same] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ideal_finite : Cert.quiescent_KernelIdeal_pre_finite_KernelIdeal := fun m ρ _ => frame_any (F := Ideal) m ρ

theorem frame_reference_finite : Cert.quiescent_ReferenceIdeal_pre_finite_ReferenceIdeal := fun m ρ _ => frame_reference m ρ trivial

/-- Every device of the kernel ends with the reference's result. -/
theorem values_agree : Cert.algebraic_KernelIdeal_ReferenceIdeal_pre_finite_KernelIdeal := by
  intro m g m' g' hpre hargs
  refine ⟨Cert.ReferenceIdeal.Value.res_main_v41 m' 0, ?_, ?_⟩
  · refine (θ_run Cert.KernelIdeal.defs _ _).mono (fun r h c => ⟨(h.1 c).1.trans ?_, (h.1 c).2⟩) (Cert.Proto.run_main (F := Ideal) m g)
    have hf := fun c => Cert.Value.fin_inputs _ _ _ _ _ (hpre c)
    refine (Cert.Value.kernel_eq m _ _ _ _ _ (fun d => (hargs d).1) (fun d => (hargs d).2.1) (fun d => (hargs d).2.2.1) (fun d => (hargs d).2.2.2.1)
      (fun d => (hargs d).2.2.2.2) ?_ ?_ ?_).trans (Cert.ReferenceIdeal.Stages.result_eq m' 0).symm
    · intro i
      rw [← (hargs 0).1]
      exact (hf 0).1 i
    · intro i
      rw [← (hargs 0).2.2.1]
      exact (hf 0).2.2 i
    · intro d i
      exact (hf d).2.1 i
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_finite, frame_reference, frame_reference_finite, trivial, values_agree⟩

end Cert.Proof

end
